-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v13_0)) (v1 : (c : Dev Cert.AttnIdeal.nD) → Buf (Elt Ideal) ((c.tc : Thread Cert.AttnIdeal.nD Cert.AttnIdeal.τ).loc Cert.AttnIdeal.main_v13_1)) (v2 : (c : Dev Cert.AttnIdeal.nD) → Buf (Elt Ideal) ((c.tc : Thread Cert.AttnIdeal.nD Cert.AttnIdeal.τ).loc Cert.AttnIdeal.main_v13_2)) (v3 : (c : Dev Cert.AttnIdeal.nD) → Buf (Elt Ideal) ((c.tc : Thread Cert.AttnIdeal.nD Cert.AttnIdeal.τ).loc Cert.AttnIdeal.main_v13_3)) (v4 : (c : Dev Cert.AttnIdeal.nD) → Buf (Elt Ideal) ((c.tc : Thread Cert.AttnIdeal.nD Cert.AttnIdeal.τ).loc Cert.AttnIdeal.main_v13_4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v13_0) = v0 c
          ∧ r.2.mem ((c.tc : Thread Cert.AttnIdeal.nD Cert.AttnIdeal.τ).loc Cert.AttnIdeal.main_v13_1) = v1 c
          ∧ r.2.mem ((c.tc : Thread Cert.AttnIdeal.nD Cert.AttnIdeal.τ).loc Cert.AttnIdeal.main_v13_2) = v2 c
          ∧ r.2.mem ((c.tc : Thread Cert.AttnIdeal.nD Cert.AttnIdeal.τ).loc Cert.AttnIdeal.main_v13_3) = v3 c
          ∧ r.2.mem ((c.tc : Thread Cert.AttnIdeal.nD Cert.AttnIdeal.τ).loc Cert.AttnIdeal.main_v13_4) = v4 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v22) = v0 c
          ∧ r.2.mem ((c.tc : Thread Cert.AttnRefIdeal.nD Cert.AttnRefIdeal.τ).loc Cert.AttnRefIdeal.main_v23) = v1 c
          ∧ r.2.mem ((c.tc : Thread Cert.AttnRefIdeal.nD Cert.AttnRefIdeal.τ).loc Cert.AttnRefIdeal.main_v24) = v2 c
          ∧ r.2.mem ((c.tc : Thread Cert.AttnRefIdeal.nD Cert.AttnRefIdeal.τ).loc Cert.AttnRefIdeal.main_v25) = v3 c
          ∧ r.2.mem ((c.tc : Thread Cert.AttnRefIdeal.nD Cert.AttnRefIdeal.τ).loc Cert.AttnRefIdeal.main_v26) = v4 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)) →
    ∃ (v0 : (c : Dev Cert.MixIdeal.nD) → Buf (Elt Ideal) ((c.tc : Thread Cert.MixIdeal.nD Cert.MixIdeal.τ).loc Cert.MixIdeal.main_v4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v4) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v204) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10))

def Claim : Prop :=
  ∃ (hAttn : Cert.Attn.Facts) (hAttnIdeal : Cert.AttnIdeal.Facts) (hAttnRefIdeal : Cert.AttnRefIdeal.Facts) (hMix : Cert.Mix.Facts) (hMixIdeal : Cert.MixIdeal.Facts) (hMixRefIdeal : Cert.MixRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Mix (hMix := hMix)
    ∧ quiescent_MixIdeal (hMixIdeal := hMixIdeal)
    ∧ quiescent_MixRefIdeal (hMixRefIdeal := hMixRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Mix_MixIdeal
    ∧ algebraic_MixIdeal_MixRefIdeal (hMixIdeal := hMixIdeal) (hMixRefIdeal := hMixRefIdeal)
-- ==== Pre_finite.lean ====
abbrev S8x2048x512 : Shape := ⟨3, ![8, 2048, 512]⟩
abbrev S8x2048x128 : Shape := ⟨3, ![8, 2048, 128]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩

class Facts : Prop where
  bcast_S_S8x2048x512 : S_.BroadcastsInDim S8x2048x512 (![] : Fin 0 → Fin S8x2048x512.rank)
  bcast_S_S8x2048x128 : S_.BroadcastsInDim S8x2048x128 (![] : Fin 0 → Fin S8x2048x128.rank)

variable [Facts]

def fn {F : FTy → Type} [FloatOps F] (main_arg0 : FVec F S8x2048x512 .f32) (main_arg1 : FVec F S8x2048x128 .f32) (main_arg2 : FVec F S8x2048x128 .f32) (main_arg3 : FVec F S1024x1024 .f32) (main_arg4 : FVec F S1024x2816 .f32) (main_arg5 : FVec F S1024x2816 .f32) (main_arg6 : FVec F S2816x1024 .f32) : IVec S8x2048x512 1 × IVec S8x2048x128 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_v3 : FVec F S8x2048x128 .f32 := Host.absf main_arg1
  let main_cst_0 : FVec F S_ .f32 := constant S_ .f32 0x7F800000#32
  let main_v4 : FVec F S8x2048x128 .f32 := broadcastInDim S8x2048x128 ![] bcast_S_S8x2048x128 main_cst_0
  let main_v5 : IVec S8x2048x128 1 := cmpf .olt main_v3 main_v4
  (main_v2, main_v5)
-- ==== Attn.lean ====
abbrev S8x2048x512 : Shape := ⟨3, ![8, 2048, 512]⟩
abbrev S8x2048x128 : Shape := ⟨3, ![8, 2048, 128]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩
abbrev S8x2048x2x256 : Shape := ⟨4, ![8, 2048, 2, 256]⟩
abbrev S8x2x2048x256 : Shape := ⟨4, ![8, 2, 2048, 256]⟩
abbrev S8x2048x2x64 : Shape := ⟨4, ![8, 2048, 2, 64]⟩
abbrev S8x2x2048x64 : Shape := ⟨4, ![8, 2, 2048, 64]⟩
abbrev S8x2x2048x512 : Shape := ⟨4, ![8, 2, 2048, 512]⟩
abbrev S1x2x2048x512 : Shape := ⟨4, ![1, 2, 2048, 512]⟩
abbrev S1x1x256x256 : Shape := ⟨4, ![1, 1, 256, 256]⟩
abbrev S1x1x2048x128 : Shape := ⟨4, ![1, 1, 2048, 128]⟩
abbrev S128x1024 : Shape := ⟨2, ![128, 1024]⟩
abbrev S128x2816 : Shape := ⟨2, ![128, 2816]⟩
abbrev S352x1024 : Shape := ⟨2, ![352, 1024]⟩
abbrev S1x2x2048x256 : Shape := ⟨4, ![1, 2, 2048, 256]⟩
abbrev S512x2048 : Shape := ⟨2, ![512, 2048]⟩
abbrev S512x128 : Shape := ⟨2, ![512, 128]⟩
abbrev S128x128 : Shape := ⟨2, ![128, 128]⟩
abbrev S1x1x128x256 : Shape := ⟨4, ![1, 1, 128, 256]⟩
abbrev S128x256 : Shape := ⟨2, ![128, 256]⟩
abbrev S2048x128 : Shape := ⟨2, ![2048, 128]⟩
abbrev S512 : Shape := ⟨1, ![512]⟩
abbrev S512x1 : Shape := ⟨2, ![512, 1]⟩
abbrev S1x1x128x128 : Shape := ⟨4, ![1, 1, 128, 128]⟩

abbrev nBuf : Space → Nat
  | .hbm => 28
  | .vmem => 40
  | .smem => 0
  | _ => 0

abbrev bufTy : (tb : Table) → Fin (tcTables nBuf tb) → BufTy
  | .hbm, ⟨0, _⟩ => ⟨S8x2048x512, .f32⟩
  | .hbm, ⟨1, _⟩ => ⟨S8x2048x128, .f32⟩
  | .hbm, ⟨2, _⟩ => ⟨S8x2048x128, .f32⟩
  | .hbm, ⟨3, _⟩ => ⟨S1024x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x2048x512, .f32⟩
  | .hbm, ⟨12, _⟩ => ⟨S8x2048x512, .f32⟩
  | .hbm, ⟨13, _⟩ => ⟨S8x2048x2x256, .f32⟩
  | .hbm, ⟨14, _⟩ => ⟨S8x2x2048x256, .f32⟩
  | .hbm, ⟨15, _⟩ => ⟨S8x2048x2x64, .f32⟩
  | .hbm, ⟨16, _⟩ => ⟨S8x2x2048x64, .f32⟩
  | .hbm, ⟨17, _⟩ => ⟨S8x2048x2x64, .f32⟩
  | .hbm, ⟨18, _⟩ => ⟨S8x2x2048x64, .f32⟩
  | .hbm, ⟨19, _⟩ => ⟨S_, .f32⟩
  | .hbm, ⟨20, _⟩ => ⟨S8x2x2048x64, .f32⟩
  | .hbm, ⟨21, _⟩ => ⟨S8x2x2048x512, .f32⟩
  | .hbm, ⟨22, _⟩ => ⟨S8x2x2048x512, .bf16⟩
  | .hbm, ⟨23, _⟩ => ⟨S8x2x2048x256, .bf16⟩
  | .hbm, ⟨24, _⟩ => ⟨S1024x1024, .bf16⟩
  | .hbm, ⟨25, _⟩ => ⟨S1024x2816, .bf16⟩
  | .hbm, ⟨26, _⟩ => ⟨S1024x2816, .bf16⟩
  | .hbm, ⟨27, _⟩ => ⟨S2816x1024, .bf16⟩
  | .local _ .vmem, ⟨0, _⟩ => ⟨S1x2x2048x512, .bf16⟩
  | .local _ .vmem, ⟨1, _⟩ => ⟨S1x2x2048x512, .bf16⟩
  | .local _ .vmem, ⟨2, _⟩ => ⟨S1x1x256x256, .bf16⟩
  | .local _ .vmem, ⟨3, _⟩ => ⟨S1x1x256x256, .bf16⟩
  | .local _ .vmem, ⟨4, _⟩ => ⟨S1x1x2048x128, .bf16⟩
  | .local _ .vmem, ⟨5, _⟩ => ⟨S1x1x2048x128, .bf16⟩
  | .local _ .vmem, ⟨6, _⟩ => ⟨S128x1024, .f32⟩
  | .local _ .vmem, ⟨7, _⟩ => ⟨S128x1024, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S352x1024, .f32⟩
  | .local _ .vmem, ⟨13, _⟩ => ⟨S352x1024, .f32⟩
  | .local _ .vmem, ⟨14, _⟩ => ⟨S1x2x2048x256, .bf16⟩
  | .local _ .vmem, ⟨15, _⟩ => ⟨S1x2x2048x256, .bf16⟩
  | .local _ .vmem, ⟨16, _⟩ => ⟨S128x1024, .bf16⟩
  | .local _ .vmem, ⟨17, _⟩ => ⟨S128x1024, .bf16⟩
  | .local _ .vmem, ⟨18, _⟩ => ⟨S128x2816, .bf16⟩
  | .local _ .vmem, ⟨19, _⟩ => ⟨S128x2816, .bf16⟩
  | .local _ .vmem, ⟨20, _⟩ => ⟨S128x2816, .bf16⟩
  | .local _ .vmem, ⟨21, _⟩ => ⟨S128x2816, .bf16⟩
  | .local _ .vmem, ⟨22, _⟩ => ⟨S352x1024, .bf16⟩
  | .local _ .vmem, ⟨23, _⟩ => ⟨S352x1024, .bf16⟩
  | .local _ .vmem, ⟨24, _⟩ => ⟨S512x2048, .f32⟩
  | .local _ .vmem, ⟨25, _⟩ => ⟨S512x2048, .f32⟩
  | .local _ .vmem, ⟨26, _⟩ => ⟨S512x2048, .f32⟩
  | .local _ .vmem, ⟨27, _⟩ => ⟨S512x2048, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S512x128, .f32⟩
  | .local _ .vmem, ⟨33, _⟩ => ⟨S512x128, .f32⟩
  | .local _ .vmem, ⟨34, _⟩ => ⟨S512x128, .f32⟩
  | .local _ .vmem, ⟨35, _⟩ => ⟨S512x128, .f32⟩
  | .local _ .vmem, ⟨36, _⟩ => ⟨S512x128, .f32⟩
  | .local _ .vmem, ⟨37, _⟩ => ⟨S512x128, .f32⟩
  | .local _ .vmem, ⟨38, _⟩ => ⟨S512x128, .f32⟩
  | .local _ .vmem, ⟨39, _⟩ => ⟨S512x128, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v13_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_scratch9 : Ref sig .tc := ⟨.vmem, 33, rfl⟩
abbrev cc0_scratch10 : Ref sig .tc := ⟨.vmem, 34, rfl⟩
abbrev cc0_scratch11 : Ref sig .tc := ⟨.vmem, 35, rfl⟩
abbrev cc0_scratch12 : Ref sig .tc := ⟨.vmem, 36, rfl⟩
abbrev cc0_scratch13 : Ref sig .tc := ⟨.vmem, 37, rfl⟩
abbrev cc0_scratch14 : Ref sig .tc := ⟨.vmem, 38, rfl⟩
abbrev cc0_scratch15 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_mult1 : BitVec 32 :=
  let c0_i32_335 : BitVec 32 := 0#32
  c0_i32_335
def k0_mult2 : BitVec 32 :=
  let c128_i32 : BitVec 32 := 128#32
  c128_i32
def k0_mult3 : BitVec 32 :=
  let c256_i32 : BitVec 32 := 256#32
  c256_i32
@[reducible] def k0_t1_loop : Scf.Loop 32 :=
  let c0_i32_60 : BitVec 32 := 0#32
  let c7_i32 : BitVec 32 := 7#32
  let v183 : BitVec 32 := Scalar.addi c0_i32_60 c7_i32
  let c1_i32_61 : BitVec 32 := 1#32
  ⟨c0_i32_60, v183, c1_i32_61⟩
def k0_mult4 (k0_t1 : Fin k0_t1_loop.trips) : BitVec 32 :=
  let c1_i32_335 : BitVec 32 := 1#32
  let c0_i32_60 : BitVec 32 := 0#32
  let c1_i32_61 : BitVec 32 := 1#32
  let arg29 : BitVec 32 := Scf.iv c0_i32_60 c1_i32_61 k0_t1
  let c4_i32 : BitVec 32 := 4#32
  let v825 : BitVec 32 := Scalar.muli arg29 c4_i32
  let v826 : BitVec 32 := Scalar.addi c1_i32_335 v825
  let c0_i32_336 : BitVec 32 := 0#32
  let v827 : BitVec 32 := Scalar.addi v826 c0_i32_336
  let c1_i32_342 : BitVec 32 := 1#32
  let v836 : BitVec 32 := Scalar.subi v827 c1_i32_342
  let c16_i32_349 : BitVec 32 := 16#32
  let c0_i32_350 : BitVec 32 := 0#32
  let v854 : BitVec 1 := Scalar.cmpi .eq c16_i32_349 c0_i32_350
  let c1_i32_351 : BitVec 32 := 1#32
  let v855 : BitVec 32 := Scalar.select v854 c1_i32_351 c16_i32_349
  let v856 : BitVec 32 := Scalar.remsi v836 v855
  let c0_i32_353 : BitVec 32 := 0#32
  let v858 : BitVec 1 := Scalar.cmpi .slt v856 c0_i32_353
  let c0_i32_354 : BitVec 32 := 0#32
  let v859 : BitVec 1 := Scalar.cmpi .slt v855 c0_i32_354
  let v860 : BitVec 1 := Scalar.xori v858 v859
  let c0_i32_352 : BitVec 32 := 0#32
  let v857 : BitVec 1 := Scalar.cmpi .ne v856 c0_i32_352
  let v861 : BitVec 1 := Scalar.andi v860 v857
  let v862 : BitVec 32 := Scalar.addi v856 v855
  let v863 : BitVec 32 := Scalar.select v861 v862 v856
  let c128_i32 : BitVec 32 := 128#32
  let v864 : BitVec 32 := Scalar.muli v863 c128_i32
  v864
def k0_off1 (k0_t1 : Fin k0_t1_loop.trips) (c0_i32_336 : BitVec 32) : Fin 4 → Nat :=
  let c0_362 : Index := 0#32
  let c1_i32_335 : BitVec 32 := 1#32
  let c0_i32_60 : BitVec 32 := 0#32
  let c1_i32_61 : BitVec 32 := 1#32
  let arg29 : BitVec 32 := Scf.iv c0_i32_60 c1_i32_61 k0_t1
  let c4_i32 : BitVec 32 := 4#32
  let v825 : BitVec 32 := Scalar.muli arg29 c4_i32
  let v826 : BitVec 32 := Scalar.addi c1_i32_335 v825
  let v827 : BitVec 32 := Scalar.addi v826 c0_i32_336
  let c1_i32_342 : BitVec 32 := 1#32
  let v836 : BitVec 32 := Scalar.subi v827 c1_i32_342
  let c0_i32_343 : BitVec 32 := 0#32
  let v838 : BitVec 1 := Scalar.cmpi .sgt v836 c0_i32_343
  let v839 : BitVec 32 := Scalar.extui v838
  let c0_i32_344 : BitVec 32 := 0#32
  let v840 : BitVec 1 := Scalar.cmpi .slt v836 c0_i32_344
  let v841 : BitVec 32 := Scalar.extui v840
  let v842 : BitVec 32 := Scalar.subi v839 v841
  let c16_i32 : BitVec 32 := 16#32
  let c0_i32_345 : BitVec 32 := 0#32
  let v843 : BitVec 1 := Scalar.cmpi .sgt c16_i32 c0_i32_345
  let v844 : BitVec 32 := Scalar.extui v843
  let c0_i32_346 : BitVec 32 := 0#32
  let v845 : BitVec 1 := Scalar.cmpi .slt c16_i32 c0_i32_346
  let v846 : BitVec 32 := Scalar.extui v845
  let v847 : BitVec 32 := Scalar.subi v844 v846
  let v848 : BitVec 1 := Scalar.cmpi .ne v842 v847
  let v849 : BitVec 32 := Scalar.remsi v836 c16_i32
  let c0_i32_347 : BitVec 32 := 0#32
  let v850 : BitVec 1 := Scalar.cmpi .ne v849 c0_i32_347
  let v851 : BitVec 1 := Scalar.andi v848 v850
  let v837 : BitVec 32 := Scalar.divsi v836 c16_i32
  let c1_i32_348 : BitVec 32 := 1#32
  let v852 : BitVec 32 := Scalar.subi v837 c1_i32_348
  let v853 : BitVec 32 := Scalar.select v851 v852 v837
  let v876 : Index := Scalar.indexCast v853
  let c16_i32_349 : BitVec 32 := 16#32
  let c0_i32_350 : BitVec 32 := 0#32
  let v854 : BitVec 1 := Scalar.cmpi .eq c16_i32_349 c0_i32_350
  let c1_i32_351 : BitVec 32 := 1#32
  let v855 : BitVec 32 := Scalar.select v854 c1_i32_351 c16_i32_349
  let v856 : BitVec 32 := Scalar.remsi v836 v855
  let c0_i32_353 : BitVec 32 := 0#32
  let v858 : BitVec 1 := Scalar.cmpi .slt v856 c0_i32_353
  let c0_i32_354 : BitVec 32 := 0#32
  let v859 : BitVec 1 := Scalar.cmpi .slt v855 c0_i32_354
  let v860 : BitVec 1 := Scalar.xori v858 v859
  let c0_i32_352 : BitVec 32 := 0#32
  let v857 : BitVec 1 := Scalar.cmpi .ne v856 c0_i32_352
  let v861 : BitVec 1 := Scalar.andi v860 v857
  let v862 : BitVec 32 := Scalar.addi v856 v855
  let v863 : BitVec 32 := Scalar.select v861 v862 v856
  let c128_i32 : BitVec 32 := 128#32
  let v864 : BitVec 32 := Scalar.muli v863 c128_i32
  let v865 : BitVec 32 := v864
  let v877 : Index := Scalar.indexCast v865
  let c0_363 : Index := 0#32
  ![0, v876.toNat, v877.toNat, 0]
def k0_off2 (k0_t1 : Fin k0_t1_loop.trips) (c0_i32_336 : BitVec 32) : Fin 4 → Nat :=
  let c0_370 : Index := 0#32
  let c1_i32_335 : BitVec 32 := 1#32
  let c0_i32_60 : BitVec 32 := 0#32
  let c1_i32_61 : BitVec 32 := 1#32
  let arg29 : BitVec 32 := Scf.iv c0_i32_60 c1_i32_61 k0_t1
  let c4_i32 : BitVec 32 := 4#32
  let v825 : BitVec 32 := Scalar.muli arg29 c4_i32
  let v826 : BitVec 32 := Scalar.addi c1_i32_335 v825
  let v827 : BitVec 32 := Scalar.addi v826 c0_i32_336
  let c1_i32_342 : BitVec 32 := 1#32
  let v836 : BitVec 32 := Scalar.subi v827 c1_i32_342
  let c0_i32_343 : BitVec 32 := 0#32
  let v838 : BitVec 1 := Scalar.cmpi .sgt v836 c0_i32_343
  let v839 : BitVec 32 := Scalar.extui v838
  let c0_i32_344 : BitVec 32 := 0#32
  let v840 : BitVec 1 := Scalar.cmpi .slt v836 c0_i32_344
  let v841 : BitVec 32 := Scalar.extui v840
  let v842 : BitVec 32 := Scalar.subi v839 v841
  let c16_i32 : BitVec 32 := 16#32
  let c0_i32_345 : BitVec 32 := 0#32
  let v843 : BitVec 1 := Scalar.cmpi .sgt c16_i32 c0_i32_345
  let v844 : BitVec 32 := Scalar.extui v843
  let c0_i32_346 : BitVec 32 := 0#32
  let v845 : BitVec 1 := Scalar.cmpi .slt c16_i32 c0_i32_346
  let v846 : BitVec 32 := Scalar.extui v845
  let v847 : BitVec 32 := Scalar.subi v844 v846
  let v848 : BitVec 1 := Scalar.cmpi .ne v842 v847
  let v849 : BitVec 32 := Scalar.remsi v836 c16_i32
  let c0_i32_347 : BitVec 32 := 0#32
  let v850 : BitVec 1 := Scalar.cmpi .ne v849 c0_i32_347
  let v851 : BitVec 1 := Scalar.andi v848 v850
  let v837 : BitVec 32 := Scalar.divsi v836 c16_i32
  let c1_i32_348 : BitVec 32 := 1#32
  let v852 : BitVec 32 := Scalar.subi v837 c1_i32_348
  let v853 : BitVec 32 := Scalar.select v851 v852 v837
  let v889 : Index := Scalar.indexCast v853
  let c16_i32_349 : BitVec 32 := 16#32
  let c0_i32_350 : BitVec 32 := 0#32
  let v854 : BitVec 1 := Scalar.cmpi .eq c16_i32_349 c0_i32_350
  let c1_i32_351 : BitVec 32 := 1#32
  let v855 : BitVec 32 := Scalar.select v854 c1_i32_351 c16_i32_349
  let v856 : BitVec 32 := Scalar.remsi v836 v855
  let c0_i32_353 : BitVec 32 := 0#32
  let v858 : BitVec 1 := Scalar.cmpi .slt v856 c0_i32_353
  let c0_i32_354 : BitVec 32 := 0#32
  let v859 : BitVec 1 := Scalar.cmpi .slt v855 c0_i32_354
  let v860 : BitVec 1 := Scalar.xori v858 v859
  let c0_i32_352 : BitVec 32 := 0#32
  let v857 : BitVec 1 := Scalar.cmpi .ne v856 c0_i32_352
  let v861 : BitVec 1 := Scalar.andi v860 v857
  let v862 : BitVec 32 := Scalar.addi v856 v855
  let v863 : BitVec 32 := Scalar.select v861 v862 v856
  let c128_i32 : BitVec 32 := 128#32
  let v864 : BitVec 32 := Scalar.muli v863 c128_i32
  let v865 : BitVec 32 := v864
  let v890 : Index := Scalar.indexCast v865
  let c128_371 : Index := 128#32
  ![0, v889.toNat, v890.toNat, 128]
def k0_mult5 (k0_t1 : Fin k0_t1_loop.trips) : BitVec 32 :=
  let c1_i32_335 : BitVec 32 := 1#32
  let c0_i32_60 : BitVec 32 := 0#32
  let c1_i32_61 : BitVec 32 := 1#32
  let arg29 : BitVec 32 := Scf.iv c0_i32_60 c1_i32_61 k0_t1
  let c4_i32 : BitVec 32 := 4#32
  let v825 : BitVec 32 := Scalar.muli arg29 c4_i32
  let v826 : BitVec 32 := Scalar.addi c1_i32_335 v825
  let c0_i32_336 : BitVec 32 := 0#32
  let v827 : BitVec 32 := Scalar.addi v826 c0_i32_336
  let c2_i32 : BitVec 32 := 2#32
  let v894 : BitVec 32 := Scalar.addi v827 c2_i32
  let c16_i32_379 : BitVec 32 := 16#32
  let c0_i32_380 : BitVec 32 := 0#32
  let v912 : BitVec 1 := Scalar.cmpi .eq c16_i32_379 c0_i32_380
  let c1_i32_381 : BitVec 32 := 1#32
  let v913 : BitVec 32 := Scalar.select v912 c1_i32_381 c16_i32_379
  let v914 : BitVec 32 := Scalar.remsi v894 v913
  let c0_i32_383 : BitVec 32 := 0#32
  let v916 : BitVec 1 := Scalar.cmpi .slt v914 c0_i32_383
  let c0_i32_384 : BitVec 32 := 0#32
  let v917 : BitVec 1 := Scalar.cmpi .slt v913 c0_i32_384
  let v918 : BitVec 1 := Scalar.xori v916 v917
  let c0_i32_382 : BitVec 32 := 0#32
  let v915 : BitVec 1 := Scalar.cmpi .ne v914 c0_i32_382
  let v919 : BitVec 1 := Scalar.andi v918 v915
  let v920 : BitVec 32 := Scalar.addi v914 v913
  let v921 : BitVec 32 := Scalar.select v919 v920 v914
  let c128_i32_385 : BitVec 32 := 128#32
  let v922 : BitVec 32 := Scalar.muli v921 c128_i32_385
  v922
def k0_off3 (k0_t1 : Fin k0_t1_loop.trips) (c0_i32_336 : BitVec 32) : Fin 4 → Nat :=
  let c0_386 : Index := 0#32
  let c1_i32_335 : BitVec 32 := 1#32
  let c0_i32_60 : BitVec 32 := 0#32
  let c1_i32_61 : BitVec 32 := 1#32
  let arg29 : BitVec 32 := Scf.iv c0_i32_60 c1_i32_61 k0_t1
  let c4_i32 : BitVec 32 := 4#32
  let v825 : BitVec 32 := Scalar.muli arg29 c4_i32
  let v826 : BitVec 32 := Scalar.addi c1_i32_335 v825
  let v827 : BitVec 32 := Scalar.addi v826 c0_i32_336
  let c2_i32 : BitVec 32 := 2#32
  let v894 : BitVec 32 := Scalar.addi v827 c2_i32
  let c0_i32_373 : BitVec 32 := 0#32
  let v896 : BitVec 1 := Scalar.cmpi .sgt v894 c0_i32_373
  let v897 : BitVec 32 := Scalar.extui v896
  let c0_i32_374 : BitVec 32 := 0#32
  let v898 : BitVec 1 := Scalar.cmpi .slt v894 c0_i32_374
  let v899 : BitVec 32 := Scalar.extui v898
  let v900 : BitVec 32 := Scalar.subi v897 v899
  let c16_i32_372 : BitVec 32 := 16#32
  let c0_i32_375 : BitVec 32 := 0#32
  let v901 : BitVec 1 := Scalar.cmpi .sgt c16_i32_372 c0_i32_375
  let v902 : BitVec 32 := Scalar.extui v901
  let c0_i32_376 : BitVec 32 := 0#32
  let v903 : BitVec 1 := Scalar.cmpi .slt c16_i32_372 c0_i32_376
  let v904 : BitVec 32 := Scalar.extui v903
  let v905 : BitVec 32 := Scalar.subi v902 v904
  let v906 : BitVec 1 := Scalar.cmpi .ne v900 v905
  let v907 : BitVec 32 := Scalar.remsi v894 c16_i32_372
  let c0_i32_377 : BitVec 32 := 0#32
  let v908 : BitVec 1 := Scalar.cmpi .ne v907 c0_i32_377
  let v909 : BitVec 1 := Scalar.andi v906 v908
  let v895 : BitVec 32 := Scalar.divsi v894 c16_i32_372
  let c1_i32_378 : BitVec 32 := 1#32
  let v910 : BitVec 32 := Scalar.subi v895 c1_i32_378
  let v911 : BitVec 32 := Scalar.select v909 v910 v895
  let v924 : Index := Scalar.indexCast v911
  let c16_i32_379 : BitVec 32 := 16#32
  let c0_i32_380 : BitVec 32 := 0#32
  let v912 : BitVec 1 := Scalar.cmpi .eq c16_i32_379 c0_i32_380
  let c1_i32_381 : BitVec 32 := 1#32
  let v913 : BitVec 32 := Scalar.select v912 c1_i32_381 c16_i32_379
  let v914 : BitVec 32 := Scalar.remsi v894 v913
  let c0_i32_383 : BitVec 32 := 0#32
  let v916 : BitVec 1 := Scalar.cmpi .slt v914 c0_i32_383
  let c0_i32_384 : BitVec 32 := 0#32
  let v917 : BitVec 1 := Scalar.cmpi .slt v913 c0_i32_384
  let v918 : BitVec 1 := Scalar.xori v916 v917
  let c0_i32_382 : BitVec 32 := 0#32
  let v915 : BitVec 1 := Scalar.cmpi .ne v914 c0_i32_382
  let v919 : BitVec 1 := Scalar.andi v918 v915
  let v920 : BitVec 32 := Scalar.addi v914 v913
  let v921 : BitVec 32 := Scalar.select v919 v920 v914
  let c128_i32_385 : BitVec 32 := 128#32
  let v922 : BitVec 32 := Scalar.muli v921 c128_i32_385
  let v923 : BitVec 32 := v922
  let v925 : Index := Scalar.indexCast v923
  let c0_387 : Index := 0#32
  ![0, v924.toNat, v925.toNat, 0]
def k0_off4 (k0_t1 : Fin k0_t1_loop.trips) (c0_i32_336 : BitVec 32) : Fin 4 → Nat :=
  let c0_388 : Index := 0#32
  let c1_i32_335 : BitVec 32 := 1#32
  let c0_i32_60 : BitVec 32 := 0#32
  let c1_i32_61 : BitVec 32 := 1#32
  let arg29 : BitVec 32 := Scf.iv c0_i32_60 c1_i32_61 k0_t1
  let c4_i32 : BitVec 32 := 4#32
  let v825 : BitVec 32 := Scalar.muli arg29 c4_i32
  let v826 : BitVec 32 := Scalar.addi c1_i32_335 v825
  let v827 : BitVec 32 := Scalar.addi v826 c0_i32_336
  let c2_i32 : BitVec 32 := 2#32
  let v894 : BitVec 32 := Scalar.addi v827 c2_i32
  let c0_i32_373 : BitVec 32 := 0#32
  let v896 : BitVec 1 := Scalar.cmpi .sgt v894 c0_i32_373
  let v897 : BitVec 32 := Scalar.extui v896
  let c0_i32_374 : BitVec 32 := 0#32
  let v898 : BitVec 1 := Scalar.cmpi .slt v894 c0_i32_374
  let v899 : BitVec 32 := Scalar.extui v898
  let v900 : BitVec 32 := Scalar.subi v897 v899
  let c16_i32_372 : BitVec 32 := 16#32
  let c0_i32_375 : BitVec 32 := 0#32
  let v901 : BitVec 1 := Scalar.cmpi .sgt c16_i32_372 c0_i32_375
  let v902 : BitVec 32 := Scalar.extui v901
  let c0_i32_376 : BitVec 32 := 0#32
  let v903 : BitVec 1 := Scalar.cmpi .slt c16_i32_372 c0_i32_376
  let v904 : BitVec 32 := Scalar.extui v903
  let v905 : BitVec 32 := Scalar.subi v902 v904
  let v906 : BitVec 1 := Scalar.cmpi .ne v900 v905
  let v907 : BitVec 32 := Scalar.remsi v894 c16_i32_372
  let c0_i32_377 : BitVec 32 := 0#32
  let v908 : BitVec 1 := Scalar.cmpi .ne v907 c0_i32_377
  let v909 : BitVec 1 := Scalar.andi v906 v908
  let v895 : BitVec 32 := Scalar.divsi v894 c16_i32_372
  let c1_i32_378 : BitVec 32 := 1#32
  let v910 : BitVec 32 := Scalar.subi v895 c1_i32_378
  let v911 : BitVec 32 := Scalar.select v909 v910 v895
  let v928 : Index := Scalar.indexCast v911
  let c0_389 : Index := 0#32
  let c256_390 : Index := 256#32
  ![0, v928.toNat, 0, 256]
def k0_off5 (k0_t1 : Fin k0_t1_loop.trips) (c0_i32_336 : BitVec 32) : Fin 4 → Nat :=
  let c0_440 : Index := 0#32
  let c1_i32_335 : BitVec 32 := 1#32
  let c0_i32_60 : BitVec 32 := 0#32
  let c1_i32_61 : BitVec 32 := 1#32
  let arg29 : BitVec 32 := Scf.iv c0_i32_60 c1_i32_61 k0_t1
  let c4_i32 : BitVec 32 := 4#32
  let v825 : BitVec 32 := Scalar.muli arg29 c4_i32
  let v826 : BitVec 32 := Scalar.addi c1_i32_335 v825
  let v827 : BitVec 32 := Scalar.addi v826 c0_i32_336
  let c0_i32_430 : BitVec 32 := 0#32
  let v1082 : BitVec 1 := Scalar.cmpi .sgt v827 c0_i32_430
  let v1083 : BitVec 32 := Scalar.extui v1082
  let c0_i32_431 : BitVec 32 := 0#32
  let v1084 : BitVec 1 := Scalar.cmpi .slt v827 c0_i32_431
  let v1085 : BitVec 32 := Scalar.extui v1084
  let v1086 : BitVec 32 := Scalar.subi v1083 v1085
  let c16_i32_429 : BitVec 32 := 16#32
  let c0_i32_432 : BitVec 32 := 0#32
  let v1087 : BitVec 1 := Scalar.cmpi .sgt c16_i32_429 c0_i32_432
  let v1088 : BitVec 32 := Scalar.extui v1087
  let c0_i32_433 : BitVec 32 := 0#32
  let v1089 : BitVec 1 := Scalar.cmpi .slt c16_i32_429 c0_i32_433
  let v1090 : BitVec 32 := Scalar.extui v1089
  let v1091 : BitVec 32 := Scalar.subi v1088 v1090
  let v1092 : BitVec 1 := Scalar.cmpi .ne v1086 v1091
  let v1093 : BitVec 32 := Scalar.remsi v827 c16_i32_429
  let c0_i32_434 : BitVec 32 := 0#32
  let v1094 : BitVec 1 := Scalar.cmpi .ne v1093 c0_i32_434
  let v1095 : BitVec 1 := Scalar.andi v1092 v1094
  let v1081 : BitVec 32 := Scalar.divsi v827 c16_i32_429
  let c1_i32_435 : BitVec 32 := 1#32
  let v1096 : BitVec 32 := Scalar.subi v1081 c1_i32_435
  let v1097 : BitVec 32 := Scalar.select v1095 v1096 v1081
  let v1104 : Index := Scalar.indexCast v1097
  let c0_441 : Index := 0#32
  let c384_442 : Index := 384#32
  ![0, v1104.toNat, 0, 384]
def k0_mult6 (k0_t1 : Fin k0_t1_loop.trips) : BitVec 32 :=
  let c1_i32_447 : BitVec 32 := 1#32
  let c0_i32_60 : BitVec 32 := 0#32
  let c1_i32_61 : BitVec 32 := 1#32
  let arg29 : BitVec 32 := Scf.iv c0_i32_60 c1_i32_61 k0_t1
  let c4_i32_446 : BitVec 32 := 4#32
  let v1111 : BitVec 32 := Scalar.muli arg29 c4_i32_446
  let v1112 : BitVec 32 := Scalar.addi c1_i32_447 v1111
  let c1_i32_448 : BitVec 32 := 1#32
  let v1113 : BitVec 32 := Scalar.addi v1112 c1_i32_448
  let c1_i32_454 : BitVec 32 := 1#32
  let v1122 : BitVec 32 := Scalar.subi v1113 c1_i32_454
  let c16_i32_462 : BitVec 32 := 16#32
  let c0_i32_463 : BitVec 32 := 0#32
  let v1140 : BitVec 1 := Scalar.cmpi .eq c16_i32_462 c0_i32_463
  let c1_i32_464 : BitVec 32 := 1#32
  let v1141 : BitVec 32 := Scalar.select v1140 c1_i32_464 c16_i32_462
  let v1142 : BitVec 32 := Scalar.remsi v1122 v1141
  let c0_i32_466 : BitVec 32 := 0#32
  let v1144 : BitVec 1 := Scalar.cmpi .slt v1142 c0_i32_466
  let c0_i32_467 : BitVec 32 := 0#32
  let v1145 : BitVec 1 := Scalar.cmpi .slt v1141 c0_i32_467
  let v1146 : BitVec 1 := Scalar.xori v1144 v1145
  let c0_i32_465 : BitVec 32 := 0#32
  let v1143 : BitVec 1 := Scalar.cmpi .ne v1142 c0_i32_465
  let v1147 : BitVec 1 := Scalar.andi v1146 v1143
  let v1148 : BitVec 32 := Scalar.addi v1142 v1141
  let v1149 : BitVec 32 := Scalar.select v1147 v1148 v1142
  let c128_i32_468 : BitVec 32 := 128#32
  let v1150 : BitVec 32 := Scalar.muli v1149 c128_i32_468
  v1150
def k0_mult7 (k0_t1 : Fin k0_t1_loop.trips) : BitVec 32 :=
  let c1_i32_447 : BitVec 32 := 1#32
  let c0_i32_60 : BitVec 32 := 0#32
  let c1_i32_61 : BitVec 32 := 1#32
  let arg29 : BitVec 32 := Scf.iv c0_i32_60 c1_i32_61 k0_t1
  let c4_i32_446 : BitVec 32 := 4#32
  let v1111 : BitVec 32 := Scalar.muli arg29 c4_i32_446
  let v1112 : BitVec 32 := Scalar.addi c1_i32_447 v1111
  let c1_i32_448 : BitVec 32 := 1#32
  let v1113 : BitVec 32 := Scalar.addi v1112 c1_i32_448
  let c2_i32_486 : BitVec 32 := 2#32
  let v1180 : BitVec 32 := Scalar.addi v1113 c2_i32_486
  let c16_i32_494 : BitVec 32 := 16#32
  let c0_i32_495 : BitVec 32 := 0#32
  let v1198 : BitVec 1 := Scalar.cmpi .eq c16_i32_494 c0_i32_495
  let c1_i32_496 : BitVec 32 := 1#32
  let v1199 : BitVec 32 := Scalar.select v1198 c1_i32_496 c16_i32_494
  let v1200 : BitVec 32 := Scalar.remsi v1180 v1199
  let c0_i32_498 : BitVec 32 := 0#32
  let v1202 : BitVec 1 := Scalar.cmpi .slt v1200 c0_i32_498
  let c0_i32_499 : BitVec 32 := 0#32
  let v1203 : BitVec 1 := Scalar.cmpi .slt v1199 c0_i32_499
  let v1204 : BitVec 1 := Scalar.xori v1202 v1203
  let c0_i32_497 : BitVec 32 := 0#32
  let v1201 : BitVec 1 := Scalar.cmpi .ne v1200 c0_i32_497
  let v1205 : BitVec 1 := Scalar.andi v1204 v1201
  let v1206 : BitVec 32 := Scalar.addi v1200 v1199
  let v1207 : BitVec 32 := Scalar.select v1205 v1206 v1200
  let c128_i32_500 : BitVec 32 := 128#32
  let v1208 : BitVec 32 := Scalar.muli v1207 c128_i32_500
  v1208
def k0_mult8 (k0_t1 : Fin k0_t1_loop.trips) : BitVec 32 :=
  let c1_i32_562 : BitVec 32 := 1#32
  let c0_i32_60 : BitVec 32 := 0#32
  let c1_i32_61 : BitVec 32 := 1#32
  let arg29 : BitVec 32 := Scf.iv c0_i32_60 c1_i32_61 k0_t1
  let c4_i32_561 : BitVec 32 := 4#32
  let v1397 : BitVec 32 := Scalar.muli arg29 c4_i32_561
  let v1398 : BitVec 32 := Scalar.addi c1_i32_562 v1397
  let c2_i32_563 : BitVec 32 := 2#32
  let v1399 : BitVec 32 := Scalar.addi v1398 c2_i32_563
  let c1_i32_569 : BitVec 32 := 1#32
  let v1408 : BitVec 32 := Scalar.subi v1399 c1_i32_569
  let c16_i32_577 : BitVec 32 := 16#32
  let c0_i32_578 : BitVec 32 := 0#32
  let v1426 : BitVec 1 := Scalar.cmpi .eq c16_i32_577 c0_i32_578
  let c1_i32_579 : BitVec 32 := 1#32
  let v1427 : BitVec 32 := Scalar.select v1426 c1_i32_579 c16_i32_577
  let v1428 : BitVec 32 := Scalar.remsi v1408 v1427
  let c0_i32_581 : BitVec 32 := 0#32
  let v1430 : BitVec 1 := Scalar.cmpi .slt v1428 c0_i32_581
  let c0_i32_582 : BitVec 32 := 0#32
  let v1431 : BitVec 1 := Scalar.cmpi .slt v1427 c0_i32_582
  let v1432 : BitVec 1 := Scalar.xori v1430 v1431
  let c0_i32_580 : BitVec 32 := 0#32
  let v1429 : BitVec 1 := Scalar.cmpi .ne v1428 c0_i32_580
  let v1433 : BitVec 1 := Scalar.andi v1432 v1429
  let v1434 : BitVec 32 := Scalar.addi v1428 v1427
  let v1435 : BitVec 32 := Scalar.select v1433 v1434 v1428
  let c128_i32_583 : BitVec 32 := 128#32
  let v1436 : BitVec 32 := Scalar.muli v1435 c128_i32_583
  v1436
def k0_mult9 (k0_t1 : Fin k0_t1_loop.trips) : BitVec 32 :=
  let c1_i32_562 : BitVec 32 := 1#32
  let c0_i32_60 : BitVec 32 := 0#32
  let c1_i32_61 : BitVec 32 := 1#32
  let arg29 : BitVec 32 := Scf.iv c0_i32_60 c1_i32_61 k0_t1
  let c4_i32_561 : BitVec 32 := 4#32
  let v1397 : BitVec 32 := Scalar.muli arg29 c4_i32_561
  let v1398 : BitVec 32 := Scalar.addi c1_i32_562 v1397
  let c2_i32_563 : BitVec 32 := 2#32
  let v1399 : BitVec 32 := Scalar.addi v1398 c2_i32_563
  let c2_i32_601 : BitVec 32 := 2#32
  let v1466 : BitVec 32 := Scalar.addi v1399 c2_i32_601
  let c16_i32_609 : BitVec 32 := 16#32
  let c0_i32_610 : BitVec 32 := 0#32
  let v1484 : BitVec 1 := Scalar.cmpi .eq c16_i32_609 c0_i32_610
  let c1_i32_611 : BitVec 32 := 1#32
  let v1485 : BitVec 32 := Scalar.select v1484 c1_i32_611 c16_i32_609
  let v1486 : BitVec 32 := Scalar.remsi v1466 v1485
  let c0_i32_613 : BitVec 32 := 0#32
  let v1488 : BitVec 1 := Scalar.cmpi .slt v1486 c0_i32_613
  let c0_i32_614 : BitVec 32 := 0#32
  let v1489 : BitVec 1 := Scalar.cmpi .slt v1485 c0_i32_614
  let v1490 : BitVec 1 := Scalar.xori v1488 v1489
  let c0_i32_612 : BitVec 32 := 0#32
  let v1487 : BitVec 1 := Scalar.cmpi .ne v1486 c0_i32_612
  let v1491 : BitVec 1 := Scalar.andi v1490 v1487
  let v1492 : BitVec 32 := Scalar.addi v1486 v1485
  let v1493 : BitVec 32 := Scalar.select v1491 v1492 v1486
  let c128_i32_615 : BitVec 32 := 128#32
  let v1494 : BitVec 32 := Scalar.muli v1493 c128_i32_615
  v1494
def k0_mult10 (k0_t1 : Fin k0_t1_loop.trips) : BitVec 32 :=
  let c1_i32_677 : BitVec 32 := 1#32
  let c0_i32_60 : BitVec 32 := 0#32
  let c1_i32_61 : BitVec 32 := 1#32
  let arg29 : BitVec 32 := Scf.iv c0_i32_60 c1_i32_61 k0_t1
  let c4_i32_676 : BitVec 32 := 4#32
  let v1683 : BitVec 32 := Scalar.muli arg29 c4_i32_676
  let v1684 : BitVec 32 := Scalar.addi c1_i32_677 v1683
  let c3_i32 : BitVec 32 := 3#32
  let v1685 : BitVec 32 := Scalar.addi v1684 c3_i32
  let c1_i32_683 : BitVec 32 := 1#32
  let v1694 : BitVec 32 := Scalar.subi v1685 c1_i32_683
  let c16_i32_691 : BitVec 32 := 16#32
  let c0_i32_692 : BitVec 32 := 0#32
  let v1712 : BitVec 1 := Scalar.cmpi .eq c16_i32_691 c0_i32_692
  let c1_i32_693 : BitVec 32 := 1#32
  let v1713 : BitVec 32 := Scalar.select v1712 c1_i32_693 c16_i32_691
  let v1714 : BitVec 32 := Scalar.remsi v1694 v1713
  let c0_i32_695 : BitVec 32 := 0#32
  let v1716 : BitVec 1 := Scalar.cmpi .slt v1714 c0_i32_695
  let c0_i32_696 : BitVec 32 := 0#32
  let v1717 : BitVec 1 := Scalar.cmpi .slt v1713 c0_i32_696
  let v1718 : BitVec 1 := Scalar.xori v1716 v1717
  let c0_i32_694 : BitVec 32 := 0#32
  let v1715 : BitVec 1 := Scalar.cmpi .ne v1714 c0_i32_694
  let v1719 : BitVec 1 := Scalar.andi v1718 v1715
  let v1720 : BitVec 32 := Scalar.addi v1714 v1713
  let v1721 : BitVec 32 := Scalar.select v1719 v1720 v1714
  let c128_i32_697 : BitVec 32 := 128#32
  let v1722 : BitVec 32 := Scalar.muli v1721 c128_i32_697
  v1722
def k0_mult11 (k0_t1 : Fin k0_t1_loop.trips) : BitVec 32 :=
  let c1_i32_677 : BitVec 32 := 1#32
  let c0_i32_60 : BitVec 32 := 0#32
  let c1_i32_61 : BitVec 32 := 1#32
  let arg29 : BitVec 32 := Scf.iv c0_i32_60 c1_i32_61 k0_t1
  let c4_i32_676 : BitVec 32 := 4#32
  let v1683 : BitVec 32 := Scalar.muli arg29 c4_i32_676
  let v1684 : BitVec 32 := Scalar.addi c1_i32_677 v1683
  let c3_i32 : BitVec 32 := 3#32
  let v1685 : BitVec 32 := Scalar.addi v1684 c3_i32
  let c2_i32_715 : BitVec 32 := 2#32
  let v1752 : BitVec 32 := Scalar.addi v1685 c2_i32_715
  let c16_i32_723 : BitVec 32 := 16#32
  let c0_i32_724 : BitVec 32 := 0#32
  let v1770 : BitVec 1 := Scalar.cmpi .eq c16_i32_723 c0_i32_724
  let c1_i32_725 : BitVec 32 := 1#32
  let v1771 : BitVec 32 := Scalar.select v1770 c1_i32_725 c16_i32_723
  let v1772 : BitVec 32 := Scalar.remsi v1752 v1771
  let c0_i32_727 : BitVec 32 := 0#32
  let v1774 : BitVec 1 := Scalar.cmpi .slt v1772 c0_i32_727
  let c0_i32_728 : BitVec 32 := 0#32
  let v1775 : BitVec 1 := Scalar.cmpi .slt v1771 c0_i32_728
  let v1776 : BitVec 1 := Scalar.xori v1774 v1775
  let c0_i32_726 : BitVec 32 := 0#32
  let v1773 : BitVec 1 := Scalar.cmpi .ne v1772 c0_i32_726
  let v1777 : BitVec 1 := Scalar.andi v1776 v1773
  let v1778 : BitVec 32 := Scalar.addi v1772 v1771
  let v1779 : BitVec 32 := Scalar.select v1777 v1778 v1772
  let c128_i32_729 : BitVec 32 := 128#32
  let v1780 : BitVec 32 := Scalar.muli v1779 c128_i32_729
  v1780
def k0_mult12 : BitVec 32 :=
  let c1536_i32 : BitVec 32 := 1536#32
  c1536_i32
def k0_mult13 : BitVec 32 :=
  let c1920_i32 : BitVec 32 := 1920#32
  c1920_i32
def k0_mult14 : BitVec 32 :=
  let c1664_i32 : BitVec 32 := 1664#32
  c1664_i32
def k0_mult15 : BitVec 32 :=
  let c1792_i32 : BitVec 32 := 1792#32
  c1792_i32
def k0_mult16 : BitVec 32 :=
  let c1920_i32_315 : BitVec 32 := 1920#32
  c1920_i32_315
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c1_i32 : BitVec 32 := 1#32
  let v0 : BitVec 32 := Scalar.addi arg0 c1_i32
  let c7_i32 : BitVec 32 := 7#32
  let v1 : BitVec 32 := Scalar.minsi v0 c7_i32
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 4 → Nat :=
  let arg0 : BitVec 32 := BitVec.ofNat 32 (i 0).val
  let c1_i32 : BitVec 32 := 1#32
  let v0 : BitVec 32 := Scalar.addi arg0 c1_i32
  let c7_i32 : BitVec 32 := 7#32
  let v1 : BitVec 32 := Scalar.minsi v0 c7_i32
  let c0_i32 : BitVec 32 := 0#32
  let c0_i32_0 : BitVec 32 := 0#32
  let c2_i32 : BitVec 32 := 2#32
  let c0_i32_1 : BitVec 32 := 0#32
  ![v1.toNat, c0_i32.toNat, c0_i32_0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S352x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AttnRefIdeal.lean ====
abbrev S8x2048x512 : Shape := ⟨3, ![8, 2048, 512]⟩
abbrev S8x2048x128 : Shape := ⟨3, ![8, 2048, 128]⟩
abbrev S1024x1024 : Shape := ⟨2, ![1024, 1024]⟩
abbrev S1024x2816 : Shape := ⟨2, ![1024, 2816]⟩
abbrev S2816x1024 : Shape := ⟨2, ![2816, 1024]⟩
abbrev S8x2048x2x4x64 : Shape := ⟨5, ![8, 2048, 2, 4, 64]⟩
abbrev S8x2048x2x64 : Shape := ⟨4, ![8, 2048, 2, 64]⟩
abbrev S8x2x2048x2048x4 : Shape := ⟨5, ![8, 2, 2048, 2048, 4]⟩
abbrev S8x2x4x2048x2048 : Shape := ⟨5, ![8, 2, 4, 2048, 2048]⟩
abbrev S_ : Shape := ⟨0, ![]⟩
abbrev S8x2x4x2048 : Shape := ⟨4, ![8, 2, 4, 2048]⟩
abbrev S8x2x4x2048x1 : Shape := ⟨5, ![8, 2, 4, 2048, 1]⟩
abbrev S8x2x64x4x2048 : Shape := ⟨5, ![8, 2, 64, 4, 2048]⟩
abbrev S8x2048x2x256 : Shape := ⟨4, ![8, 2048, 2, 256]⟩
abbrev S8x2x2048x256 : Shape := ⟨4, ![8, 2, 2048, 256]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x128, .f32⟩
  | .hbm, ⟨2, _⟩ => ⟨S8x2048x128, .f32⟩
  | .hbm, ⟨3, _⟩ => ⟨S1024x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S8x2048x2x4x64, .f32⟩
  | .hbm, ⟨8, _⟩ => ⟨S8x2048x2x64, .f32⟩
  | .hbm, ⟨9, _⟩ => ⟨S8x2048x2x64, .f32⟩
  | .hbm, ⟨10, _⟩ => ⟨S8x2x2048x2048x4, .f32⟩
  | .hbm, ⟨11, _⟩ => ⟨S8x2x4x2048x2048, .f32⟩
  | .hbm, ⟨12, _⟩ => ⟨S_, .f32⟩
  | .hbm, ⟨13, _⟩ => ⟨S8x2x4x2048x2048, .f32⟩
  | .hbm, ⟨14, _⟩ => ⟨S8x2x4x2048x2048, .f32⟩
  | .hbm, ⟨15, _⟩ => ⟨S_, .f32⟩
  | .hbm, ⟨16, _⟩ => ⟨S8x2x4x2048, .f32⟩
  | .hbm, ⟨17, _⟩ => ⟨S_, .f32⟩
  | .hbm, ⟨18, _⟩ => ⟨S8x2x4x2048, .f32⟩
  | .hbm, ⟨19, _⟩ => ⟨S8x2x4x2048, .f32⟩
  | .hbm, ⟨20, _⟩ => ⟨S8x2x4x2048x1, .f32⟩
  | .hbm, ⟨21, _⟩ => ⟨S8x2x4x2048x2048, .f32⟩
  | .hbm, ⟨22, _⟩ => ⟨S8x2x4x2048x2048, .f32⟩
  | .hbm, ⟨23, _⟩ => ⟨S8x2x4x2048x2048, .f32⟩
  | .hbm, ⟨24, _⟩ => ⟨S_, .f32⟩
  | .hbm, ⟨25, _⟩ => ⟨S8x2x4x2048, .f32⟩
  | .hbm, ⟨26, _⟩ => ⟨S8x2x4x2048x1, .f32⟩
  | .hbm, ⟨27, _⟩ => ⟨S8x2x4x2048x2048, .f32⟩
  | .hbm, ⟨28, _⟩ => ⟨S8x2x4x2048x2048, .f32⟩
  | .hbm, ⟨29, _⟩ => ⟨S8x2x64x4x2048, .f32⟩
  | .hbm, ⟨30, _⟩ => ⟨S8x2048x2x4x64, .f32⟩
  | .hbm, ⟨31, _⟩ => ⟨S8x2048x2x256, .f32⟩
  | .hbm, ⟨32, _⟩ => ⟨S8x2x2048x256, .f32⟩
  | .hbm, ⟨33, _⟩ => ⟨S8x2x2048x256, .bf16⟩
  | .hbm, ⟨34, _⟩ => ⟨S1024x1024, .bf16⟩
  | .hbm, ⟨35, _⟩ => ⟨S1024x2816, .bf16⟩
  | .hbm, ⟨36, _⟩ => ⟨S1024x2816, .bf16⟩
  | .hbm, ⟨37, _⟩ => ⟨S2816x1024, .bf16⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Mix.lean ====
abbrev S8x2048x1024 : Shape := ⟨3, ![8, 2048, 1024]⟩
abbrev S8x2x2048x256 : Shape := ⟨4, ![8, 2, 2048, 256]⟩
abbrev S16384x512 : Shape := ⟨2, ![16384, 512]⟩
abbrev S4x128x128 : Shape := ⟨3, ![4, 128, 128]⟩
abbrev S4x128 : Shape := ⟨2, ![4, 128]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S4x1x128 : Shape := ⟨3, ![4, 1, 128]⟩
abbrev S1x512 : Shape := ⟨2, ![1, 512]⟩
abbrev S1x1024 : Shape := ⟨2, ![1, 1024]⟩
abbrev S512x1024 : Shape := ⟨2, ![512, 1024]⟩
abbrev S1x2x512x256 : Shape := ⟨4, ![1, 2, 512, 256]⟩
abbrev S512x512 : Shape := ⟨2, ![512, 512]⟩
abbrev S8x512 : Shape := ⟨2, ![8, 512]⟩
abbrev S528x512 : Shape := ⟨2, ![528, 512]⟩
abbrev S3 : Shape := ⟨1, ![3]⟩
abbrev S1 : Shape := ⟨1, ![1]⟩
abbrev S_ : Shape := ⟨0, ![]⟩
abbrev S528x128 : Shape := ⟨2, ![528, 128]⟩
abbrev S512x128 : Shape := ⟨2, ![512, 128]⟩
abbrev S8x128 : Shape := ⟨2, ![8, 128]⟩
abbrev S496x128 : Shape := ⟨2, ![496, 128]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S1x1x512x256 : Shape := ⟨4, ![1, 1, 512, 256]⟩
abbrev S512x256 : Shape := ⟨2, ![512, 256]⟩
abbrev S512x1 : Shape := ⟨2, ![512, 1]⟩
abbrev S1024x512 : Shape := ⟨2, ![1024, 512]⟩
abbrev S1024x256 : Shape := ⟨2, ![1024, 256]⟩
abbrev S256x1024 : Shape := ⟨2, ![256, 1024]⟩

abbrev nBuf : Space → Nat
  | .hbm => 16
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S8x2x2048x256, .bf16⟩
  | .hbm, ⟨2, _⟩ => ⟨S16384x512, .f32⟩
  | .hbm, ⟨3, _⟩ => ⟨S4x128x128, .f32⟩
  | .hbm, ⟨4, _⟩ => ⟨S4x128, .f32⟩
  | .hbm, ⟨5, _⟩ => ⟨S512, .f32⟩
  | .hbm, ⟨6, _⟩ => ⟨S1024x1024, .bf16⟩
  | .hbm, ⟨7, _⟩ => ⟨S1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S16384x1024, .f32⟩
  | .hbm, ⟨12, _⟩ => ⟨S4x1x128, .f32⟩
  | .hbm, ⟨13, _⟩ => ⟨S1x512, .f32⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x2x512x256, .bf16⟩
  | .local _ .vmem, ⟨3, _⟩ => ⟨S1x2x512x256, .bf16⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S4x128x128, .f32⟩
  | .local _ .vmem, ⟨11, _⟩ => ⟨S4x1x128, .f32⟩
  | .local _ .vmem, ⟨12, _⟩ => ⟨S1x512, .f32⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S528x512, .f32⟩
  | .local _ .vmem, ⟨18, _⟩ => ⟨S512x512, .bf16⟩
  | .local _ .vmem, ⟨19, _⟩ => ⟨S512x1024, .f32⟩
  | .local _ .vmem, ⟨20, _⟩ => ⟨S512x1024, .bf16⟩
  | .local _ .vmem, ⟨21, _⟩ => ⟨S1024x2816, .bf16⟩
  | .local _ .vmem, ⟨22, _⟩ => ⟨S1024x2816, .bf16⟩
  | .local _ .vmem, ⟨23, _⟩ => ⟨S2816x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![33], ![false]⟩

def k0_cond3 (i : grid0.Coords) : BitVec 1 :=
  let arg0 : BitVec 32 := BitVec.ofNat 32 (i 0).val
  let c0_i32_7 : BitVec 32 := 0#32
  let v17 : BitVec 1 := Scalar.cmpi .sgt arg0 c0_i32_7
  let v18 : BitVec 32 := Scalar.extui v17
  let c0_i32_8 : BitVec 32 := 0#32
  let v19 : BitVec 1 := Scalar.cmpi .ne v18 c0_i32_8
  v19

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 4 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c31_i32_4 : BitVec 32 := 31#32
  let v18 : BitVec 32 := Scalar.minsi arg0 c31_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, v28.toNat, c0_i32_12.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.addi v0 c1_i32
  let c64_i32 : BitVec 32 := 64#32
  let v2 : BitVec 32 := Scalar.muli v1 c64_i32
  let c2047_i32 : BitVec 32 := 2047#32
  let v3 : BitVec 32 := Scalar.minsi v2 c2047_i32
  let c0_i32 : BitVec 32 := 0#32
  let c0_i32_0 : BitVec 32 := 0#32
  ![v3.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixRefIdeal.lean ====
abbrev S8x2048x1024 : Shape := ⟨3, ![8, 2048, 1024]⟩
abbrev S8x2x2048x256 : Shape := ⟨4, ![8, 2, 2048, 256]⟩
abbrev S16384x512 : Shape := ⟨2, ![16384, 512]⟩
abbrev S4x128x128 : Shape := ⟨3, ![4, 128, 128]⟩
abbrev S4x128 : Shape := ⟨2, ![4, 128]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8x2048x2x256 : Shape := ⟨4, ![8, 2048, 2, 256]⟩
abbrev S8x2048x512 : Shape := ⟨3, ![8, 2048, 512]⟩
abbrev S_ : Shape := ⟨0, ![]⟩
abbrev S8x2064x512 : Shape := ⟨3, ![8, 2064, 512]⟩
abbrev S2048 : Shape := ⟨1, ![2048]⟩
abbrev S1x2048x1 : Shape := ⟨3, ![1, 2048, 1]⟩
abbrev S8x2048x128 : Shape := ⟨3, ![8, 2048, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x1x128 : Shape := ⟨3, ![1, 1, 128]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S16384x1024 : Shape := ⟨2, ![16384, 1024]⟩

abbrev nBuf : Space → Nat
  | .hbm => 249
  | .vmem => 0
  | .smem => 0
  | _ => 0

abbrev hbmTy0_0 (i : Nat) : BufTy := match i % 128 with
  | 0 => ⟨S8x2048x1024, .f32⟩
  | 1 => ⟨S8x2x2048x256, .bf16⟩
  | 2 => ⟨S16384x512, .f32⟩
  | 3 => ⟨S4x128x128, .f32⟩
  | 4 => ⟨S4x128, .f32⟩
  | 5 => ⟨S512, .f32⟩
  | 6 => ⟨S1024x1024, .bf16⟩
  | 7 => ⟨S1024, .f32⟩
  | 8 => ⟨S1024x2816, .bf16⟩
  | 9 => ⟨S1024x2816, .bf16⟩
  | 10 => ⟨S2816x1024, .bf16⟩
  | 11 => ⟨S8x2x2048x256, .f32⟩
  | 12 => ⟨S8x2048x2x256, .f32⟩
  | 13 => ⟨S8x2048x512, .f32⟩
  | 14 => ⟨S8x2048x512, .f32⟩
  | 15 => ⟨S_, .i32⟩
  | 16 => ⟨S_, .f32⟩
  | 17 => ⟨S8x2064x512, .f32⟩
  | 18 => ⟨S2048, .i32⟩
  | 19 => ⟨S_, .i32⟩
  | 20 => ⟨S2048, .i32⟩
  | 21 => ⟨S2048, .i32⟩
  | 22 => ⟨S_, .i32⟩
  | 23 => ⟨S2048, .i32⟩
  | 24 => ⟨S2048, .i32⟩
  | 25 => ⟨S_, .i32⟩
  | 26 => ⟨S2048, .i32⟩
  | 27 => ⟨S2048, .i32⟩
  | 28 => ⟨S_, .i32⟩
  | 29 => ⟨S2048, .i32⟩
  | 30 => ⟨S2048, .i32⟩
  | 31 => ⟨S_, .i32⟩
  | 32 => ⟨S2048, .i32⟩
  | 33 => ⟨S2048, .i32⟩
  | 34 => ⟨S2048, .i32⟩
  | 35 => ⟨S2048, .f32⟩
  | 36 => ⟨S1x2048x1, .f32⟩
  | 37 => ⟨S8x2048x128, .f32⟩
  | 38 => ⟨S8x2048x128, .f32⟩
  | 39 => ⟨S8x2048x128, .f32⟩
  | 40 => ⟨S8x2048x128, .f32⟩
  | 41 => ⟨S8x2048x128, .f32⟩
  | 42 => ⟨S8x2048x128, .f32⟩
  | 43 => ⟨S8x2048x128, .f32⟩
  | 44 => ⟨S1x128x128, .f32⟩
  | 45 => ⟨S128x128, .f32⟩
  | 46 => ⟨S8x2048x128, .f32⟩
  | 47 => ⟨S1x128, .f32⟩
  | 48 => ⟨S128, .f32⟩
  | 49 => ⟨S1x1x128, .f32⟩
  | 50 => ⟨S8x2048x128, .f32⟩
  | 51 => ⟨S8x2048x128, .f32⟩
  | 52 => ⟨S128, .f32⟩
  | 53 => ⟨S1x1x128, .f32⟩
  | 54 => ⟨S8x2048x128, .f32⟩
  | 55 => ⟨S8x2048x128, .f32⟩
  | 56 => ⟨S_, .i32⟩
  | 57 => ⟨S2048, .i32⟩
  | 58 => ⟨S2048, .i32⟩
  | 59 => ⟨S_, .i32⟩
  | 60 => ⟨S2048, .i32⟩
  | 61 => ⟨S2048, .i32⟩
  | 62 => ⟨S_, .i32⟩
  | 63 => ⟨S2048, .i32⟩
  | 64 => ⟨S2048, .i32⟩
  | 65 => ⟨S_, .i32⟩
  | 66 => ⟨S2048, .i32⟩
  | 67 => ⟨S2048, .i32⟩
  | 68 => ⟨S_, .i32⟩
  | 69 => ⟨S2048, .i32⟩
  | 70 => ⟨S2048, .i32⟩
  | 71 => ⟨S2048, .i32⟩
  | 72 => ⟨S2048, .f32⟩
  | 73 => ⟨S1x2048x1, .f32⟩
  | 74 => ⟨S8x2048x128, .f32⟩
  | 75 => ⟨S8x2048x128, .f32⟩
  | 76 => ⟨S8x2048x128, .f32⟩
  | 77 => ⟨S8x2048x128, .f32⟩
  | 78 => ⟨S8x2048x128, .f32⟩
  | 79 => ⟨S8x2048x128, .f32⟩
  | 80 => ⟨S8x2048x128, .f32⟩
  | 81 => ⟨S8x2048x128, .f32⟩
  | 82 => ⟨S8x2048x128, .f32⟩
  | 83 => ⟨S8x2048x128, .f32⟩
  | 84 => ⟨S8x2048x128, .f32⟩
  | 85 => ⟨S1x128x128, .f32⟩
  | 86 => ⟨S128x128, .f32⟩
  | 87 => ⟨S8x2048x128, .f32⟩
  | 88 => ⟨S1x128, .f32⟩
  | 89 => ⟨S128, .f32⟩
  | 90 => ⟨S1x1x128, .f32⟩
  | 91 => ⟨S8x2048x128, .f32⟩
  | 92 => ⟨S8x2048x128, .f32⟩
  | 93 => ⟨S128, .f32⟩
  | 94 => ⟨S1x1x128, .f32⟩
  | 95 => ⟨S8x2048x128, .f32⟩
  | 96 => ⟨S8x2048x128, .f32⟩
  | 97 => ⟨S_, .i32⟩
  | 98 => ⟨S2048, .i32⟩
  | 99 => ⟨S2048, .i32⟩
  | 100 => ⟨S_, .i32⟩
  | 101 => ⟨S2048, .i32⟩
  | 102 => ⟨S2048, .i32⟩
  | 103 => ⟨S_, .i32⟩
  | 104 => ⟨S2048, .i32⟩
  | 105 => ⟨S2048, .i32⟩
  | 106 => ⟨S_, .i32⟩
  | 107 => ⟨S2048, .i32⟩
  | 108 => ⟨S2048, .i32⟩
  | 109 => ⟨S_, .i32⟩
  | 110 => ⟨S2048, .i32⟩
  | 111 => ⟨S2048, .i32⟩
  | 112 => ⟨S2048, .i32⟩
  | 113 => ⟨S2048, .f32⟩
  | 114 => ⟨S1x2048x1, .f32⟩
  | 115 => ⟨S8x2048x128, .f32⟩
  | 116 => ⟨S8x2048x128, .f32⟩
  | 117 => ⟨S8x2048x128, .f32⟩
  | 118 => ⟨S8x2048x128, .f32⟩
  | 119 => ⟨S8x2048x128, .f32⟩
  | 120 => ⟨S8x2048x128, .f32⟩
  | 121 => ⟨S8x2048x128, .f32⟩
  | 122 => ⟨S8x2048x128, .f32⟩
  | 123 => ⟨S8x2048x128, .f32⟩
  | 124 => ⟨S8x2048x128, .f32⟩
  | 125 => ⟨S8x2048x128, .f32⟩
  | 126 => ⟨S8x2048x128, .f32⟩
  | 127 => ⟨S8x2048x128, .f32⟩
  | _ => ⟨S8x2048x1024, .f32⟩

abbrev hbmTy0_1 (i : Nat) : BufTy := match i % 128 with
  | 0 => ⟨S8x2048x128, .f32⟩
  | 1 => ⟨S8x2048x128, .f32⟩
  | 2 => ⟨S8x2048x128, .f32⟩
  | 3 => ⟨S8x2048x128, .f32⟩
  | 4 => ⟨S8x2048x128, .f32⟩
  | 5 => ⟨S8x2048x128, .f32⟩
  | 6 => ⟨S1x128x128, .f32⟩
  | 7 => ⟨S128x128, .f32⟩
  | 8 => ⟨S8x2048x128, .f32⟩
  | 9 => ⟨S1x128, .f32⟩
  | 10 => ⟨S128, .f32⟩
  | 11 => ⟨S1x1x128, .f32⟩
  | 12 => ⟨S8x2048x128, .f32⟩
  | 13 => ⟨S8x2048x128, .f32⟩
  | 14 => ⟨S128, .f32⟩
  | 15 => ⟨S1x1x128, .f32⟩
  | 16 => ⟨S8x2048x128, .f32⟩
  | 17 => ⟨S8x2048x128, .f32⟩
  | 18 => ⟨S_, .i32⟩
  | 19 => ⟨S2048, .i32⟩
  | 20 => ⟨S2048, .i32⟩
  | 21 => ⟨S_, .i32⟩
  | 22 => ⟨S2048, .i32⟩
  | 23 => ⟨S2048, .i32⟩
  | 24 => ⟨S_, .i32⟩
  | 25 => ⟨S2048, .i32⟩
  | 26 => ⟨S2048, .i32⟩
  | 27 => ⟨S_, .i32⟩
  | 28 => ⟨S2048, .i32⟩
  | 29 => ⟨S2048, .i32⟩
  | 30 => ⟨S_, .i32⟩
  | 31 => ⟨S2048, .i32⟩
  | 32 => ⟨S2048, .i32⟩
  | 33 => ⟨S2048, .i32⟩
  | 34 => ⟨S2048, .f32⟩
  | 35 => ⟨S1x2048x1, .f32⟩
  | 36 => ⟨S8x2048x128, .f32⟩
  | 37 => ⟨S8x2048x128, .f32⟩
  | 38 => ⟨S8x2048x128, .f32⟩
  | 39 => ⟨S8x2048x128, .f32⟩
  | 40 => ⟨S8x2048x128, .f32⟩
  | 41 => ⟨S8x2048x128, .f32⟩
  | 42 => ⟨S8x2048x128, .f32⟩
  | 43 => ⟨S8x2048x128, .f32⟩
  | 44 => ⟨S8x2048x128, .f32⟩
  | 45 => ⟨S8x2048x128, .f32⟩
  | 46 => ⟨S8x2048x128, .f32⟩
  | 47 => ⟨S8x2048x128, .f32⟩
  | 48 => ⟨S8x2048x128, .f32⟩
  | 49 => ⟨S8x2048x128, .f32⟩
  | 50 => ⟨S8x2048x128, .f32⟩
  | 51 => ⟨S8x2048x128, .f32⟩
  | 52 => ⟨S8x2048x128, .f32⟩
  | 53 => ⟨S8x2048x128, .f32⟩
  | 54 => ⟨S8x2048x128, .f32⟩
  | 55 => ⟨S8x2048x128, .f32⟩
  | 56 => ⟨S8x2048x128, .f32⟩
  | 57 => ⟨S8x2048x128, .f32⟩
  | 58 => ⟨S8x2048x128, .f32⟩
  | 59 => ⟨S8x2048x128, .f32⟩
  | 60 => ⟨S8x2048x128, .f32⟩
  | 61 => ⟨S8x2048x128, .f32⟩
  | 62 => ⟨S8x2048x128, .f32⟩
  | 63 => ⟨S8x2048x128, .f32⟩
  | 64 => ⟨S8x2048x128, .f32⟩
  | 65 => ⟨S8x2048x128, .f32⟩
  | 66 => ⟨S8x2048x128, .f32⟩
  | 67 => ⟨S8x2048x128, .f32⟩
  | 68 => ⟨S8x2048x128, .f32⟩
  | 69 => ⟨S8x2048x128, .f32⟩
  | 70 => ⟨S8x2048x128, .f32⟩
  | 71 => ⟨S1x128x128, .f32⟩
  | 72 => ⟨S128x128, .f32⟩
  | 73 => ⟨S8x2048x128, .f32⟩
  | 74 => ⟨S1x128, .f32⟩
  | 75 => ⟨S128, .f32⟩
  | 76 => ⟨S1x1x128, .f32⟩
  | 77 => ⟨S8x2048x128, .f32⟩
  | 78 => ⟨S8x2048x128, .f32⟩
  | 79 => ⟨S128, .f32⟩
  | 80 => ⟨S1x1x128, .f32⟩
  | 81 => ⟨S8x2048x128, .f32⟩
  | 82 => ⟨S8x2048x128, .f32⟩
  | 83 => ⟨S8x2048x1024, .f32⟩
  | 84 => ⟨S1024x1024, .f32⟩
  | 85 => ⟨S8x2048x1024, .f32⟩
  | 86 => ⟨S8x2048x1024, .f32⟩
  | 87 => ⟨S8x2048x1024, .f32⟩
  | 88 => ⟨S_, .f32⟩
  | 89 => ⟨S8x2048, .f32⟩
  | 90 => ⟨S8x2048x1, .f32⟩
  | 91 => ⟨S_, .f32⟩
  | 92 => ⟨S8x2048x1, .f32⟩
  | 93 => ⟨S8x2048x1, .f32⟩
  | 94 => ⟨S_, .f32⟩
  | 95 => ⟨S8x2048x1, .f32⟩
  | 96 => ⟨S8x2048x1, .f32⟩
  | 97 => ⟨S8x2048x1, .f32⟩
  | 98 => ⟨S8x2048x1024, .f32⟩
  | 99 => ⟨S8x2048x1024, .f32⟩
  | 100 => ⟨S1x1x1024, .f32⟩
  | 101 => ⟨S8x2048x1024, .f32⟩
  | 102 => ⟨S8x2048x1024, .f32⟩
  | 103 => ⟨S1024x2816, .f32⟩
  | 104 => ⟨S8x2048x2816, .f32⟩
  | 105 => ⟨S8x2048x2816, .f32⟩
  | 106 => ⟨S8x2048x2816, .f32⟩
  | 107 => ⟨S_, .f32⟩
  | 108 => ⟨S8x2048x2816, .f32⟩
  | 109 => ⟨S8x2048x2816, .f32⟩
  | 110 => ⟨S_, .f32⟩
  | 111 => ⟨S8x2048x2816, .f32⟩
  | 112 => ⟨S8x2048x2816, .f32⟩
  | 113 => ⟨S8x2048x2816, .f32⟩
  | 114 => ⟨S1024x2816, .f32⟩
  | 115 => ⟨S8x2048x2816, .f32⟩
  | 116 => ⟨S8x2048x2816, .f32⟩
  | 117 => ⟨S2816x1024, .f32⟩
  | 118 => ⟨S8x2048x1024, .f32⟩
  | 119 => ⟨S8x2048x1024, .f32⟩
  | 120 => ⟨S16384x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_v13 : Ref sig .tc := ⟨.hbm, 30, rfl⟩
abbrev main_c_4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_5 : Ref sig .tc := ⟨.hbm, 56, rfl⟩
abbrev main_v38 : Ref sig .tc := ⟨.hbm, 57, rfl⟩
abbrev main_v39 : Ref sig .tc := ⟨.hbm, 58, rfl⟩
abbrev main_c_6 : Ref sig .tc := ⟨.hbm, 59, rfl⟩
abbrev main_v40 : Ref sig .tc := ⟨.hbm, 60, rfl⟩
abbrev main_v41 : Ref sig .tc := ⟨.hbm, 61, rfl⟩
abbrev main_c_7 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_10 : Ref sig .tc := ⟨.hbm, 97, rfl⟩
abbrev main_v74 : Ref sig .tc := ⟨.hbm, 98, rfl⟩
abbrev main_v75 : Ref sig .tc := ⟨.hbm, 99, rfl⟩
abbrev main_c_11 : Ref sig .tc := ⟨.hbm, 100, rfl⟩
abbrev main_v76 : Ref sig .tc := ⟨.hbm, 101, rfl⟩
abbrev main_v77 : Ref sig .tc := ⟨.hbm, 102, rfl⟩
abbrev main_c_12 : Ref sig .tc := ⟨.hbm, 103, rfl⟩
abbrev main_v78 : Ref sig .tc := ⟨.hbm, 104, rfl⟩
abbrev main_v79 : Ref sig .tc := ⟨.hbm, 105, rfl⟩
abbrev main_c_13 : Ref sig .tc := ⟨.hbm, 106, rfl⟩
abbrev main_v80 : Ref sig .tc := ⟨.hbm, 107, rfl⟩
abbrev main_v81 : Ref sig .tc := ⟨.hbm, 108, rfl⟩
abbrev main_c_14 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_c_15 : Ref sig .tc := ⟨.hbm, 146, rfl⟩
abbrev main_v118 : Ref sig .tc := ⟨.hbm, 147, rfl⟩
abbrev main_v119 : Ref sig .tc := ⟨.hbm, 148, rfl⟩
abbrev main_c_16 : Ref sig .tc := ⟨.hbm, 149, rfl⟩
abbrev main_v120 : Ref sig .tc := ⟨.hbm, 150, rfl⟩
abbrev main_v121 : Ref sig .tc := ⟨.hbm, 151, rfl⟩
abbrev main_c_17 : Ref sig .tc := ⟨.hbm, 152, rfl⟩
abbrev main_v122 : Ref sig .tc := ⟨.hbm, 153, rfl⟩
abbrev main_v123 : Ref sig .tc := ⟨.hbm, 154, rfl⟩
abbrev main_c_18 : Ref sig .tc := ⟨.hbm, 155, rfl⟩
abbrev main_v124 : Ref sig .tc := ⟨.hbm, 156, rfl⟩
abbrev main_v125 : Ref sig .tc := ⟨.hbm, 157, rfl⟩
abbrev main_c_19 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_cst : Ref sig .tc := ⟨.hbm, 216, rfl⟩
abbrev main_v183 : Ref sig .tc := ⟨.hbm, 217, rfl⟩
abbrev main_v184 : Ref sig .tc := ⟨.hbm, 218, rfl⟩
abbrev main_cst_20 : Ref sig .tc := ⟨.hbm, 219, rfl⟩
abbrev main_v185 : Ref sig .tc := ⟨.hbm, 220, rfl⟩
abbrev main_v186 : Ref sig .tc := ⟨.hbm, 221, rfl⟩
abbrev main_cst_21 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_call1_v0 : Ref sig .tc := ⟨.hbm, 233, rfl⟩
abbrev main_call1_v1 : Ref sig .tc := ⟨.hbm, 234, rfl⟩
abbrev main_call1_cst : Ref sig .tc := ⟨.hbm, 235, rfl⟩
abbrev main_call1_v2 : Ref sig .tc := ⟨.hbm, 236, rfl⟩
abbrev main_call1_v3 : Ref sig .tc := ⟨.hbm, 237, rfl⟩
abbrev main_call1_cst_0 : Ref sig .tc := ⟨.hbm, 238, rfl⟩
abbrev main_call1_v4 : Ref sig .tc := ⟨.hbm, 239, rfl⟩
abbrev main_call1_v5 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩

abbrev nD : Nat := 1
abbrev τ : Topo := Topo.v7x

variable {F : FTy → Type} [FloatOps F]
-- ==== Proof.Attention.Offsets.lean ====
module

public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import Idealize.ShloMosaic.Lib.Tactic

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Trip `k`'s `r`-th output tile (tile `4 k + r`): its first half's corner. -/
theorem off1_eq : ∀ k : Fin k0_t1_loop.trips, ∀ r : Fin 4, k0_off1 k (BitVec.ofNat 32 r.val)
    = ![0, (4 * k.val + r.val) / 16 % 2, 128 * ((4 * k.val + r.val) % 16), 0] := by decide +kernel
/-- Its second half's corner. -/
theorem off2_eq : ∀ k : Fin k0_t1_loop.trips, ∀ r : Fin 4, k0_off2 k (BitVec.ofNat 32 r.val)
    = ![0, (4 * k.val + r.val) / 16 % 2, 128 * ((4 * k.val + r.val) % 16), 128] := by decide +kernel
/-- The query rows of tile `4 k + r + 3`: their corner. -/
theorem off3_eq : ∀ k : Fin k0_t1_loop.trips, ∀ r : Fin 4, k0_off3 k (BitVec.ofNat 32 r.val)
    = ![0, (4 * k.val + r.val + 3) / 16 % 2, 128 * ((4 * k.val + r.val + 3) % 16), 0] := by decide +kernel
/-- The keys of tile `4 k + r + 3`: their corner. -/
theorem off4_eq : ∀ k : Fin k0_t1_loop.trips, ∀ r : Fin 4, k0_off4 k (BitVec.ofNat 32 r.val)
    = ![0, (4 * k.val + r.val + 3) / 16 % 2, 0, 256] := by decide +kernel
/-- The values of tile `4 k + r + 1`: their corner. -/
theorem off5_eq : ∀ k : Fin k0_t1_loop.trips, ∀ r : Fin 4, k0_off5 k (BitVec.ofNat 32 r.val)
    = ![0, (4 * k.val + r.val + 1) / 16 % 2, 0, 384] := by decide +kernel

instance (k : Fin k0_t1_loop.trips) : ClosedOff (k0_off1 k 0#32) := ⟨_, off1_eq k 0⟩
instance (k : Fin k0_t1_loop.trips) : ClosedOff (k0_off1 k 1#32) := ⟨_, off1_eq k 1⟩
instance (k : Fin k0_t1_loop.trips) : ClosedOff (k0_off1 k 2#32) := ⟨_, off1_eq k 2⟩
instance (k : Fin k0_t1_loop.trips) : ClosedOff (k0_off1 k 3#32) := ⟨_, off1_eq k 3⟩
instance (k : Fin k0_t1_loop.trips) : ClosedOff (k0_off2 k 0#32) := ⟨_, off2_eq k 0⟩
instance (k : Fin k0_t1_loop.trips) : ClosedOff (k0_off2 k 1#32) := ⟨_, off2_eq k 1⟩
instance (k : Fin k0_t1_loop.trips) : ClosedOff (k0_off2 k 2#32) := ⟨_, off2_eq k 2⟩
instance (k : Fin k0_t1_loop.trips) : ClosedOff (k0_off2 k 3#32) := ⟨_, off2_eq k 3⟩

end Cert.Proof.AttnIdeal

end
-- ==== Proof.Attention.Values.lean ====
module

public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import Idealize.ShloMosaic.Lib.Tactic

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What one tile computes, operation by operation

The two halves of 64 lanes are told apart by the lane number `v0`. -/

/-- A lane's number divided by 64, rounded down, as the kernel computes it. -/
def half (v0 : IVec S128x128 32) : IVec S128x128 32 :=
  select (andi (cmpi .ne (subi (extui 32 (cmpi .sgt v0 (broadcast S128x128 0#32)) natLt_1_32) (extui 32 (cmpi .slt v0 (broadcast S128x128 0#32)) natLt_1_32))
        (broadcast S128x128 (Scalar.subi (Scalar.extui (Scalar.cmpi .sgt 64#32 0#32)) (Scalar.extui (Scalar.cmpi .slt 64#32 0#32)))))
      (cmpi .ne (remsi v0 (broadcast S128x128 64#32)) (broadcast S128x128 0#32)))
    (subi (divsi v0 (broadcast S128x128 64#32)) (broadcast S128x128 1#32)) (divsi v0 (broadcast S128x128 64#32))

/-- The 128 lanes of two heads' queries with one head's kept and the other's zeroed. -/
def keep (v0 : IVec S128x128 32) (h : BitVec 32) (q : FVec F S128x128 .bf16) : FVec F S128x128 .bf16 :=
  select (cmpi .eq (half v0) (broadcast S128x128 h)) q (broadcast S128x128 (Scalar.ofBits .bf16 0x0000#16))

/-- The four heads' queries of a tile stacked. -/
def stack (v0 : IVec S128x128 32) (Q : Vec F S1x1x128x256 .bf16) : FVec F S512x128 .bf16 :=
  let q : FVec F S128x256 .bf16 := shapeCast S128x256 Q shapeCasts_S1x1x128x256_S128x256
  let a : FVec F S128x128 .bf16 := extractStridedSlice S128x128 ![0, 0] q slices_S128x256_o0_0_S128x128
  let b : FVec F S128x128 .bf16 := extractStridedSlice S128x128 ![0, 128] q slices_S128x256_o0_128_S128x128
  concatenate S512x128 0 [⟨S128x128, keep v0 0#32 a⟩, ⟨S128x128, keep v0 1#32 a⟩, ⟨S128x128, keep v0 0#32 b⟩, ⟨S128x128, keep v0 1#32 b⟩] concatenates_S128x128_S128x128_S128x128_S128x128_S512x128_d0

/-- A tile's scores: four heads' queries against all keys. -/
def scoreMat (v0 : IVec S128x128 32) (Q : Vec F S1x1x128x256 .bf16) (K : Vec F S1x1x2048x128 .bf16) : FVec F S512x2048 .f32 :=
  matmul dot_S512x128_S2048x128_S512x2048_1_1_0_0_n_n none (stack v0 Q)
    (shapeCast S2048x128 K shapeCasts_S1x1x2048x128_S2048x128) (constant S512x2048 .f32 0x00000000#32)

/-- The scores as they are stored. -/
def scoreSt (v0 : IVec S128x128 32) (Q : Vec F S1x1x128x256 .bf16) (K : Vec F S1x1x2048x128 .bf16) : FVec F S512x2048 .f32 :=
  shapeCast S512x2048 (scoreMat v0 Q K) shapeCasts_S512x2048_S512x2048

/-- The maximum of the sixteen stretches of 128 scores, lane by lane. -/
def lanes (S : FVec F S512x2048 .f32) : FVec F S512x128 .f32 :=
  maximumf (maximumf (maximumf (maximumf (maximumf (maximumf (maximumf (maximumf (maximumf (maximumf (maximumf (maximumf (maximumf (maximumf (maximumf (extractStridedSlice S512x128 ![0, 0] S slices_S512x2048_o0_0_S512x128)
      (extractStridedSlice S512x128 ![0, 128] S slices_S512x2048_o0_128_S512x128))
      (extractStridedSlice S512x128 ![0, 256] S slices_S512x2048_o0_256_S512x128))
      (extractStridedSlice S512x128 ![0, 384] S slices_S512x2048_o0_384_S512x128))
      (extractStridedSlice S512x128 ![0, 512] S slices_S512x2048_o0_512_S512x128))
      (extractStridedSlice S512x128 ![0, 640] S slices_S512x2048_o0_640_S512x128))
      (extractStridedSlice S512x128 ![0, 768] S slices_S512x2048_o0_768_S512x128))
      (extractStridedSlice S512x128 ![0, 896] S slices_S512x2048_o0_896_S512x128))
      (extractStridedSlice S512x128 ![0, 1024] S slices_S512x2048_o0_1024_S512x128))
      (extractStridedSlice S512x128 ![0, 1152] S slices_S512x2048_o0_1152_S512x128))
      (extractStridedSlice S512x128 ![0, 1280] S slices_S512x2048_o0_1280_S512x128))
      (extractStridedSlice S512x128 ![0, 1408] S slices_S512x2048_o0_1408_S512x128))
      (extractStridedSlice S512x128 ![0, 1536] S slices_S512x2048_o0_1536_S512x128))
      (extractStridedSlice S512x128 ![0, 1664] S slices_S512x2048_o0_1664_S512x128))
      (extractStridedSlice S512x128 ![0, 1792] S slices_S512x2048_o0_1792_S512x128))
      (extractStridedSlice S512x128 ![0, 1920] S slices_S512x2048_o0_1920_S512x128)

/-- The lane maxima as they are stored. -/
def laneSt (v0 : IVec S128x128 32) (Q : Vec F S1x1x128x256 .bf16) (K : Vec F S1x1x2048x128 .bf16) : FVec F S512x128 .f32 :=
  shapeCast S512x128 (lanes (scoreMat v0 Q K)) shapeCasts_S512x128_S512x128

/-- The row maximum from the lane maxima, in every lane, as it is stored. -/
def rowSt (L : FVec F S512x128 .f32) : FVec F S512x128 .f32 :=
  shapeCast S512x128 (broadcastTo S512x128 (shapeCast S512x1 (shapeCast S512x1
      (multiReduction .maximumf [1] S512 L 0xFF800000#32 reduces_S512x128_S512 (.inl rfl) rfl)
      shapeCasts_S512_S512x1) shapeCasts_S512x1_S512x1) broadcasts_S512x1_S512x128) shapeCasts_S512x128_S512x128

/-- The weights `2 ^ (s - m)` times the values and ones, as stored. -/
def outSt (S : FVec F S512x2048 .f32) (m : FVec F S512x128 .f32) (V : Vec F S1x1x2048x128 .bf16) : FVec F S512x128 .f32 :=
  shapeCast S512x128
    (matmul dot_S512x2048_S2048x128_S512x128_1_0_0_1_n_n none
      (truncf .bf16 (exp2 (subf S (concatenate S512x2048 1 [⟨S512x128, m⟩, ⟨S512x128, m⟩, ⟨S512x128, m⟩, ⟨S512x128, m⟩, ⟨S512x128, m⟩, ⟨S512x128, m⟩, ⟨S512x128, m⟩, ⟨S512x128, m⟩, ⟨S512x128, m⟩, ⟨S512x128, m⟩, ⟨S512x128, m⟩, ⟨S512x128, m⟩, ⟨S512x128, m⟩, ⟨S512x128, m⟩, ⟨S512x128, m⟩, ⟨S512x128, m⟩] concatenates_S512x128_S512x128_S512x128_S512x128_S512x128_S512x128_S512x128_S512x128_S512x128_S512x128_S512x128_S512x128_S512x128_S512x128_S512x128_S512x128_S512x2048_d1))) bitsLt_bf16_f32)
      (shapeCast S2048x128 V shapeCasts_S1x1x2048x128_S2048x128) (constant S512x128 .f32 0x00000000#32))
    shapeCasts_S512x128_S512x128

/-- Two heads' weighted sums over their sums of weights, side by side, as stored. -/
def finSt (v0 : IVec S128x128 32) (a b : Vec F S128x128 .f32) : FVec F S1x1x128x128 .bf16 :=
  shapeCast S1x1x128x128
    (truncf .bf16
      (divf (select (cmpi .slt v0 (broadcast S128x128 64#32)) a (dynamicRotate 1 64#32 none b rotates_S128x128_d1))
        (select (cmpi .slt v0 (broadcast S128x128 64#32)) (dynamicRotate 1 64#32 none a rotates_S128x128_d1) b))
      bitsLt_bf16_f32)
    shapeCasts_S128x128_S1x1x128x128

/-! ## A tile of a batch

Tile `t` is key/value head `t / 16` and the queries `128 (t % 16) …`. -/

theorem inbQ (t : ℕ) : ∀ a, (![0, t / 16 % 2, 128 * (t % 16), 0] : Fin 4 → ℕ) a + S1x1x128x256.size a ≤ S1x2x2048x512.size a := by
  intro a; fin_cases a <;> simp [S1x1x128x256, S1x2x2048x512] <;> omega
theorem inbK (t : ℕ) : ∀ a, (![0, t / 16 % 2, 0, 256] : Fin 4 → ℕ) a + S1x1x2048x128.size a ≤ S1x2x2048x512.size a := by
  intro a; fin_cases a <;> simp [S1x1x2048x128, S1x2x2048x512] <;> omega
theorem inbV (t : ℕ) : ∀ a, (![0, t / 16 % 2, 0, 384] : Fin 4 → ℕ) a + S1x1x2048x128.size a ≤ S1x2x2048x512.size a := by
  intro a; fin_cases a <;> simp [S1x1x2048x128, S1x2x2048x512] <;> omega
theorem inbO (t : ℕ) : ∀ a, (![0, t / 16 % 2, 128 * (t % 16), 0] : Fin 4 → ℕ) a + S1x1x128x128.size a ≤ S1x2x2048x256.size a := by
  intro a; fin_cases a <;> simp [S1x1x128x128, S1x2x2048x256] <;> omega
theorem inbP (t : ℕ) : ∀ a, (![0, t / 16 % 2, 128 * (t % 16), 128] : Fin 4 → ℕ) a + S1x1x128x128.size a ≤ S1x2x2048x256.size a := by
  intro a; fin_cases a <;> simp [S1x1x128x128, S1x2x2048x256] <;> omega

/-- The lane number. -/
abbrev lane : IVec S128x128 32 := iota .tc S128x128 32 [1] iota_S128x128_d1_w32

variable (X : Vec F S1x2x2048x512 .bf16)

/-- The queries of tile `t`, its keys, its values. -/
def qT (t : ℕ) : Vec F S1x1x128x256 .bf16 := View.ld X (Rect.unit (s := S1x2x2048x512) ![0, t / 16 % 2, 128 * (t % 16), 0] S1x1x128x256.size (inbQ t))
def kT (t : ℕ) : Vec F S1x1x2048x128 .bf16 := View.ld X (Rect.unit (s := S1x2x2048x512) ![0, t / 16 % 2, 0, 256] S1x1x2048x128.size (inbK t))
def vT (t : ℕ) : Vec F S1x1x2048x128 .bf16 := View.ld X (Rect.unit (s := S1x2x2048x512) ![0, t / 16 % 2, 0, 384] S1x1x2048x128.size (inbV t))
/-- Its scores, lane maxima, row maxima, weighted sums, and the two halves of its result. -/
def Sc (t : ℕ) : FVec F S512x2048 .f32 := scoreSt lane (qT X t) (kT X t)
def LM (t : ℕ) : FVec F S512x128 .f32 := laneSt lane (qT X t) (kT X t)
def RM (t : ℕ) : FVec F S512x128 .f32 := rowSt (LM X t)
def OE (t : ℕ) : FVec F S512x128 .f32 := outSt (Sc X t) (RM X t) (vT X t)
def O1 (t : ℕ) : FVec F S1x1x128x128 .bf16 := finSt lane
  (View.ld (OE X t) (Rect.unit (s := S512x128) ![0, 0] S128x128.size inb_S512x128_S128x128_0_0))
  (View.ld (OE X t) (Rect.unit (s := S512x128) ![128, 0] S128x128.size inb_S512x128_S128x128_128_0))
def O2 (t : ℕ) : FVec F S1x1x128x128 .bf16 := finSt lane
  (View.ld (OE X t) (Rect.unit (s := S512x128) ![256, 0] S128x128.size inb_S512x128_S128x128_256_0))
  (View.ld (OE X t) (Rect.unit (s := S512x128) ![384, 0] S128x128.size inb_S512x128_S128x128_384_0))

end Cert.Proof.AttnIdeal

end
-- ==== Proof.Attention.Trip.lean ====
module

public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import Idealize.ShloMosaic.Lib.Tactic
public import Idealize.ShloMosaic.Lib.VecWindow
public import Idealize.ShloMosaic.Lib.Pipeline.FrameBody
public import proofs.«01_k».proof.Proof.Attention.Offsets
public import proofs.«01_k».proof.Proof.Attention.Values

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none

local notation "𝕄" => MT nD τ sig Unit (Elt F) ℕ (UU nD τ) ℕ

/-- A memref's buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- The pieces of tile `t`'s result. -/
abbrev pieceL (X : Vec F S1x2x2048x512 .bf16) (t : ℕ) : View.Piece (Elt F) S1x2x2048x256 .bf16 :=
  ⟨Rect.unit (s := S1x2x2048x256) ![0, t / 16 % 2, 128 * (t % 16), 0] S1x1x128x128.size (inbO t), O1 X t⟩
abbrev pieceR (X : Vec F S1x2x2048x512 .bf16) (t : ℕ) : View.Piece (Elt F) S1x2x2048x256 .bf16 :=
  ⟨Rect.unit (s := S1x2x2048x256) ![0, t / 16 % 2, 128 * (t % 16), 128] S1x1x128x128.size (inbP t), O2 X t⟩

theorem rect_congr {s : Shape} {off off' size : Fin s.rank → ℕ} (h : off = off') (i : ∀ a, off a + size a ≤ s.size a) (i' : ∀ a, off' a + size a ≤ s.size a) {e : EltTy}
   (X : s.Idx → Elt F e) : (View.ld X (Rect.unit off size i) : (Rect.unit off' size i').shape.Idx → Elt F e) = View.ld X (Rect.unit off' size i') := by
  subst h; rfl

theorem q_of (v : View sig .tc .vmem S1x2x2048x512 .bf16) (f1 : v.ty.Contents (Elt F)) (X : Vec F S1x2x2048x512 .bf16) (h1 : v.read (Elt F) f1 = X)
    (k : Fin k0_t1_loop.trips) (r : Fin 4) (t : ℕ) (ht : t = 4 * k.val + r.val + 3) :
    v.readAt (Elt F) (Rect.unit (s := S1x2x2048x512) (k0_off3 k (BitVec.ofNat 32 r.val)) S1x1x128x256.size (k0_off3_inb k r)).toLoadRect f1 = qT X t := by
  subst h1; subst ht; rw [View.readAt_eq_ld]; exact rect_congr (off3_eq k r) _ _ _
theorem k_of (v : View sig .tc .vmem S1x2x2048x512 .bf16) (f1 : v.ty.Contents (Elt F)) (X : Vec F S1x2x2048x512 .bf16) (h1 : v.read (Elt F) f1 = X)
    (k : Fin k0_t1_loop.trips) (r : Fin 4) (t : ℕ) (ht : t = 4 * k.val + r.val + 3) :
    v.readAt (Elt F) (Rect.unit (s := S1x2x2048x512) (k0_off4 k (BitVec.ofNat 32 r.val)) S1x1x2048x128.size (k0_off4_inb k r)).toLoadRect f1 = kT X t := by
  subst h1; subst ht; rw [View.readAt_eq_ld]; exact rect_congr (off4_eq k r) _ _ _
theorem v_of (v : View sig .tc .vmem S1x2x2048x512 .bf16) (f1 : v.ty.Contents (Elt F)) (X : Vec F S1x2x2048x512 .bf16) (h1 : v.read (Elt F) f1 = X)
    (k : Fin k0_t1_loop.trips) (r : Fin 4) (t : ℕ) (ht : t = 4 * k.val + r.val + 1) :
    v.readAt (Elt F) (Rect.unit (s := S1x2x2048x512) (k0_off5 k (BitVec.ofNat 32 r.val)) S1x1x2048x128.size (k0_off5_inb k r)).toLoadRect f1 = vT X t := by
  subst h1; subst ht; rw [View.readAt_eq_ld]; exact rect_congr (off5_eq k r) _ _ _

/-- A whole buffer read back after a whole store. -/
abbrev cov (v : View sig .tc .vmem S512x128 .f32) (p : Vec F S512x128 .f32) : Vec F S512x128 .f32 :=
  v.readCov (Val := Elt F) [⟨Rect.unit (s := S512x128) ![0, 0] S512x128.size inb_S512x128_S512x128_0_0, p⟩] (Rect.unit (s := S512x128) ![0, 0] S512x128.size inb_S512x128_S512x128_0_0).toLoadRect
abbrev cov2 (v : View sig .tc .vmem S512x2048 .f32) (p : Vec F S512x2048 .f32) : Vec F S512x2048 .f32 :=
  v.readCov (Val := Elt F) [⟨Rect.unit (s := S512x2048) ![0, 0] S512x2048.size inb_S512x2048_S512x2048_0_0, p⟩] (Rect.unit (s := S512x2048) ![0, 0] S512x2048.size inb_S512x2048_S512x2048_0_0).toLoadRect
theorem cov_eq (v : View sig .tc .vmem S512x128 .f32) (p : Vec F S512x128 .f32) : cov v p = p := View.readCov_full ..
theorem cov2_eq (v : View sig .tc .vmem S512x2048 .f32) (p : Vec F S512x2048 .f32) : cov2 v p = p := View.readCov_full ..
theorem piece_cons {s : Shape} {e : EltTy} {off off' size : Fin s.rank → ℕ} (h : off = off') (i : ∀ a, off a + size a ≤ s.size a) (i' : ∀ a, off' a + size a ≤ s.size a)
    (w w' : ((a : Fin s.rank) → Fin (size a)) → Elt F e) (hw : w = w') {L L' : List (View.Piece (Elt F) s e)} (hL : L = L') :
    (⟨Rect.unit off size i, w⟩ :: L : List (View.Piece (Elt F) s e)) = ⟨Rect.unit off' size i', w'⟩ :: L' := by
  subst h hw hL; rfl
/-- Two quarters of a tile's weighted sums read back from where they were stored whole. -/
theorem fin_of (v : View sig .tc .vmem S512x128 .f32) {p p' : Vec F S512x128 .f32} (h : p = p') {o o' : Fin 2 → ℕ} (i : ∀ a, o a + S128x128.size a ≤ S512x128.size a) (i' : ∀ a, o' a + S128x128.size a ≤ S512x128.size a) :
    finSt lane (v.readCov (Val := Elt F) [⟨Rect.unit (s := S512x128) ![0, 0] S512x128.size inb_S512x128_S512x128_0_0, p⟩] (Rect.unit (s := S512x128) o S128x128.size i).toLoadRect)
        (v.readCov (Val := Elt F) [⟨Rect.unit (s := S512x128) ![0, 0] S512x128.size inb_S512x128_S512x128_0_0, p⟩] (Rect.unit (s := S512x128) o' S128x128.size i').toLoadRect)
      = finSt lane (View.ld p' (Rect.unit (s := S512x128) o S128x128.size i)) (View.ld p' (Rect.unit (s := S512x128) o' S128x128.size i')) := by
  subst h
  have e : ∀ (o : Fin 2 → ℕ) (i : ∀ a, o a + S128x128.size a ≤ S512x128.size a), v.readCov (Val := Elt F) [⟨Rect.unit (s := S512x128) ![0, 0] S512x128.size inb_S512x128_S512x128_0_0, p⟩] (Rect.unit (s := S512x128) o S128x128.size i).toLoadRect
      = View.ld p (Rect.unit (s := S512x128) o S128x128.size i) := fun o i => by
    unfold View.readCov; rw [View.readAt_eq_ld, View.read_writes_full]
  rw [e, e]
/-- The same of a buffer that reads so. -/
theorem fin_at {v : View sig .tc .vmem S512x128 .f32} {f : v.ty.Contents (Elt F)} {p' : Vec F S512x128 .f32} (h : v.read (Elt F) f = p') {o o' : Fin 2 → ℕ} (i : ∀ a, o a + S128x128.size a ≤ S512x128.size a) (i' : ∀ a, o' a + S128x128.size a ≤ S512x128.size a) :
    finSt lane (v.readAt (Elt F) (Rect.unit (s := S512x128) o S128x128.size i).toLoadRect f) (v.readAt (Elt F) (Rect.unit (s := S512x128) o' S128x128.size i').toLoadRect f)
      = finSt lane (View.ld p' (Rect.unit (s := S512x128) o S128x128.size i)) (View.ld p' (Rect.unit (s := S512x128) o' S128x128.size i')) := by
  subst h; rfl

set_option maxHeartbeats 4000000 in
theorem trip (c : Dev nD) (i : grid0.Coords)
  (arg1 : Memref sig .tc .vmem S1x2x2048x512 .bf16) (harg1 : arg1.IsWhole)
  (arg2 : Memref sig .tc .vmem S1x1x256x256 .bf16) (harg2 : arg2.IsWhole)
  (arg3 : Memref sig .tc .vmem S1x1x2048x128 .bf16) (harg3 : arg3.IsWhole)
  (arg4 : Memref sig .tc .vmem S128x1024 .f32) (harg4 : arg4.IsWhole)
  (arg5 : Memref sig .tc .vmem S128x2816 .f32) (harg5 : arg5.IsWhole)
  (arg6 : Memref sig .tc .vmem S128x2816 .f32) (harg6 : arg6.IsWhole)
  (arg7 : Memref sig .tc .vmem S352x1024 .f32) (harg7 : arg7.IsWhole)
  (arg8 : Memref sig .tc .vmem S1x2x2048x256 .bf16) (harg8 : arg8.IsWhole)
  (arg9 : Memref sig .tc .vmem S128x1024 .bf16) (harg9 : arg9.IsWhole)
  (arg10 : Memref sig .tc .vmem S128x2816 .bf16) (harg10 : arg10.IsWhole)
  (arg11 : Memref sig .tc .vmem S128x2816 .bf16) (harg11 : arg11.IsWhole)
  (arg12 : Memref sig .tc .vmem S352x1024 .bf16) (harg12 : arg12.IsWhole)
  (arg13 : Memref sig .tc .vmem S512x2048 .f32) (harg13 : arg13.IsWhole)
  (arg14 : Memref sig .tc .vmem S512x2048 .f32) (harg14 : arg14.IsWhole)
  (arg15 : Memref sig .tc .vmem S512x2048 .f32) (harg15 : arg15.IsWhole)
  (arg16 : Memref sig .tc .vmem S512x2048 .f32) (harg16 : arg16.IsWhole)
  (arg17 : Memref sig .tc .vmem S512x128 .f32) (harg17 : arg17.IsWhole)
  (arg18 : Memref sig .tc .vmem S512x128 .f32) (harg18 : arg18.IsWhole)
  (arg19 : Memref sig .tc .vmem S512x128 .f32) (harg19 : arg19.IsWhole)
  (arg20 : Memref sig .tc .vmem S512x128 .f32) (harg20 : arg20.IsWhole)
  (arg21 : Memref sig .tc .vmem S512x128 .f32) (harg21 : arg21.IsWhole)
  (arg22 : Memref sig .tc .vmem S512x128 .f32) (harg22 : arg22.IsWhole)
  (arg23 : Memref sig .tc .vmem S512x128 .f32) (harg23 : arg23.IsWhole)
  (arg24 : Memref sig .tc .vmem S512x128 .f32) (harg24 : arg24.IsWhole)
  (arg25 : Memref sig .tc .vmem S512x128 .f32) (harg25 : arg25.IsWhole)
  (arg26 : Memref sig .tc .vmem S512x128 .f32) (harg26 : arg26.IsWhole)
  (arg27 : Memref sig .tc .vmem S512x128 .f32) (harg27 : arg27.IsWhole)
  (arg28 : Memref sig .tc .vmem S512x128 .f32) (harg28 : arg28.IsWhole) (v172 : FVec F S512x2048 .f32)
  (k : Fin k0_t1_loop.trips) (X : Vec F S1x2x2048x512 .bf16)
  (f1 : Bf (F := F) c arg1) (f8 : Bf (F := F) c arg8) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27) (f28 : Bf (F := F) c arg28) (h1 : arg1.view.read (Elt F) f1 = X) (h14 : arg14.view.read (Elt F) f14 = Sc X (4 * k.val + 1)) (h15 : arg15.view.read (Elt F) f15 = Sc X (4 * k.val + 2)) (h19 : arg19.view.read (Elt F) f19 = LM X (4 * k.val + 2)) (h22 : arg22.view.read (Elt F) f22 = RM X (4 * k.val + 1)) (h25 : arg25.view.read (Elt F) f25 = OE X (4 * k.val)) :
  iprop(pt c arg1 f1 ∗ pt c arg8 f8 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ pt c arg28 f28) ⊢ wp frame (wpE (defs₀ (F := F)) 𝒱₀ (c : Thread nD τ) none) Set.univ
   (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 lane v172 k ()) (fun _ => iprop(pt c arg1 f1 ∗ (∃ f, pt c arg8 f ∗ ⌜arg8.view.read (Elt F) f = arg8.view.read (Elt F) (arg8.view.writes (Elt F) f8 [pieceR X (4 * k.val + 3), pieceL X (4 * k.val + 3), pieceR X (4 * k.val + 2), pieceL X (4 * k.val + 2), pieceR X (4 * k.val + 1), pieceL X (4 * k.val + 1), pieceR X (4 * k.val), pieceL X (4 * k.val)])⌝) ∗ (∃ f, pt c arg13 f) ∗ (∃ f, pt c arg14 f ∗ ⌜arg14.view.read (Elt F) f = Sc X (4 * (k.val + 1) + 1)⌝) ∗ (∃ f, pt c arg15 f ∗ ⌜arg15.view.read (Elt F) f = Sc X (4 * (k.val + 1) + 2)⌝) ∗ (∃ f, pt c arg16 f) ∗ (∃ f, pt c arg17 f) ∗ (∃ f, pt c arg18 f) ∗ (∃ f, pt c arg19 f ∗ ⌜arg19.view.read (Elt F) f = LM X (4 * (k.val + 1) + 2)⌝) ∗ (∃ f, pt c arg20 f) ∗ (∃ f, pt c arg21 f) ∗ (∃ f, pt c arg22 f ∗ ⌜arg22.view.read (Elt F) f = RM X (4 * (k.val + 1) + 1)⌝) ∗ (∃ f, pt c arg23 f) ∗ (∃ f, pt c arg24 f) ∗ (∃ f, pt c arg25 f ∗ ⌜arg25.view.read (Elt F) f = OE X (4 * (k.val + 1))⌝) ∗ (∃ f, pt c arg26 f) ∗ (∃ f, pt c arg27 f) ∗ (∃ f, pt c arg28 f))) := by
  have hS0 : scoreSt lane (arg1.view.readAt (Elt F) (Rect.unit (s := S1x2x2048x512) (k0_off3 k 0#32) S1x1x128x256.size (k0_off3_inb k 0)).toLoadRect f1) (arg1.view.readAt (Elt F) (Rect.unit (s := S1x2x2048x512) (k0_off4 k 0#32) S1x1x2048x128.size (k0_off4_inb k 0)).toLoadRect f1) = Sc X (4 * k.val + 3) := congrArg₂ (scoreSt lane) (q_of _ f1 X h1 k 0 (4 * k.val + 3) rfl) (k_of _ f1 X h1 k 0 (4 * k.val + 3) rfl)
  have hL0 : laneSt lane (arg1.view.readAt (Elt F) (Rect.unit (s := S1x2x2048x512) (k0_off3 k 0#32) S1x1x128x256.size (k0_off3_inb k 0)).toLoadRect f1) (arg1.view.readAt (Elt F) (Rect.unit (s := S1x2x2048x512) (k0_off4 k 0#32) S1x1x2048x128.size (k0_off4_inb k 0)).toLoadRect f1) = LM X (4 * k.val + 3) := congrArg₂ (laneSt lane) (q_of _ f1 X h1 k 0 (4 * k.val + 3) rfl) (k_of _ f1 X h1 k 0 (4 * k.val + 3) rfl)
  have hR0 : rowSt (cov arg20.view (laneSt lane (arg1.view.readAt (Elt F) (Rect.unit (s := S1x2x2048x512) (k0_off3 k 0#32) S1x1x128x256.size (k0_off3_inb k 0)).toLoadRect f1) (arg1.view.readAt (Elt F) (Rect.unit (s := S1x2x2048x512) (k0_off4 k 0#32) S1x1x2048x128.size (k0_off4_inb k 0)).toLoadRect f1))) = RM X (4 * k.val + 3) := by rw [cov_eq, hL0]; rfl
  have hS1 : scoreSt lane (arg1.view.readAt (Elt F) (Rect.unit (s := S1x2x2048x512) (k0_off3 k 1#32) S1x1x128x256.size (k0_off3_inb k 1)).toLoadRect f1) (arg1.view.readAt (Elt F) (Rect.unit (s := S1x2x2048x512) (k0_off4 k 1#32) S1x1x2048x128.size (k0_off4_inb k 1)).toLoadRect f1) = Sc X (4 * (k.val + 1)) := congrArg₂ (scoreSt lane) (q_of _ f1 X h1 k 1 (4 * (k.val + 1)) rfl) (k_of _ f1 X h1 k 1 (4 * (k.val + 1)) rfl)
  have hL1 : laneSt lane (arg1.view.readAt (Elt F) (Rect.unit (s := S1x2x2048x512) (k0_off3 k 1#32) S1x1x128x256.size (k0_off3_inb k 1)).toLoadRect f1) (arg1.view.readAt (Elt F) (Rect.unit (s := S1x2x2048x512) (k0_off4 k 1#32) S1x1x2048x128.size (k0_off4_inb k 1)).toLoadRect f1) = LM X (4 * (k.val + 1)) := congrArg₂ (laneSt lane) (q_of _ f1 X h1 k 1 (4 * (k.val + 1)) rfl) (k_of _ f1 X h1 k 1 (4 * (k.val + 1)) rfl)
  have hR1 : rowSt (cov arg17.view (laneSt lane (arg1.view.readAt (Elt F) (Rect.unit (s := S1x2x2048x512) (k0_off3 k 1#32) S1x1x128x256.size (k0_off3_inb k 1)).toLoadRect f1) (arg1.view.readAt (Elt F) (Rect.unit (s := S1x2x2048x512) (k0_off4 k 1#32) S1x1x2048x128.size (k0_off4_inb k 1)).toLoadRect f1))) = RM X (4 * (k.val + 1)) := by rw [cov_eq, hL1]; rfl
  have hS2 : scoreSt lane (arg1.view.readAt (Elt F) (Rect.unit (s := S1x2x2048x512) (k0_off3 k 2#32) S1x1x128x256.size (k0_off3_inb k 2)).toLoadRect f1) (arg1.view.readAt (Elt F) (Rect.unit (s := S1x2x2048x512) (k0_off4 k 2#32) S1x1x2048x128.size (k0_off4_inb k 2)).toLoadRect f1) = Sc X (4 * (k.val + 1) + 1) := congrArg₂ (scoreSt lane) (q_of _ f1 X h1 k 2 (4 * (k.val + 1) + 1) rfl) (k_of _ f1 X h1 k 2 (4 * (k.val + 1) + 1) rfl)
  have hL2 : laneSt lane (arg1.view.readAt (Elt F) (Rect.unit (s := S1x2x2048x512) (k0_off3 k 2#32) S1x1x128x256.size (k0_off3_inb k 2)).toLoadRect f1) (arg1.view.readAt (Elt F) (Rect.unit (s := S1x2x2048x512) (k0_off4 k 2#32) S1x1x2048x128.size (k0_off4_inb k 2)).toLoadRect f1) = LM X (4 * (k.val + 1) + 1) := congrArg₂ (laneSt lane) (q_of _ f1 X h1 k 2 (4 * (k.val + 1) + 1) rfl) (k_of _ f1 X h1 k 2 (4 * (k.val + 1) + 1) rfl)
  have hR2 : rowSt (cov arg18.view (laneSt lane (arg1.view.readAt (Elt F) (Rect.unit (s := S1x2x2048x512) (k0_off3 k 2#32) S1x1x128x256.size (k0_off3_inb k 2)).toLoadRect f1) (arg1.view.readAt (Elt F) (Rect.unit (s := S1x2x2048x512) (k0_off4 k 2#32) S1x1x2048x128.size (k0_off4_inb k 2)).toLoadRect f1))) = RM X (4 * (k.val + 1) + 1) := by rw [cov_eq, hL2]; rfl
  have hS3 : scoreSt lane (arg1.view.readAt (Elt F) (Rect.unit (s := S1x2x2048x512) (k0_off3 k 3#32) S1x1x128x256.size (k0_off3_inb k 3)).toLoadRect f1) (arg1.view.readAt (Elt F) (Rect.unit (s := S1x2x2048x512) (k0_off4 k 3#32) S1x1x2048x128.size (k0_off4_inb k 3)).toLoadRect f1) = Sc X (4 * (k.val + 1) + 2) := congrArg₂ (scoreSt lane) (q_of _ f1 X h1 k 3 (4 * (k.val + 1) + 2) rfl) (k_of _ f1 X h1 k 3 (4 * (k.val + 1) + 2) rfl)
  have hL3 : laneSt lane (arg1.view.readAt (Elt F) (Rect.unit (s := S1x2x2048x512) (k0_off3 k 3#32) S1x1x128x256.size (k0_off3_inb k 3)).toLoadRect f1) (arg1.view.readAt (Elt F) (Rect.unit (s := S1x2x2048x512) (k0_off4 k 3#32) S1x1x2048x128.size (k0_off4_inb k 3)).toLoadRect f1) = LM X (4 * (k.val + 1) + 2) := congrArg₂ (laneSt lane) (q_of _ f1 X h1 k 3 (4 * (k.val + 1) + 2) rfl) (k_of _ f1 X h1 k 3 (4 * (k.val + 1) + 2) rfl)
  have hRR : rowSt (arg19.view.readAt (Elt F) (Rect.unit (s := S512x128) ![0, 0] S512x128.size inb_S512x128_S512x128_0_0).toLoadRect f19) = RM X (4 * k.val + 2) := by rw [View.readAt_full, h19]; rfl
  have hE0 : outSt (arg14.view.readAt (Elt F) (Rect.unit (s := S512x2048) ![0, 0] S512x2048.size inb_S512x2048_S512x2048_0_0).toLoadRect f14) (arg22.view.readAt (Elt F) (Rect.unit (s := S512x128) ![0, 0] S512x128.size inb_S512x128_S512x128_0_0).toLoadRect f22) (arg1.view.readAt (Elt F) (Rect.unit (s := S1x2x2048x512) (k0_off5 k 0#32) S1x1x2048x128.size (k0_off5_inb k 0)).toLoadRect f1) = OE X (4 * k.val + 1) := by rw [View.readAt_full, h14, View.readAt_full, h22]; exact congrArg (outSt _ _) (v_of _ f1 X h1 k 0 (4 * k.val + 1) rfl)
  have hE1 : outSt (arg15.view.readAt (Elt F) (Rect.unit (s := S512x2048) ![0, 0] S512x2048.size inb_S512x2048_S512x2048_0_0).toLoadRect f15) (cov arg23.view (rowSt (arg19.view.readAt (Elt F) (Rect.unit (s := S512x128) ![0, 0] S512x128.size inb_S512x128_S512x128_0_0).toLoadRect f19))) (arg1.view.readAt (Elt F) (Rect.unit (s := S1x2x2048x512) (k0_off5 k 1#32) S1x1x2048x128.size (k0_off5_inb k 1)).toLoadRect f1) = OE X (4 * k.val + 2) := by rw [View.readAt_full, h15, hRR, cov_eq]; exact congrArg (outSt _ _) (v_of _ f1 X h1 k 1 (4 * k.val + 2) rfl)
  have hE2 : outSt (cov2 arg16.view (scoreSt lane (arg1.view.readAt (Elt F) (Rect.unit (s := S1x2x2048x512) (k0_off3 k 0#32) S1x1x128x256.size (k0_off3_inb k 0)).toLoadRect f1) (arg1.view.readAt (Elt F) (Rect.unit (s := S1x2x2048x512) (k0_off4 k 0#32) S1x1x2048x128.size (k0_off4_inb k 0)).toLoadRect f1))) (cov arg24.view (rowSt (cov arg20.view (laneSt lane (arg1.view.readAt (Elt F) (Rect.unit (s := S1x2x2048x512) (k0_off3 k 0#32) S1x1x128x256.size (k0_off3_inb k 0)).toLoadRect f1) (arg1.view.readAt (Elt F) (Rect.unit (s := S1x2x2048x512) (k0_off4 k 0#32) S1x1x2048x128.size (k0_off4_inb k 0)).toLoadRect f1))))) (arg1.view.readAt (Elt F) (Rect.unit (s := S1x2x2048x512) (k0_off5 k 2#32) S1x1x2048x128.size (k0_off5_inb k 2)).toLoadRect f1) = OE X (4 * k.val + 3) := by rw [hR0, cov_eq, cov2_eq, hS0]; exact congrArg (outSt _ _) (v_of _ f1 X h1 k 2 (4 * k.val + 3) rfl)
  have hE3 : outSt (cov2 arg13.view (scoreSt lane (arg1.view.readAt (Elt F) (Rect.unit (s := S1x2x2048x512) (k0_off3 k 1#32) S1x1x128x256.size (k0_off3_inb k 1)).toLoadRect f1) (arg1.view.readAt (Elt F) (Rect.unit (s := S1x2x2048x512) (k0_off4 k 1#32) S1x1x2048x128.size (k0_off4_inb k 1)).toLoadRect f1))) (cov arg21.view (rowSt (cov arg17.view (laneSt lane (arg1.view.readAt (Elt F) (Rect.unit (s := S1x2x2048x512) (k0_off3 k 1#32) S1x1x128x256.size (k0_off3_inb k 1)).toLoadRect f1) (arg1.view.readAt (Elt F) (Rect.unit (s := S1x2x2048x512) (k0_off4 k 1#32) S1x1x2048x128.size (k0_off4_inb k 1)).toLoadRect f1))))) (arg1.view.readAt (Elt F) (Rect.unit (s := S1x2x2048x512) (k0_off5 k 3#32) S1x1x2048x128.size (k0_off5_inb k 3)).toLoadRect f1) = OE X (4 * (k.val + 1)) := by rw [hR1, cov_eq, cov2_eq, hS1]; exact congrArg (outSt _ _) (v_of _ f1 X h1 k 3 (4 * (k.val + 1)) rfl)
  iintro ⟨H1, H8, H13, H14, H15, H16, H17, H18, H19, H20, H21, H22, H23, H24, H25, H26, H27, H28⟩
  unfold k0_t1_body
  sl_exec_parts
  sl_step
  isplitl [H1]; · iexact H1
  isplitl [H8]
  · iexists _; isplitl [H8]; · iexact H8
    ipureintro
    refine congrArg (fun L => arg8.view.read (Elt F) (arg8.view.writes (Elt F) f8 L)) ?_
    refine piece_cons (F := F) (s := S1x2x2048x256) (e := .bf16) (size := S1x1x128x128.size) (off2_eq k 3) _ _ _ _ ?_ (piece_cons (F := F) (s := S1x2x2048x256) (e := .bf16) (size := S1x1x128x128.size) (off1_eq k 3) _ _ _ _ ?_ (piece_cons (F := F) (s := S1x2x2048x256) (e := .bf16) (size := S1x1x128x128.size) (off2_eq k 2) _ _ _ _ ?_ (piece_cons (F := F) (s := S1x2x2048x256) (e := .bf16) (size := S1x1x128x128.size) (off1_eq k 2) _ _ _ _ ?_ (piece_cons (F := F) (s := S1x2x2048x256) (e := .bf16) (size := S1x1x128x128.size) (off2_eq k 1) _ _ _ _ ?_ (piece_cons (F := F) (s := S1x2x2048x256) (e := .bf16) (size := S1x1x128x128.size) (off1_eq k 1) _ _ _ _ ?_ (piece_cons (F := F) (s := S1x2x2048x256) (e := .bf16) (size := S1x1x128x128.size) (off2_eq k 0) _ _ _ _ ?_ (piece_cons (F := F) (s := S1x2x2048x256) (e := .bf16) (size := S1x1x128x128.size) (off1_eq k 0) _ _ _ _ ?_ rfl)))))))
    · exact fin_of arg28.view hE2 _ _
    · exact fin_of arg28.view hE2 _ _
    · exact fin_of arg27.view hE1 _ _
    · exact fin_of arg27.view hE1 _ _
    · exact fin_of arg26.view hE0 _ _
    · exact fin_of arg26.view hE0 _ _
    · exact fin_at h25 _ _
    · exact fin_at h25 _ _
  isplitl [H13]
  · iexists _; iexact H13
  isplitl [H14]
  · iexists _; isplitl [H14]; · iexact H14
    ipureintro
    refine (View.read_writes_full _ _ _ _ _).trans ?_
    exact hS2
  isplitl [H15]
  · iexists _; isplitl [H15]; · iexact H15
    ipureintro
    refine (View.read_writes_full _ _ _ _ _).trans ?_
    exact hS3
  isplitl [H16]
  · iexists _; iexact H16
  isplitl [H17]
  · iexists _; iexact H17
  isplitl [H18]
  · iexists _; iexact H18
  isplitl [H19]
  · iexists _; isplitl [H19]; · iexact H19
    ipureintro
    refine (View.read_writes_full _ _ _ _ _).trans ?_
    exact hL3
  isplitl [H20]
  · iexists _; iexact H20
  isplitl [H21]
  · iexists _; iexact H21
  isplitl [H22]
  · iexists _; isplitl [H22]; · iexact H22
    ipureintro
    refine (View.read_writes_full _ _ _ _ _).trans ?_
    exact hR2
  isplitl [H23]
  · iexists _; iexact H23
  isplitl [H24]
  · iexists _; iexact H24
  isplitl [H25]
  · iexists _; isplitl [H25]; · iexact H25
    ipureintro
    refine (View.read_writes_full _ _ _ _ _).trans ?_
    exact hE3
  isplitl [H26]
  · iexists _; iexact H26
  isplitl [H27]
  · iexists _; iexact H27
  · iexists _; iexact H28

end Cert.Proof.AttnIdeal

end
-- ==== Proof.Attention.Start.lean ====
module

public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import Idealize.ShloMosaic.Lib.Tactic
public import proofs.«01_k».proof.Proof.Attention.Trip

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

set_option maxHeartbeats 4000000 in
/-- The start of a point: at the first point the first two tiles' scores are computed, at the others they were left by
    the point before. -/
theorem start_spec (c : Dev nD) (i : grid0.Coords)
  (arg1 : Memref sig .tc .vmem S1x2x2048x512 .bf16) (harg1 : arg1.IsWhole)
  (arg2 : Memref sig .tc .vmem S1x1x256x256 .bf16) (harg2 : arg2.IsWhole)
  (arg3 : Memref sig .tc .vmem S1x1x2048x128 .bf16) (harg3 : arg3.IsWhole)
  (arg4 : Memref sig .tc .vmem S128x1024 .f32) (harg4 : arg4.IsWhole)
  (arg5 : Memref sig .tc .vmem S128x2816 .f32) (harg5 : arg5.IsWhole)
  (arg6 : Memref sig .tc .vmem S128x2816 .f32) (harg6 : arg6.IsWhole)
  (arg7 : Memref sig .tc .vmem S352x1024 .f32) (harg7 : arg7.IsWhole)
  (arg8 : Memref sig .tc .vmem S1x2x2048x256 .bf16) (harg8 : arg8.IsWhole)
  (arg9 : Memref sig .tc .vmem S128x1024 .bf16) (harg9 : arg9.IsWhole)
  (arg10 : Memref sig .tc .vmem S128x2816 .bf16) (harg10 : arg10.IsWhole)
  (arg11 : Memref sig .tc .vmem S128x2816 .bf16) (harg11 : arg11.IsWhole)
  (arg12 : Memref sig .tc .vmem S352x1024 .bf16) (harg12 : arg12.IsWhole)
  (arg13 : Memref sig .tc .vmem S512x2048 .f32) (harg13 : arg13.IsWhole)
  (arg14 : Memref sig .tc .vmem S512x2048 .f32) (harg14 : arg14.IsWhole)
  (arg15 : Memref sig .tc .vmem S512x2048 .f32) (harg15 : arg15.IsWhole)
  (arg16 : Memref sig .tc .vmem S512x2048 .f32) (harg16 : arg16.IsWhole)
  (arg17 : Memref sig .tc .vmem S512x128 .f32) (harg17 : arg17.IsWhole)
  (arg18 : Memref sig .tc .vmem S512x128 .f32) (harg18 : arg18.IsWhole)
  (arg19 : Memref sig .tc .vmem S512x128 .f32) (harg19 : arg19.IsWhole)
  (arg20 : Memref sig .tc .vmem S512x128 .f32) (harg20 : arg20.IsWhole)
  (arg21 : Memref sig .tc .vmem S512x128 .f32) (harg21 : arg21.IsWhole)
  (arg22 : Memref sig .tc .vmem S512x128 .f32) (harg22 : arg22.IsWhole)
  (arg23 : Memref sig .tc .vmem S512x128 .f32) (harg23 : arg23.IsWhole)
  (arg24 : Memref sig .tc .vmem S512x128 .f32) (harg24 : arg24.IsWhole)
  (arg25 : Memref sig .tc .vmem S512x128 .f32) (harg25 : arg25.IsWhole)
  (arg26 : Memref sig .tc .vmem S512x128 .f32) (harg26 : arg26.IsWhole)
  (arg27 : Memref sig .tc .vmem S512x128 .f32) (harg27 : arg27.IsWhole)
  (arg28 : Memref sig .tc .vmem S512x128 .f32) (harg28 : arg28.IsWhole) (X : Vec F S1x2x2048x512 .bf16)
  (f1 : Bf (F := F) c arg1) (f13 : Bf (F := F) c arg13) (f14 : Bf (F := F) c arg14) (f17 : Bf (F := F) c arg17) (f18 : Bf (F := F) c arg18) (f21 : Bf (F := F) c arg21) (f22 : Bf (F := F) c arg22) (h1 : arg1.view.read (Elt F) f1 = X)
  (hc : k0_cond1 i = 1#1 ∨ (arg13.view.read (Elt F) f13 = Sc X 0 ∧ arg14.view.read (Elt F) f14 = Sc X 1 ∧ arg18.view.read (Elt F) f18 = LM X 1 ∧ arg21.view.read (Elt F) f21 = RM X 0)) :
  iprop(pt c arg1 f1 ∗ pt c arg13 f13 ∗ pt c arg14 f14 ∗ pt c arg17 f17 ∗ pt c arg18 f18 ∗ pt c arg21 f21 ∗ pt c arg22 f22) ⊢ wp frame (wpE (defs₀ (F := F)) 𝒱₀ (c : Thread nD τ) none) Set.univ
   (k0_part35 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) (fun r => iprop(⌜r = ⟨lane, k0_pay152 (arg1.view.readAt (Elt F) (Rect.unit (s := S1x2x2048x512) ![0, 0, 0, 256] S1x1x2048x128.size inb_S1x2x2048x512_S1x1x2048x128_0_0_0_256).toLoadRect f1), k0_pay153 (arg1.view.readAt (Elt F) (Rect.unit (s := S1x2x2048x512) ![0, 0, 256, 0] S1x1x128x256.size inb_S1x2x2048x512_S1x1x128x256_0_0_256_0).toLoadRect f1), k0_pay154 (arg1.view.readAt (Elt F) (Rect.unit (s := S1x2x2048x512) ![0, 0, 256, 0] S1x1x128x256.size inb_S1x2x2048x512_S1x1x128x256_0_0_256_0).toLoadRect f1), k0_pay155, 64#32, k0_pay156, k0_pay157, k0_pay158⟩⌝ ∗ pt c arg1 f1 ∗ (∃ f, pt c arg13 f ∗ ⌜arg13.view.read (Elt F) f = Sc X 0⌝) ∗ (∃ f, pt c arg14 f ∗ ⌜arg14.view.read (Elt F) f = Sc X 1⌝) ∗ (∃ f, pt c arg17 f) ∗ (∃ f, pt c arg18 f ∗ ⌜arg18.view.read (Elt F) f = LM X 1⌝) ∗ (∃ f, pt c arg21 f ∗ ⌜arg21.view.read (Elt F) f = RM X 0⌝) ∗ (∃ f, pt c arg22 f ∗ ⌜arg22.view.read (Elt F) f = RM X 1⌝))) := by
  subst h1
  have hq0 : (arg1.view.readAt (Elt F) (Rect.unit (s := S1x2x2048x512) ![0, 0, 0, 0] S1x1x128x256.size inb_S1x2x2048x512_S1x1x128x256_0_0_0_0).toLoadRect f1) = qT (arg1.view.read (Elt F) f1) 0 := rfl
  have hq1 : (arg1.view.readAt (Elt F) (Rect.unit (s := S1x2x2048x512) ![0, 0, 128, 0] S1x1x128x256.size inb_S1x2x2048x512_S1x1x128x256_0_0_128_0).toLoadRect f1) = qT (arg1.view.read (Elt F) f1) 1 := rfl
  have hk0 : (arg1.view.readAt (Elt F) (Rect.unit (s := S1x2x2048x512) ![0, 0, 0, 256] S1x1x2048x128.size inb_S1x2x2048x512_S1x1x2048x128_0_0_0_256).toLoadRect f1) = kT (arg1.view.read (Elt F) f1) 0 := rfl
  have hS0 : scoreSt lane (arg1.view.readAt (Elt F) (Rect.unit (s := S1x2x2048x512) ![0, 0, 0, 0] S1x1x128x256.size inb_S1x2x2048x512_S1x1x128x256_0_0_0_0).toLoadRect f1) (arg1.view.readAt (Elt F) (Rect.unit (s := S1x2x2048x512) ![0, 0, 0, 256] S1x1x2048x128.size inb_S1x2x2048x512_S1x1x2048x128_0_0_0_256).toLoadRect f1) = Sc (arg1.view.read (Elt F) f1) 0 := congrArg₂ (scoreSt lane) hq0 hk0
  have hS1 : scoreSt lane (arg1.view.readAt (Elt F) (Rect.unit (s := S1x2x2048x512) ![0, 0, 128, 0] S1x1x128x256.size inb_S1x2x2048x512_S1x1x128x256_0_0_128_0).toLoadRect f1) (arg1.view.readAt (Elt F) (Rect.unit (s := S1x2x2048x512) ![0, 0, 0, 256] S1x1x2048x128.size inb_S1x2x2048x512_S1x1x2048x128_0_0_0_256).toLoadRect f1) = Sc (arg1.view.read (Elt F) f1) 1 := congrArg₂ (scoreSt lane) hq1 hk0
  have hL0 : laneSt lane (arg1.view.readAt (Elt F) (Rect.unit (s := S1x2x2048x512) ![0, 0, 0, 0] S1x1x128x256.size inb_S1x2x2048x512_S1x1x128x256_0_0_0_0).toLoadRect f1) (arg1.view.readAt (Elt F) (Rect.unit (s := S1x2x2048x512) ![0, 0, 0, 256] S1x1x2048x128.size inb_S1x2x2048x512_S1x1x2048x128_0_0_0_256).toLoadRect f1) = LM (arg1.view.read (Elt F) f1) 0 := congrArg₂ (laneSt lane) hq0 hk0
  have hL1 : laneSt lane (arg1.view.readAt (Elt F) (Rect.unit (s := S1x2x2048x512) ![0, 0, 128, 0] S1x1x128x256.size inb_S1x2x2048x512_S1x1x128x256_0_0_128_0).toLoadRect f1) (arg1.view.readAt (Elt F) (Rect.unit (s := S1x2x2048x512) ![0, 0, 0, 256] S1x1x2048x128.size inb_S1x2x2048x512_S1x1x2048x128_0_0_0_256).toLoadRect f1) = LM (arg1.view.read (Elt F) f1) 1 := congrArg₂ (laneSt lane) hq1 hk0
  have hR0 : rowSt (cov arg17.view (laneSt lane (arg1.view.readAt (Elt F) (Rect.unit (s := S1x2x2048x512) ![0, 0, 0, 0] S1x1x128x256.size inb_S1x2x2048x512_S1x1x128x256_0_0_0_0).toLoadRect f1) (arg1.view.readAt (Elt F) (Rect.unit (s := S1x2x2048x512) ![0, 0, 0, 256] S1x1x2048x128.size inb_S1x2x2048x512_S1x1x2048x128_0_0_0_256).toLoadRect f1))) = RM (arg1.view.read (Elt F) f1) 0 := by rw [cov_eq, hL0]; rfl
  have hR1 : rowSt (cov arg18.view (laneSt lane (arg1.view.readAt (Elt F) (Rect.unit (s := S1x2x2048x512) ![0, 0, 128, 0] S1x1x128x256.size inb_S1x2x2048x512_S1x1x128x256_0_0_128_0).toLoadRect f1) (arg1.view.readAt (Elt F) (Rect.unit (s := S1x2x2048x512) ![0, 0, 0, 256] S1x1x2048x128.size inb_S1x2x2048x512_S1x1x2048x128_0_0_0_256).toLoadRect f1))) = RM (arg1.view.read (Elt F) f1) 1 := by rw [cov_eq, hL1]; rfl
  by_cases hcond : k0_cond1 i = 1#1
  · iintro ⟨H1, H13, H14, H17, H18, H21, H22⟩
    unfold k0_part35
    sl_exec_parts
    sl_step
    isplitl []; · ipureintro; rfl
    isplitl [H1]; · iexact H1
    isplitl [H13]
    · iexists _; isplitl [H13]; · iexact H13
      ipureintro; refine (View.read_writes_full _ _ _ _ _).trans ?_; exact hS0
    isplitl [H14]
    · iexists _; isplitl [H14]; · iexact H14
      ipureintro; refine (View.read_writes_full _ _ _ _ _).trans ?_; exact hS1
    isplitl [H17]; · iexists _; iexact H17
    isplitl [H18]
    · iexists _; isplitl [H18]; · iexact H18
      ipureintro; refine (View.read_writes_full _ _ _ _ _).trans ?_; exact hL1
    isplitl [H21]
    · iexists _; isplitl [H21]; · iexact H21
      ipureintro; refine (View.read_writes_full _ _ _ _ _).trans ?_; exact hR0
    iexists _; isplitl [H22]; · iexact H22
    ipureintro; refine (View.read_writes_full _ _ _ _ _).trans ?_; exact hR1
  · have hr := hc.resolve_left hcond
    iintro ⟨H1, H13, H14, H17, H18, H21, H22⟩
    unfold k0_part35
    sl_exec_parts
    obtain ⟨h13, h14, h18, h21⟩ := hr
    sl_step
    isplitl []; · ipureintro; rfl
    isplitl [H1]; · iexact H1
    isplitl [H13]; · iexists _; isplitl [H13]; · iexact H13
                     ipureintro; exact h13
    isplitl [H14]; · iexists _; isplitl [H14]; · iexact H14
                     ipureintro; exact h14
    isplitl [H17]; · iexists _; iexact H17
    isplitl [H18]; · iexists _; isplitl [H18]; · iexact H18
                     ipureintro; exact h18
    isplitl [H21]; · iexists _; isplitl [H21]; · iexact H21
                     ipureintro; exact h21
    iexists _; isplitl [H22]; · iexact H22
    ipureintro
    refine (View.read_writes_full _ _ _ _ _).trans ?_
    show rowSt (arg18.view.readAt (Elt F) (Rect.unit (s := S512x128) ![0, 0] S512x128.size inb_S512x128_S512x128_0_0).toLoadRect f18) = RM (arg1.view.read (Elt F) f1) 1
    rw [View.readAt_full, h18]; rfl

end Cert.Proof.AttnIdeal

end
-- ==== Proof.Attention.Tiles.lean ====
module

public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import Idealize.ShloMosaic.Lib.Tactic
public import Idealize.ShloMosaic.Lib.WritesUnit
public import proofs.«01_k».proof.Proof.Attention.Trip

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The result of a batch at one place: row `x 2` of head pair `x 1` belongs to tile `16 (x 1) + x 2 / 128`. -/
def tileOf (x : S1x2x2048x256.Idx) : ℕ := 16 * (x (1 : Fin 4)).val + (x (2 : Fin 4)).val / 128
/-- A place within a tile's half. -/
def inTile (r l : ℕ) : S1x1x128x128.Idx :=
  fun | 0 => ⟨0, by decide⟩ | 1 => ⟨0, by decide⟩ | 2 => ⟨r % 128, Nat.mod_lt _ (by decide)⟩ | 3 => ⟨l % 128, Nat.mod_lt _ (by decide)⟩
/-- What the batch with block `X` holds at `x` when all its tiles are written. -/
def outAt (X : Vec F S1x2x2048x512 .bf16) (x : S1x2x2048x256.Idx) : Elt F .bf16 :=
  if (x (3 : Fin 4)).val < 128 then O1 X (tileOf x) (inTile (x (2 : Fin 4)).val (x (3 : Fin 4)).val)
  else O2 X (tileOf x) (inTile (x (2 : Fin 4)).val (x (3 : Fin 4)).val)
/-- The tiles below `n` are written. -/
def Upto (X : Vec F S1x2x2048x512 .bf16) (n : ℕ) (Y : S1x2x2048x256.Idx → Elt F .bf16) : Prop :=
  ∀ x, tileOf x < n → Y x = outAt X x

theorem tileOf_lt (x : S1x2x2048x256.Idx) : tileOf x < 32 := by
  have h1 : (x (1 : Fin 4)).val < 2 := (x (1 : Fin 4)).isLt
  have h2 : (x (2 : Fin 4)).val < 2048 := (x (2 : Fin 4)).isLt
  unfold tileOf; omega

/-- Writing the two halves of tile `n` over a buffer that has the tiles below `n`. -/
theorem Upto.succ (v : View sig .tc .vmem S1x2x2048x256 .bf16) (f : v.ty.Contents (Elt F)) (X : Vec F S1x2x2048x512 .bf16) (n : ℕ) (hn : n < 32)
    (L : List (View.Piece (Elt F) S1x2x2048x256 .bf16)) (h : Upto X n (v.read (Elt F) (v.writes (Elt F) f L))) :
    Upto X (n + 1) (v.read (Elt F) (v.writes (Elt F) f (pieceR X n :: pieceL X n :: L))) := by
  intro x hx
  have b0 : (x (0 : Fin 4)).val < 1 := (x (0 : Fin 4)).isLt
  have b1 : (x (1 : Fin 4)).val < 2 := (x (1 : Fin 4)).isLt
  have b2 : (x (2 : Fin 4)).val < 2048 := (x (2 : Fin 4)).isLt
  have b3 : (x (3 : Fin 4)).val < 256 := (x (3 : Fin 4)).isLt
  by_cases ht : tileOf x = n
  · by_cases h3 : (x (3 : Fin 4)).val < 128
    · refine (View.read_writes_cons_unit_of_not_mem (size := S1x1x128x128.size) (off' := ![0, n / 16 % 2, 128 * (n % 16), 128]) v f _ _ _ x rfl (3 : Fin 4) (Or.inl h3)).trans ?_
      have hx : ∀ a : Fin 4, (x a).val = (![0, n / 16 % 2, 128 * (n % 16), 0] : Fin 4 → ℕ) a + (inTile (x (2 : Fin 4)).val (x (3 : Fin 4)).val a).val := by
        intro a; unfold tileOf at ht
        match a with
        | 0 => show (x (0 : Fin 4)).val = 0 + 0; omega
        | 1 => show (x (1 : Fin 4)).val = n / 16 % 2 + 0; omega
        | 2 => show (x (2 : Fin 4)).val = 128 * (n % 16) + (x (2 : Fin 4)).val % 128; omega
        | 3 => show (x (3 : Fin 4)).val = 0 + (x (3 : Fin 4)).val % 128; omega
      refine (View.read_writes_cons_unit_of_mem (size := S1x1x128x128.size) (off' := ![0, n / 16 % 2, 128 * (n % 16), 0]) v f _ _ _ x (inTile (x (2 : Fin 4)).val (x (3 : Fin 4)).val) rfl hx).trans ?_
      unfold outAt; rw [if_pos h3, ht]
    · have hx : ∀ a : Fin 4, (x a).val = (![0, n / 16 % 2, 128 * (n % 16), 128] : Fin 4 → ℕ) a + (inTile (x (2 : Fin 4)).val (x (3 : Fin 4)).val a).val := by
        intro a; unfold tileOf at ht
        match a with
        | 0 => show (x (0 : Fin 4)).val = 0 + 0; omega
        | 1 => show (x (1 : Fin 4)).val = n / 16 % 2 + 0; omega
        | 2 => show (x (2 : Fin 4)).val = 128 * (n % 16) + (x (2 : Fin 4)).val % 128; omega
        | 3 => show (x (3 : Fin 4)).val = 128 + (x (3 : Fin 4)).val % 128; omega
      refine (View.read_writes_cons_unit_of_mem (size := S1x1x128x128.size) (off' := ![0, n / 16 % 2, 128 * (n % 16), 128]) v f _ _ _ x (inTile (x (2 : Fin 4)).val (x (3 : Fin 4)).val) rfl hx).trans ?_
      unfold outAt; rw [if_neg h3, ht]
  · have hlt : tileOf x < n := by omega
    rw [← h x hlt]
    have key : ((x (1 : Fin 4)).val < n / 16 % 2 ∨ n / 16 % 2 + 1 ≤ (x (1 : Fin 4)).val) ∨
        ((x (2 : Fin 4)).val < 128 * (n % 16) ∨ 128 * (n % 16) + 128 ≤ (x (2 : Fin 4)).val) := by
      unfold tileOf at ht; omega
    rcases key with k | k
    · exact (View.read_writes_cons_unit_of_not_mem (size := S1x1x128x128.size) (off' := ![0, n / 16 % 2, 128 * (n % 16), 128]) v f _ _ _ x rfl (1 : Fin 4) k).trans (View.read_writes_cons_unit_of_not_mem (size := S1x1x128x128.size) (off' := ![0, n / 16 % 2, 128 * (n % 16), 0]) v f _ _ _ x rfl (1 : Fin 4) k)
    · exact (View.read_writes_cons_unit_of_not_mem (size := S1x1x128x128.size) (off' := ![0, n / 16 % 2, 128 * (n % 16), 128]) v f _ _ _ x rfl (2 : Fin 4) k).trans (View.read_writes_cons_unit_of_not_mem (size := S1x1x128x128.size) (off' := ![0, n / 16 % 2, 128 * (n % 16), 0]) v f _ _ _ x rfl (2 : Fin 4) k)

end Cert.Proof.AttnIdeal

end
-- ==== Proof.Attention.Body.lean ====
module

public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import Idealize.ShloMosaic.Lib.Tactic
public import proofs.«01_k».proof.Proof.Attention.Start
public import proofs.«01_k».proof.Proof.Attention.Tiles

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

set_option maxHeartbeats 4000000 in
/-- One point of the grid: the batch's 32 tiles are written, the weights' slabs are narrowed, and the first two tiles of
    the next batch are left scored. -/
theorem body (c : Dev nD) (i : grid0.Coords)
  (arg1 : Memref sig .tc .vmem S1x2x2048x512 .bf16) (harg1 : arg1.IsWhole)
  (arg2 : Memref sig .tc .vmem S1x1x256x256 .bf16) (harg2 : arg2.IsWhole)
  (arg3 : Memref sig .tc .vmem S1x1x2048x128 .bf16) (harg3 : arg3.IsWhole)
  (arg4 : Memref sig .tc .vmem S128x1024 .f32) (harg4 : arg4.IsWhole)
  (arg5 : Memref sig .tc .vmem S128x2816 .f32) (harg5 : arg5.IsWhole)
  (arg6 : Memref sig .tc .vmem S128x2816 .f32) (harg6 : arg6.IsWhole)
  (arg7 : Memref sig .tc .vmem S352x1024 .f32) (harg7 : arg7.IsWhole)
  (arg8 : Memref sig .tc .vmem S1x2x2048x256 .bf16) (harg8 : arg8.IsWhole)
  (arg9 : Memref sig .tc .vmem S128x1024 .bf16) (harg9 : arg9.IsWhole)
  (arg10 : Memref sig .tc .vmem S128x2816 .bf16) (harg10 : arg10.IsWhole)
  (arg11 : Memref sig .tc .vmem S128x2816 .bf16) (harg11 : arg11.IsWhole)
  (arg12 : Memref sig .tc .vmem S352x1024 .bf16) (harg12 : arg12.IsWhole)
  (arg13 : Memref sig .tc .vmem S512x2048 .f32) (harg13 : arg13.IsWhole)
  (arg14 : Memref sig .tc .vmem S512x2048 .f32) (harg14 : arg14.IsWhole)
  (arg15 : Memref sig .tc .vmem S512x2048 .f32) (harg15 : arg15.IsWhole)
  (arg16 : Memref sig .tc .vmem S512x2048 .f32) (harg16 : arg16.IsWhole)
  (arg17 : Memref sig .tc .vmem S512x128 .f32) (harg17 : arg17.IsWhole)
  (arg18 : Memref sig .tc .vmem S512x128 .f32) (harg18 : arg18.IsWhole)
  (arg19 : Memref sig .tc .vmem S512x128 .f32) (harg19 : arg19.IsWhole)
  (arg20 : Memref sig .tc .vmem S512x128 .f32) (harg20 : arg20.IsWhole)
  (arg21 : Memref sig .tc .vmem S512x128 .f32) (harg21 : arg21.IsWhole)
  (arg22 : Memref sig .tc .vmem S512x128 .f32) (harg22 : arg22.IsWhole)
  (arg23 : Memref sig .tc .vmem S512x128 .f32) (harg23 : arg23.IsWhole)
  (arg24 : Memref sig .tc .vmem S512x128 .f32) (harg24 : arg24.IsWhole)
  (arg25 : Memref sig .tc .vmem S512x128 .f32) (harg25 : arg25.IsWhole)
  (arg26 : Memref sig .tc .vmem S512x128 .f32) (harg26 : arg26.IsWhole)
  (arg27 : Memref sig .tc .vmem S512x128 .f32) (harg27 : arg27.IsWhole)
  (arg28 : Memref sig .tc .vmem S512x128 .f32) (harg28 : arg28.IsWhole) (X X' : Vec F S1x2x2048x512 .bf16)
  (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27) (f28 : Bf (F := F) c arg28) (h1 : arg1.view.read (Elt F) f1 = X)
  (hn : View.ld (arg2.view.read (Elt F) f2) (Rect.unit (s := S1x1x256x256) ![0, 0, 0, 0] S1x1x128x256.size inb_S1x1x256x256_S1x1x128x256_0_0_0_0) = qT X' 0 ∧
    View.ld (arg2.view.read (Elt F) f2) (Rect.unit (s := S1x1x256x256) ![0, 0, 128, 0] S1x1x128x256.size inb_S1x1x256x256_S1x1x128x256_0_0_128_0) = qT X' 1 ∧
    arg3.view.read (Elt F) f3 = kT X' 0)
  (hc : k0_cond1 i = 1#1 ∨ (arg13.view.read (Elt F) f13 = Sc X 0 ∧ arg14.view.read (Elt F) f14 = Sc X 1 ∧ arg18.view.read (Elt F) f18 = LM X 1 ∧ arg21.view.read (Elt F) f21 = RM X 0)) :
  iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ pt c arg28 f28) ⊢ wp frame (wpE (defs₀ (F := F)) 𝒱₀ (c : Thread nD τ) none) Set.univ
   (cc0_attention i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) (fun _ => iprop(pt c arg1 f1 ∗ pt c arg2 f2 ∗ pt c arg3 f3 ∗ pt c arg4 f4 ∗ pt c arg5 f5 ∗ pt c arg6 f6 ∗ pt c arg7 f7 ∗ (∃ f, pt c arg8 f ∗ ⌜arg8.view.read (Elt F) f = outAt X⌝) ∗ (∃ f, pt c arg9 f ∗ ⌜arg9.view.read (Elt F) f = truncf .bf16 (arg4.view.read (Elt F) f4) bitsLt_bf16_f32⌝) ∗ (∃ f, pt c arg10 f ∗ ⌜arg10.view.read (Elt F) f = truncf .bf16 (arg5.view.read (Elt F) f5) bitsLt_bf16_f32⌝) ∗ (∃ f, pt c arg11 f ∗ ⌜arg11.view.read (Elt F) f = truncf .bf16 (arg6.view.read (Elt F) f6) bitsLt_bf16_f32⌝) ∗ (∃ f, pt c arg12 f ∗ ⌜arg12.view.read (Elt F) f = truncf .bf16 (arg7.view.read (Elt F) f7) bitsLt_bf16_f32⌝) ∗ (∃ f, pt c arg13 f ∗ ⌜arg13.view.read (Elt F) f = Sc X' 0⌝) ∗ (∃ f, pt c arg14 f ∗ ⌜arg14.view.read (Elt F) f = Sc X' 1⌝) ∗ (∃ f, pt c arg15 f) ∗ (∃ f, pt c arg16 f) ∗ (∃ f, pt c arg17 f) ∗ (∃ f, pt c arg18 f ∗ ⌜arg18.view.read (Elt F) f = LM X' 1⌝) ∗ (∃ f, pt c arg19 f) ∗ (∃ f, pt c arg20 f) ∗ (∃ f, pt c arg21 f ∗ ⌜arg21.view.read (Elt F) f = RM X' 0⌝) ∗ (∃ f, pt c arg22 f) ∗ (∃ f, pt c arg23 f) ∗ (∃ f, pt c arg24 f) ∗ (∃ f, pt c arg25 f) ∗ (∃ f, pt c arg26 f) ∗ (∃ f, pt c arg27 f) ∗ (∃ f, pt c arg28 f))) := by
  have hs := start_spec (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 X f1 f13 f14 f17 f18 f21 f22 h1 hc
  rw [cc0_attention_eq_skeleton]; unfold cc0_attention_skel
  rw [wp_bind]
  iintro ⟨H1, H2, H3, H4, H5, H6, H7, H8, H9, H10, H11, H12, H13, H14, H15, H16, H17, H18, H19, H20, H21, H22, H23, H24, H25, H26, H27, H28⟩
  iapply (wp_wand_r Idealize.ShloMosaic.frame (wpE (defs₀ (F := F)) 𝒱₀ (c : Thread nD τ) none) Set.univ)
  isplitl [H1 H13 H14 H17 H18 H21 H22]
  · iapply hs
    iframe
  iintro %r ⟨%hr, H1, ⟨%g13, H13, %e13⟩, ⟨%g14, H14, %e14⟩, ⟨%g17, H17⟩, ⟨%g18, H18, %e18⟩, ⟨%g21, H21, %e21⟩, ⟨%g22, H22, %e22⟩⟩
  subst hr
  dsimp only
  sl_exec_parts
  sl_for (fun (k : ℕ) (_ : PUnit) => iprop(pt c arg1 f1 ∗ (∃ f, pt c arg8 f ∗ ⌜Upto X (4 * k) (arg8.view.read (Elt F) f)⌝) ∗ (∃ f, pt c arg13 f) ∗ (∃ f, pt c arg14 f ∗ ⌜arg14.view.read (Elt F) f = Sc X (4 * k + 1)⌝) ∗ (∃ f, pt c arg15 f ∗ ⌜arg15.view.read (Elt F) f = Sc X (4 * k + 2)⌝) ∗ (∃ f, pt c arg16 f) ∗ (∃ f, pt c arg17 f) ∗ (∃ f, pt c arg18 f) ∗ (∃ f, pt c arg19 f ∗ ⌜arg19.view.read (Elt F) f = LM X (4 * k + 2)⌝) ∗ (∃ f, pt c arg20 f) ∗ (∃ f, pt c arg21 f) ∗ (∃ f, pt c arg22 f ∗ ⌜arg22.view.read (Elt F) f = RM X (4 * k + 1)⌝) ∗ (∃ f, pt c arg23 f) ∗ (∃ f, pt c arg24 f) ∗ (∃ f, pt c arg25 f ∗ ⌜arg25.view.read (Elt F) f = OE X (4 * k)⌝) ∗ (∃ f, pt c arg26 f) ∗ (∃ f, pt c arg27 f) ∗ (∃ f, pt c arg28 f))) $$ [H1 H8 H13 H14 H15 H16 H17 H18 H19 H20 H21 H22 H23 H24 H25 H26 H27 H28]
  · intro k acc
    iintro ⟨H1, ⟨%u8, H8, %d8⟩, ⟨%u13, H13⟩, ⟨%u14, H14, %d14⟩, ⟨%u15, H15, %d15⟩, ⟨%u16, H16⟩, ⟨%u17, H17⟩, ⟨%u18, H18⟩, ⟨%u19, H19, %d19⟩, ⟨%u20, H20⟩, ⟨%u21, H21⟩, ⟨%u22, H22, %d22⟩, ⟨%u23, H23⟩, ⟨%u24, H24⟩, ⟨%u25, H25, %d25⟩, ⟨%u26, H26⟩, ⟨%u27, H27⟩, ⟨%u28, H28⟩⟩
    iapply (wp_wand_r Idealize.ShloMosaic.frame (wpE (defs₀ (F := F)) 𝒱₀ (c : Thread nD τ) none) Set.univ)
    isplitl [H1 H8 H13 H14 H15 H16 H17 H18 H19 H20 H21 H22 H23 H24 H25 H26 H27 H28]
    · iapply (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 _ k X f1 u8 u13 u14 u15 u16 u17 u18 u19 u20 u21 u22 u23 u24 u25 u26 u27 u28 h1 d14 d15 d19 d22 d25)
      iframe
    · iintro %_ ⟨H1, ⟨%g8, H8, %p8⟩, H13, H14, H15, H16, H17, H18, H19, H20, H21, H22, H23, H24, H25, H26, H27, H28⟩
      isplitl [H1]; · iexact H1
      isplitl [H8]
      · iexists g8; isplitl [H8]; · iexact H8
        ipureintro
        have hk : k.val < 7 := k.isLt
        rw [p8]
        exact Upto.succ _ _ X (4 * k.val + 3) (by omega) _ (Upto.succ _ _ X (4 * k.val + 2) (by omega) _
          (Upto.succ _ _ X (4 * k.val + 1) (by omega) _ (Upto.succ _ _ X (4 * k.val) (by omega) [] d8)))
      iframe
  · have hq2 : (arg1.view.readAt (Elt F) (Rect.unit (s := S1x2x2048x512) ![0, 0, 256, 0] S1x1x128x256.size inb_S1x2x2048x512_S1x1x128x256_0_0_256_0).toLoadRect f1) = qT X 2 := by rw [← h1]; rfl
    have hk2 : (arg1.view.readAt (Elt F) (Rect.unit (s := S1x2x2048x512) ![0, 0, 0, 256] S1x1x2048x128.size inb_S1x2x2048x512_S1x1x2048x128_0_0_0_256).toLoadRect f1) = kT X 2 := by rw [← h1]; rfl
    have hv0 : (arg1.view.readAt (Elt F) (Rect.unit (s := S1x2x2048x512) ![0, 0, 0, 384] S1x1x2048x128.size inb_S1x2x2048x512_S1x1x2048x128_0_0_0_384).toLoadRect f1) = vT X 0 := by rw [← h1]; rfl
    have hE0 : outSt (arg13.view.readAt (Elt F) (Rect.unit (s := S512x2048) ![0, 0] S512x2048.size inb_S512x2048_S512x2048_0_0).toLoadRect g13) (arg21.view.readAt (Elt F) (Rect.unit (s := S512x128) ![0, 0] S512x128.size inb_S512x128_S512x128_0_0).toLoadRect g21) (arg1.view.readAt (Elt F) (Rect.unit (s := S1x2x2048x512) ![0, 0, 0, 384] S1x1x2048x128.size inb_S1x2x2048x512_S1x1x2048x128_0_0_0_384).toLoadRect f1) = OE X 0 := by
      rw [View.readAt_full, e13, View.readAt_full, e21]; exact congrArg (outSt _ _) hv0
    isplitl [H1]; · iexact H1
    isplitl [H8]
    · iexists _; isplitl [H8]; · iexact H8
      ipureintro; intro x hx; exact absurd hx (by omega)
    isplitl [H13]
    · iexists _; iexact H13
    isplitl [H14]
    · iexists _; isplitl [H14]; · iexact H14
      ipureintro; exact e14
    isplitl [H15]
    · iexists _; isplitl [H15]; · iexact H15
      ipureintro; refine (View.read_writes_full _ _ _ _ _).trans ?_; exact (show scoreSt lane (arg1.view.readAt (Elt F) (Rect.unit (s := S1x2x2048x512) ![0, 0, 256, 0] S1x1x128x256.size inb_S1x2x2048x512_S1x1x128x256_0_0_256_0).toLoadRect f1) (arg1.view.readAt (Elt F) (Rect.unit (s := S1x2x2048x512) ![0, 0, 0, 256] S1x1x2048x128.size inb_S1x2x2048x512_S1x1x2048x128_0_0_0_256).toLoadRect f1) = Sc X 2 from congrArg₂ (scoreSt lane) hq2 hk2)
    isplitl [H16]
    · iexists _; iexact H16
    isplitl [H17]
    · iexists _; iexact H17
    isplitl [H18]
    · iexists _; iexact H18
    isplitl [H19]
    · iexists _; isplitl [H19]; · iexact H19
      ipureintro; refine (View.read_writes_full _ _ _ _ _).trans ?_; exact (show laneSt lane (arg1.view.readAt (Elt F) (Rect.unit (s := S1x2x2048x512) ![0, 0, 256, 0] S1x1x128x256.size inb_S1x2x2048x512_S1x1x128x256_0_0_256_0).toLoadRect f1) (arg1.view.readAt (Elt F) (Rect.unit (s := S1x2x2048x512) ![0, 0, 0, 256] S1x1x2048x128.size inb_S1x2x2048x512_S1x1x2048x128_0_0_0_256).toLoadRect f1) = LM X 2 from congrArg₂ (laneSt lane) hq2 hk2)
    isplitl [H20]
    · iexists _; iexact H20
    isplitl [H21]
    · iexists _; iexact H21
    isplitl [H22]
    · iexists _; isplitl [H22]; · iexact H22
      ipureintro; exact e22
    isplitl [H23]
    · iexists _; iexact H23
    isplitl [H24]
    · iexists _; iexact H24
    isplitl [H25]
    · iexists _; isplitl [H25]; · iexact H25
      ipureintro; refine (View.read_writes_full _ _ _ _ _).trans ?_; exact (show outSt (arg13.view.readAt (Elt F) (Rect.unit (s := S512x2048) ![0, 0] S512x2048.size inb_S512x2048_S512x2048_0_0).toLoadRect g13) (arg21.view.readAt (Elt F) (Rect.unit (s := S512x128) ![0, 0] S512x128.size inb_S512x128_S512x128_0_0).toLoadRect g21) (arg1.view.readAt (Elt F) (Rect.unit (s := S1x2x2048x512) ![0, 0, 0, 384] S1x1x2048x128.size inb_S1x2x2048x512_S1x1x2048x128_0_0_0_384).toLoadRect f1) = OE X 0 from hE0)
    isplitl [H26]
    · iexists _; iexact H26
    isplitl [H27]
    · iexists _; iexact H27
    iexists _; iexact H28
  · iintro %acc ⟨H1, ⟨%u8, H8, %d8⟩, ⟨%u13, H13⟩, ⟨%u14, H14, %d14⟩, ⟨%u15, H15, %d15⟩, ⟨%u16, H16⟩, ⟨%u17, H17⟩, ⟨%u18, H18⟩, ⟨%u19, H19, %d19⟩, ⟨%u20, H20⟩, ⟨%u21, H21⟩, ⟨%u22, H22, %d22⟩, ⟨%u23, H23⟩, ⟨%u24, H24⟩, ⟨%u25, H25, %d25⟩, ⟨%u26, H26⟩, ⟨%u27, H27⟩, ⟨%u28, H28⟩⟩
    sl_exec_parts
    obtain ⟨h2, h2', h3⟩ := hn
    have ht : Scf.trips k0_t1_loop.lb k0_t1_loop.ub k0_t1_loop.st = 7 := by decide
    rw [ht] at d8 d14 d15 d19 d22 d25
    have hq : (arg1.view.readAt (Elt F) (Rect.unit (s := S1x2x2048x512) ![0, 1, 1920, 0] S1x1x128x256.size inb_S1x2x2048x512_S1x1x128x256_0_1_1920_0).toLoadRect f1) = qT X 31 := by rw [← h1]; rfl
    have hk : (arg1.view.readAt (Elt F) (Rect.unit (s := S1x2x2048x512) ![0, 1, 0, 256] S1x1x2048x128.size inb_S1x2x2048x512_S1x1x2048x128_0_1_0_256).toLoadRect f1) = kT X 31 := by rw [← h1]; rfl
    have hv29 : (arg1.view.readAt (Elt F) (Rect.unit (s := S1x2x2048x512) ![0, 1, 0, 384] S1x1x2048x128.size inb_S1x2x2048x512_S1x1x2048x128_0_1_0_384).toLoadRect f1) = vT X 29 := by rw [← h1]; rfl
    have hv30 : (arg1.view.readAt (Elt F) (Rect.unit (s := S1x2x2048x512) ![0, 1, 0, 384] S1x1x2048x128.size inb_S1x2x2048x512_S1x1x2048x128_0_1_0_384).toLoadRect f1) = vT X 30 := by rw [← h1]; rfl
    have hv31 : (arg1.view.readAt (Elt F) (Rect.unit (s := S1x2x2048x512) ![0, 1, 0, 384] S1x1x2048x128.size inb_S1x2x2048x512_S1x1x2048x128_0_1_0_384).toLoadRect f1) = vT X 31 := by rw [← h1]; rfl
    have hn0 : (arg2.view.readAt (Elt F) (Rect.unit (s := S1x1x256x256) ![0, 0, 0, 0] S1x1x128x256.size inb_S1x1x256x256_S1x1x128x256_0_0_0_0).toLoadRect f2) = qT X' 0 := h2
    have hn1 : (arg2.view.readAt (Elt F) (Rect.unit (s := S1x1x256x256) ![0, 0, 128, 0] S1x1x128x256.size inb_S1x1x256x256_S1x1x128x256_0_0_128_0).toLoadRect f2) = qT X' 1 := h2'
    have hnk : (arg3.view.readAt (Elt F) (Rect.unit (s := S1x1x2048x128) ![0, 0, 0, 0] S1x1x2048x128.size inb_S1x1x2048x128_S1x1x2048x128_0_0_0_0).toLoadRect f3) = kT X' 0 := (View.readAt_full ..).trans h3
    have hS31 : scoreSt lane (arg1.view.readAt (Elt F) (Rect.unit (s := S1x2x2048x512) ![0, 1, 1920, 0] S1x1x128x256.size inb_S1x2x2048x512_S1x1x128x256_0_1_1920_0).toLoadRect f1) (arg1.view.readAt (Elt F) (Rect.unit (s := S1x2x2048x512) ![0, 1, 0, 256] S1x1x2048x128.size inb_S1x2x2048x512_S1x1x2048x128_0_1_0_256).toLoadRect f1) = Sc X 31 := congrArg₂ (scoreSt lane) hq hk
    have hL31 : laneSt lane (arg1.view.readAt (Elt F) (Rect.unit (s := S1x2x2048x512) ![0, 1, 1920, 0] S1x1x128x256.size inb_S1x2x2048x512_S1x1x128x256_0_1_1920_0).toLoadRect f1) (arg1.view.readAt (Elt F) (Rect.unit (s := S1x2x2048x512) ![0, 1, 0, 256] S1x1x2048x128.size inb_S1x2x2048x512_S1x1x2048x128_0_1_0_256).toLoadRect f1) = LM X 31 := congrArg₂ (laneSt lane) hq hk
    have hS0 : scoreSt lane (arg2.view.readAt (Elt F) (Rect.unit (s := S1x1x256x256) ![0, 0, 0, 0] S1x1x128x256.size inb_S1x1x256x256_S1x1x128x256_0_0_0_0).toLoadRect f2) (arg3.view.readAt (Elt F) (Rect.unit (s := S1x1x2048x128) ![0, 0, 0, 0] S1x1x2048x128.size inb_S1x1x2048x128_S1x1x2048x128_0_0_0_0).toLoadRect f3) = Sc X' 0 := congrArg₂ (scoreSt lane) hn0 hnk
    have hL0 : laneSt lane (arg2.view.readAt (Elt F) (Rect.unit (s := S1x1x256x256) ![0, 0, 0, 0] S1x1x128x256.size inb_S1x1x256x256_S1x1x128x256_0_0_0_0).toLoadRect f2) (arg3.view.readAt (Elt F) (Rect.unit (s := S1x1x2048x128) ![0, 0, 0, 0] S1x1x2048x128.size inb_S1x1x2048x128_S1x1x2048x128_0_0_0_0).toLoadRect f3) = LM X' 0 := congrArg₂ (laneSt lane) hn0 hnk
    have hS1 : scoreSt lane (arg2.view.readAt (Elt F) (Rect.unit (s := S1x1x256x256) ![0, 0, 128, 0] S1x1x128x256.size inb_S1x1x256x256_S1x1x128x256_0_0_128_0).toLoadRect f2) (arg3.view.readAt (Elt F) (Rect.unit (s := S1x1x2048x128) ![0, 0, 0, 0] S1x1x2048x128.size inb_S1x1x2048x128_S1x1x2048x128_0_0_0_0).toLoadRect f3) = Sc X' 1 := congrArg₂ (scoreSt lane) hn1 hnk
    have hL1 : laneSt lane (arg2.view.readAt (Elt F) (Rect.unit (s := S1x1x256x256) ![0, 0, 128, 0] S1x1x128x256.size inb_S1x1x256x256_S1x1x128x256_0_0_128_0).toLoadRect f2) (arg3.view.readAt (Elt F) (Rect.unit (s := S1x1x2048x128) ![0, 0, 0, 0] S1x1x2048x128.size inb_S1x1x2048x128_S1x1x2048x128_0_0_0_0).toLoadRect f3) = LM X' 1 := congrArg₂ (laneSt lane) hn1 hnk
    have hR0 : rowSt (cov arg17.view (laneSt lane (arg2.view.readAt (Elt F) (Rect.unit (s := S1x1x256x256) ![0, 0, 0, 0] S1x1x128x256.size inb_S1x1x256x256_S1x1x128x256_0_0_0_0).toLoadRect f2) (arg3.view.readAt (Elt F) (Rect.unit (s := S1x1x2048x128) ![0, 0, 0, 0] S1x1x2048x128.size inb_S1x1x2048x128_S1x1x2048x128_0_0_0_0).toLoadRect f3))) = RM X' 0 := by rw [cov_eq, hL0]; rfl
    have hR30 : rowSt (arg19.view.readAt (Elt F) (Rect.unit (s := S512x128) ![0, 0] S512x128.size inb_S512x128_S512x128_0_0).toLoadRect u19) = RM X 30 := by rw [View.readAt_full, d19]; rfl
    have hR31 : rowSt (cov arg20.view (laneSt lane (arg1.view.readAt (Elt F) (Rect.unit (s := S1x2x2048x512) ![0, 1, 1920, 0] S1x1x128x256.size inb_S1x2x2048x512_S1x1x128x256_0_1_1920_0).toLoadRect f1) (arg1.view.readAt (Elt F) (Rect.unit (s := S1x2x2048x512) ![0, 1, 0, 256] S1x1x2048x128.size inb_S1x2x2048x512_S1x1x2048x128_0_1_0_256).toLoadRect f1))) = RM X 31 := by rw [cov_eq, hL31]; rfl
    have hE29 : outSt (arg14.view.readAt (Elt F) (Rect.unit (s := S512x2048) ![0, 0] S512x2048.size inb_S512x2048_S512x2048_0_0).toLoadRect u14) (arg22.view.readAt (Elt F) (Rect.unit (s := S512x128) ![0, 0] S512x128.size inb_S512x128_S512x128_0_0).toLoadRect u22) (arg1.view.readAt (Elt F) (Rect.unit (s := S1x2x2048x512) ![0, 1, 0, 384] S1x1x2048x128.size inb_S1x2x2048x512_S1x1x2048x128_0_1_0_384).toLoadRect f1) = OE X 29 := by rw [View.readAt_full, d14, View.readAt_full, d22]; exact congrArg (outSt _ _) hv29
    have hE30 : outSt (arg15.view.readAt (Elt F) (Rect.unit (s := S512x2048) ![0, 0] S512x2048.size inb_S512x2048_S512x2048_0_0).toLoadRect u15) (cov arg23.view (rowSt (arg19.view.readAt (Elt F) (Rect.unit (s := S512x128) ![0, 0] S512x128.size inb_S512x128_S512x128_0_0).toLoadRect u19))) (arg1.view.readAt (Elt F) (Rect.unit (s := S1x2x2048x512) ![0, 1, 0, 384] S1x1x2048x128.size inb_S1x2x2048x512_S1x1x2048x128_0_1_0_384).toLoadRect f1) = OE X 30 := by rw [View.readAt_full, d15, hR30, cov_eq]; exact congrArg (outSt _ _) hv30
    have hE31 : outSt (cov2 arg16.view (scoreSt lane (arg1.view.readAt (Elt F) (Rect.unit (s := S1x2x2048x512) ![0, 1, 1920, 0] S1x1x128x256.size inb_S1x2x2048x512_S1x1x128x256_0_1_1920_0).toLoadRect f1) (arg1.view.readAt (Elt F) (Rect.unit (s := S1x2x2048x512) ![0, 1, 0, 256] S1x1x2048x128.size inb_S1x2x2048x512_S1x1x2048x128_0_1_0_256).toLoadRect f1))) (cov arg24.view (rowSt (cov arg20.view (laneSt lane (arg1.view.readAt (Elt F) (Rect.unit (s := S1x2x2048x512) ![0, 1, 1920, 0] S1x1x128x256.size inb_S1x2x2048x512_S1x1x128x256_0_1_1920_0).toLoadRect f1) (arg1.view.readAt (Elt F) (Rect.unit (s := S1x2x2048x512) ![0, 1, 0, 256] S1x1x2048x128.size inb_S1x2x2048x512_S1x1x2048x128_0_1_0_256).toLoadRect f1))))) (arg1.view.readAt (Elt F) (Rect.unit (s := S1x2x2048x512) ![0, 1, 0, 384] S1x1x2048x128.size inb_S1x2x2048x512_S1x1x2048x128_0_1_0_384).toLoadRect f1) = OE X 31 := by rw [hR31, cov_eq, cov2_eq, hS31]; exact congrArg (outSt _ _) hv31
    sl_step
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _; isplitl [H8]; · iexact H8
      ipureintro
      refine (congrArg (fun L => arg8.view.read (Elt F) (arg8.view.writes (Elt F) u8 L)) (show _ = [pieceR X 31, pieceL X 31, pieceR X 30, pieceL X 30, pieceR X 29, pieceL X 29, pieceR X 28, pieceL X 28] from ?_)).trans ?_
      · refine piece_cons (F := F) (s := S1x2x2048x256) (e := .bf16) (size := S1x1x128x128.size) rfl _ _ _ _ ?_ (piece_cons (F := F) (s := S1x2x2048x256) (e := .bf16) (size := S1x1x128x128.size) rfl _ _ _ _ ?_ (piece_cons (F := F) (s := S1x2x2048x256) (e := .bf16) (size := S1x1x128x128.size) rfl _ _ _ _ ?_ (piece_cons (F := F) (s := S1x2x2048x256) (e := .bf16) (size := S1x1x128x128.size) rfl _ _ _ _ ?_ (piece_cons (F := F) (s := S1x2x2048x256) (e := .bf16) (size := S1x1x128x128.size) rfl _ _ _ _ ?_ (piece_cons (F := F) (s := S1x2x2048x256) (e := .bf16) (size := S1x1x128x128.size) rfl _ _ _ _ ?_ (piece_cons (F := F) (s := S1x2x2048x256) (e := .bf16) (size := S1x1x128x128.size) rfl _ _ _ _ ?_ (piece_cons (F := F) (s := S1x2x2048x256) (e := .bf16) (size := S1x1x128x128.size) rfl _ _ _ _ ?_ (rfl))))))))
        · exact fin_of arg28.view hE31 _ _
        · exact fin_of arg28.view hE31 _ _
        · exact fin_of arg27.view hE30 _ _
        · exact fin_of arg27.view hE30 _ _
        · exact fin_of arg26.view hE29 _ _
        · exact fin_of arg26.view hE29 _ _
        · exact fin_at d25 _ _
        · exact fin_at d25 _ _
      · exact funext fun x => Upto.succ _ _ X 31 (by decide) _ (Upto.succ _ _ X 30 (by decide) _ (Upto.succ _ _ X 29 (by decide) _ (Upto.succ _ _ X 28 (by decide) [] d8))) x (tileOf_lt x)
    isplitl [H9]
    · iexists _; isplitl [H9]; · iexact H9
      ipureintro; refine (View.read_writes_full _ _ _ _ _).trans ?_
      exact congrArg (fun a => truncf .bf16 a bitsLt_bf16_f32) (View.readAt_full ..)
    isplitl [H10]
    · iexists _; isplitl [H10]; · iexact H10
      ipureintro; refine (View.read_writes_full _ _ _ _ _).trans ?_
      exact congrArg (fun a => truncf .bf16 a bitsLt_bf16_f32) (View.readAt_full ..)
    isplitl [H11]
    · iexists _; isplitl [H11]; · iexact H11
      ipureintro; refine (View.read_writes_full _ _ _ _ _).trans ?_
      exact congrArg (fun a => truncf .bf16 a bitsLt_bf16_f32) (View.readAt_full ..)
    isplitl [H12]
    · iexists _; isplitl [H12]; · iexact H12
      ipureintro; refine (View.read_writes_full _ _ _ _ _).trans ?_
      exact congrArg (fun a => truncf .bf16 a bitsLt_bf16_f32) (View.readAt_full ..)
    isplitl [H13]
    · iexists _; isplitl [H13]; · iexact H13
      ipureintro; refine (View.read_writes_full _ _ _ _ _).trans ?_; exact hS0
    isplitl [H14]
    · iexists _; isplitl [H14]; · iexact H14
      ipureintro; refine (View.read_writes_full _ _ _ _ _).trans ?_; exact hS1
    isplitl [H15]
    · iexists _; iexact H15
    isplitl [H16]
    · iexists _; iexact H16
    isplitl [H17]
    · iexists _; iexact H17
    isplitl [H18]
    · iexists _; isplitl [H18]; · iexact H18
      ipureintro; refine (View.read_writes_full _ _ _ _ _).trans ?_; exact hL1
    isplitl [H19]
    · iexists _; iexact H19
    isplitl [H20]
    · iexists _; iexact H20
    isplitl [H21]
    · iexists _; isplitl [H21]; · iexact H21
      ipureintro; refine (View.read_writes_full _ _ _ _ _).trans ?_; exact hR0
    isplitl [H22]
    · iexists _; iexact H22
    isplitl [H23]
    · iexists _; iexact H23
    isplitl [H24]
    · iexists _; iexact H24
    isplitl [H25]
    · iexists _; iexact H25
    isplitl [H26]
    · iexists _; iexact H26
    isplitl [H27]
    · iexists _; iexact H27
    iexists _; iexact H28

end Cert.Proof.AttnIdeal

end
-- ==== Proof.Attention.Blocks.lean ====
module

public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import Idealize.ShloMosaic.Lib.Tactic
public import proofs.«01_k».proof.Proof.Attention.Values
public import Idealize.ShloMosaic.Lib.Pipeline.Value

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (c : Dev nD)

/-- A place of the packed array by its four coordinates. -/
def at4 (b h r l : ℕ) : S8x2x2048x512.Idx :=
  fun | 0 => ⟨b % 8, Nat.mod_lt _ (by decide)⟩ | 1 => ⟨h % 2, Nat.mod_lt _ (by decide)⟩ | 2 => ⟨r % 2048, Nat.mod_lt _ (by decide)⟩ | 3 => ⟨l % 512, Nat.mod_lt _ (by decide)⟩

/-- The packed queries, keys, values and ones, as the attention call finds them. -/
abbrev qkv : S8x2x2048x512.Idx → Elt F .bf16 := V m c main_v12

theorem tr0 : ∀ t : Fin grid0.N, cc0_transform_0 (grid0.coords t) = ![t.val, 0, 0, 0] := by decide
theorem tr1 : ∀ t : Fin grid0.N, cc0_transform_1 (grid0.coords t) = ![min (t.val + 1) 7, 0, 0, 0] := by decide
theorem tr2 : ∀ t : Fin grid0.N, cc0_transform_2 (grid0.coords t) = ![min (t.val + 1) 7, 0, 0, 2] := by decide

theorem lt8 (t : Fin cfg0.N) : t.val < 8 := lt_of_lt_of_eq t.isLt N_0

/-- Window 0's block at point `t`: batch `t`. -/
theorem iblk0_at (t : Fin cfg0.N) (x : S1x2x2048x512.Idx) :
    iblk m c 0 t x = qkv m c (at4 t.val (x (1 : Fin 4)).val (x (2 : Fin 4)).val (x (3 : Fin 4)).val) := by
  have b0 : (x (0 : Fin 4)).val < 1 := (x (0 : Fin 4)).isLt
  have b1 : (x (1 : Fin 4)).val < 2 := (x (1 : Fin 4)).isLt
  have b2 : (x (2 : Fin 4)).val < 2048 := (x (2 : Fin 4)).isLt
  have b3 : (x (3 : Fin 4)).val < 512 := (x (3 : Fin 4)).isLt
  have ht := lt8 t
  refine congrArg (qkv m c) (funext fun a => Fin.ext ?_)
  match a with
  | 0 => show cc0_transform_0 (grid0.coords t) 0 * 1 + 1 * (x (0 : Fin 4)).val = t.val % 8; rw [tr0 t]; show t.val * 1 + _ = _; omega
  | 1 => show cc0_transform_0 (grid0.coords t) 1 * 2 + 1 * (x (1 : Fin 4)).val = (x (1 : Fin 4)).val % 2; rw [tr0 t]; show 0 * 2 + _ = _; omega
  | 2 => show cc0_transform_0 (grid0.coords t) 2 * 2048 + 1 * (x (2 : Fin 4)).val = (x (2 : Fin 4)).val % 2048; rw [tr0 t]; show 0 * 2048 + _ = _; omega
  | 3 => show cc0_transform_0 (grid0.coords t) 3 * 512 + 1 * (x (3 : Fin 4)).val = (x (3 : Fin 4)).val % 512; rw [tr0 t]; show 0 * 512 + _ = _; omega

/-- Window 1's block at point `t`: the first 256 queries of the first head group of the next batch. -/
theorem iblk1_at (t : Fin cfg0.N) (x : S1x1x256x256.Idx) :
    iblk m c 1 t x = qkv m c (at4 (min (t.val + 1) 7) (x (1 : Fin 4)).val (x (2 : Fin 4)).val (x (3 : Fin 4)).val) := by
  have b0 : (x (0 : Fin 4)).val < 1 := (x (0 : Fin 4)).isLt
  have b1 : (x (1 : Fin 4)).val < 1 := (x (1 : Fin 4)).isLt
  have b2 : (x (2 : Fin 4)).val < 256 := (x (2 : Fin 4)).isLt
  have b3 : (x (3 : Fin 4)).val < 256 := (x (3 : Fin 4)).isLt
  have ht := lt8 t
  refine congrArg (qkv m c) (funext fun a => Fin.ext ?_)
  match a with
  | 0 => show cc0_transform_1 (grid0.coords t) 0 * 1 + 1 * (x (0 : Fin 4)).val = min (t.val + 1) 7 % 8; rw [tr1 t]; show min (t.val + 1) 7 * 1 + _ = _; omega
  | 1 => show cc0_transform_1 (grid0.coords t) 1 * 1 + 1 * (x (1 : Fin 4)).val = (x (1 : Fin 4)).val % 2; rw [tr1 t]; show 0 * 1 + _ = _; omega
  | 2 => show cc0_transform_1 (grid0.coords t) 2 * 256 + 1 * (x (2 : Fin 4)).val = (x (2 : Fin 4)).val % 2048; rw [tr1 t]; show 0 * 256 + _ = _; omega
  | 3 => show cc0_transform_1 (grid0.coords t) 3 * 256 + 1 * (x (3 : Fin 4)).val = (x (3 : Fin 4)).val % 512; rw [tr1 t]; show 0 * 256 + _ = _; omega

/-- Window 2's block at point `t`: the keys of the first head group of the next batch. -/
theorem iblk2_at (t : Fin cfg0.N) (x : S1x1x2048x128.Idx) :
    iblk m c 2 t x = qkv m c (at4 (min (t.val + 1) 7) (x (1 : Fin 4)).val (x (2 : Fin 4)).val (256 + (x (3 : Fin 4)).val)) := by
  have b0 : (x (0 : Fin 4)).val < 1 := (x (0 : Fin 4)).isLt
  have b1 : (x (1 : Fin 4)).val < 1 := (x (1 : Fin 4)).isLt
  have b2 : (x (2 : Fin 4)).val < 2048 := (x (2 : Fin 4)).isLt
  have b3 : (x (3 : Fin 4)).val < 128 := (x (3 : Fin 4)).isLt
  have ht := lt8 t
  refine congrArg (qkv m c) (funext fun a => Fin.ext ?_)
  match a with
  | 0 => show cc0_transform_2 (grid0.coords t) 0 * 1 + 1 * (x (0 : Fin 4)).val = min (t.val + 1) 7 % 8; rw [tr2 t]; show min (t.val + 1) 7 * 1 + _ = _; omega
  | 1 => show cc0_transform_2 (grid0.coords t) 1 * 1 + 1 * (x (1 : Fin 4)).val = (x (1 : Fin 4)).val % 2; rw [tr2 t]; show 0 * 1 + _ = _; omega
  | 2 => show cc0_transform_2 (grid0.coords t) 2 * 2048 + 1 * (x (2 : Fin 4)).val = (x (2 : Fin 4)).val % 2048; rw [tr2 t]; show 0 * 2048 + _ = _; omega
  | 3 => show cc0_transform_2 (grid0.coords t) 3 * 128 + 1 * (x (3 : Fin 4)).val = (256 + (x (3 : Fin 4)).val) % 512; rw [tr2 t]; show 2 * 128 + _ = _; omega

/-- Batch `n`'s block (the last batch's beyond the grid). -/
def bX (n : ℕ) : Vec F S1x2x2048x512 .bf16 :=
  fun x => qkv m c (at4 (min n 7) (x (1 : Fin 4)).val (x (2 : Fin 4)).val (x (3 : Fin 4)).val)

theorem iblk0_eq (t : Fin cfg0.N) : iblk m c 0 t = bX m c t.val := by
  have ht := lt8 t
  funext x; rw [iblk0_at]; unfold bX; rw [Nat.min_eq_left (by omega)]

/-- What the windows of the next batch hold is its first two tiles' queries and its first tile's keys. -/
theorem next_eq (t : Fin cfg0.N) :
    View.ld (iblk m c 1 t : Vec F S1x1x256x256 .bf16) (Rect.unit (s := S1x1x256x256) ![0, 0, 0, 0] S1x1x128x256.size inb_S1x1x256x256_S1x1x128x256_0_0_0_0) = qT (bX m c (t.val + 1)) 0 ∧
    View.ld (iblk m c 1 t : Vec F S1x1x256x256 .bf16) (Rect.unit (s := S1x1x256x256) ![0, 0, 128, 0] S1x1x128x256.size inb_S1x1x256x256_S1x1x128x256_0_0_128_0) = qT (bX m c (t.val + 1)) 1 ∧
    (iblk m c 2 t : Vec F S1x1x2048x128 .bf16) = kT (bX m c (t.val + 1)) 0 := by
  have e1 : (iblk m c 1 t : Vec F S1x1x256x256 .bf16) = fun x => qkv m c (at4 (min (t.val + 1) 7) (x (1 : Fin 4)).val (x (2 : Fin 4)).val (x (3 : Fin 4)).val) := funext fun x => iblk1_at m c t x
  have e2 : (iblk m c 2 t : Vec F S1x1x2048x128 .bf16) = fun x => qkv m c (at4 (min (t.val + 1) 7) (x (1 : Fin 4)).val (x (2 : Fin 4)).val (256 + (x (3 : Fin 4)).val)) := funext fun x => iblk2_at m c t x
  rw [e1, e2]
  refine ⟨?_, ?_, ?_⟩
  · funext y; rfl
  · funext y; rfl
  · funext y; unfold kT bX View.ld
    have b3 : (y (3 : Fin 4)).val < 128 := (y (3 : Fin 4)).isLt
    show qkv m c (at4 _ _ _ _) = qkv m c (at4 _ (0 / 16 % 2 + 1 * _) (0 + 1 * _) (256 + 1 * _))
    simp only [Nat.zero_div, Nat.zero_mod, Nat.zero_add, Nat.one_mul]

end Cert.Proof.AttnIdeal

end
-- ==== Proof.Attention.Launch.lean ====
module

public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import Idealize.ShloMosaic.Lib.Tactic
public import proofs.«01_k».proof.Proof.Attention.Body
public import proofs.«01_k».proof.Proof.Attention.Blocks
public import Idealize.ShloMosaic.Lib.Pipeline.Frame
public import Idealize.ShloMosaic.Lib.Pipeline.FrameBody

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UU nD τ) ℕ

variable (m : (ℓ : Loc nD τ sig) → Buf (Elt F) ℓ) (ρ : Dev nD → PrngReg)

/-- What the scratch buffers of the first two tiles hold before point `n`: at the first point anything, later the scores, lane
    maxima and row maxima of batch `n`'s tiles 0 and 1. -/
def Carry (c : Dev nD) (n : ℕ) (f13 : Bf (F := F) c (Memref.whole cc0_scratch0)) (f14 : Bf (F := F) c (Memref.whole cc0_scratch1)) (f18 : Bf (F := F) c (Memref.whole cc0_scratch5)) (f21 : Bf (F := F) c (Memref.whole cc0_scratch8)) : Prop :=
  n = 0 ∨ ((Memref.whole cc0_scratch0).view.read (Elt F) f13 = Sc (bX m c n) 0 ∧ (Memref.whole cc0_scratch1).view.read (Elt F) f14 = Sc (bX m c n) 1 ∧ (Memref.whole cc0_scratch5).view.read (Elt F) f18 = LM (bX m c n) 1 ∧ (Memref.whole cc0_scratch8).view.read (Elt F) f21 = RM (bX m c n) 0)

/-- The invariant before point `n`: the sixteen scratch buffers, four of them carried, and the random register. -/
def Φc (c : Dev nD) (n : ℕ) : sProp 𝕄 :=
  iprop((∃ f13, ∃ f14, ∃ f18, ∃ f21, ⌜Carry m c n f13 f14 f18 f21⌝ ∗ pt c (Memref.whole cc0_scratch0) f13 ∗ pt c (Memref.whole cc0_scratch1) f14 ∗ pt c (Memref.whole cc0_scratch5) f18 ∗ pt c (Memref.whole cc0_scratch8) f21) ∗ (∃ f, pt c (Memref.whole cc0_scratch2) f) ∗ (∃ f, pt c (Memref.whole cc0_scratch3) f) ∗ (∃ f, pt c (Memref.whole cc0_scratch4) f) ∗ (∃ f, pt c (Memref.whole cc0_scratch6) f) ∗ (∃ f, pt c (Memref.whole cc0_scratch7) f) ∗ (∃ f, pt c (Memref.whole cc0_scratch9) f) ∗ (∃ f, pt c (Memref.whole cc0_scratch10) f) ∗ (∃ f, pt c (Memref.whole cc0_scratch11) f) ∗ (∃ f, pt c (Memref.whole cc0_scratch12) f) ∗ (∃ f, pt c (Memref.whole cc0_scratch13) f) ∗ (∃ f, pt c (Memref.whole cc0_scratch14) f) ∗ (∃ f, pt c (Memref.whole cc0_scratch15) f) ∗ ∃ r, prngReg c r)

/-- The pipeline's proof data: the inputs stay, the result's block is the batch's attention, the weights' slabs are narrowed. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt (bX m c t.val)
    | ⟨8, _⟩ => truncf .bf16 (iblk m c 3 t : Vec F S128x1024 .f32) bitsLt_bf16_f32
    | ⟨9, _⟩ => truncf .bf16 (iblk m c 4 t : Vec F S128x2816 .f32) bitsLt_bf16_f32
    | ⟨10, _⟩ => truncf .bf16 (iblk m c 5 t : Vec F S128x2816 .f32) bitsLt_bf16_f32
    | ⟨11, _⟩ => truncf .bf16 (iblk m c 6 t : Vec F S352x1024 .f32) bitsLt_bf16_f32
  Φ n := Φc m c n.val
  q w := Pipeline.shareOf spec0 w
  owed _ := 0

abbrev dats (p : Fin 1) (c : Dev nD) : Dat τ (Elt F) Unit ℕ (UR sig nD τ) ℕ (cfgs p) c := dat m c

theorem before0 (c : Dev nD) (t : Fin cfg0.N) (d) : (dat m c).before 0 t d = iblk m c 0 t :=
  before0_0_of m (dat m c) (by dsimp only [dat]) (fun t => by dsimp only [dat]) t d
theorem before1 (c : Dev nD) (t : Fin cfg0.N) (d) : (dat m c).before 1 t d = iblk m c 1 t :=
  before0_1_of m (dat m c) (by dsimp only [dat]) (fun t => by dsimp only [dat]) t d
theorem before2 (c : Dev nD) (t : Fin cfg0.N) (d) : (dat m c).before 2 t d = iblk m c 2 t :=
  before0_2_of m (dat m c) (by dsimp only [dat]) (fun t => by dsimp only [dat]) t d
theorem before3 (c : Dev nD) (t : Fin cfg0.N) (d) : (dat m c).before 3 t d = iblk m c 3 t :=
  before0_3_of m (dat m c) (by dsimp only [dat]) (fun t => by dsimp only [dat]) t d
theorem before4 (c : Dev nD) (t : Fin cfg0.N) (d) : (dat m c).before 4 t d = iblk m c 4 t :=
  before0_4_of m (dat m c) (by dsimp only [dat]) (fun t => by dsimp only [dat]) t d
theorem before5 (c : Dev nD) (t : Fin cfg0.N) (d) : (dat m c).before 5 t d = iblk m c 5 t :=
  before0_5_of m (dat m c) (by dsimp only [dat]) (fun t => by dsimp only [dat]) t d
theorem before6 (c : Dev nD) (t : Fin cfg0.N) (d) : (dat m c).before 6 t d = iblk m c 6 t :=
  before0_6_of m (dat m c) (by dsimp only [dat]) (fun t => by dsimp only [dat]) t d

/-- The label's body at a point is the kernel on the point's staging buffers. -/
theorem row (t : Fin cfg0.N) : defs₀ (F := F) .tc cfg0.body (cfg0.bodyArgs t (cfg0.slots t)) = bodyAt0 t := by
  unfold defs₀; rw [Defs.onTc_tc]

theorem cond1_zero (t : Fin grid0.N) (h : t.val = 0) : k0_cond1 (grid0.coords t) = 1#1 := by
  have e : t = t0_0 := Fin.ext h
  subst e; decide

set_option maxHeartbeats 2000000 in
/-- One point of the pipeline, from its staging buffers and the invariant. -/
theorem point (c : Dev nD) (t : Fin cfg0.N) (O : sProp 𝕄) :
  iprop(Φc m c t.val ∗ O ∗ (∃ d, owns (c : Thread nD τ) (st0_0 t) fullShare ((dat m c).before 0 t d)) ∗ (∃ d, owns (c : Thread nD τ) (st0_1 t) fullShare ((dat m c).before 1 t d)) ∗ (∃ d, owns (c : Thread nD τ) (st0_2 t) fullShare ((dat m c).before 2 t d)) ∗ (∃ d, owns (c : Thread nD τ) (st0_3 t) fullShare ((dat m c).before 3 t d)) ∗ (∃ d, owns (c : Thread nD τ) (st0_4 t) fullShare ((dat m c).before 4 t d)) ∗ (∃ d, owns (c : Thread nD τ) (st0_5 t) fullShare ((dat m c).before 5 t d)) ∗ (∃ d, owns (c : Thread nD τ) (st0_6 t) fullShare ((dat m c).before 6 t d)) ∗ (∃ d, owns (c : Thread nD τ) (st0_7 t) fullShare ((dat m c).before 7 t d)) ∗ (∃ d, owns (c : Thread nD τ) (st0_8 t) fullShare ((dat m c).before 8 t d)) ∗ (∃ d, owns (c : Thread nD τ) (st0_9 t) fullShare ((dat m c).before 9 t d)) ∗ (∃ d, owns (c : Thread nD τ) (st0_10 t) fullShare ((dat m c).before 10 t d)) ∗ (∃ d, owns (c : Thread nD τ) (st0_11 t) fullShare ((dat m c).before 11 t d))) ⊢ wp frame (wpE (defs₀ (F := F)) 𝒱₀ (c : Thread nD τ) none) Set.univ (bodyAt0 t) (fun _ => iprop(Φc m c (t.val + 1) ∗ O ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (outAt (bX m c t.val)) ∗ owns (c : Thread nD τ) (st0_8 t) fullShare (truncf .bf16 (iblk m c 3 t : Vec F S128x1024 .f32) bitsLt_bf16_f32) ∗ owns (c : Thread nD τ) (st0_9 t) fullShare (truncf .bf16 (iblk m c 4 t : Vec F S128x2816 .f32) bitsLt_bf16_f32) ∗ owns (c : Thread nD τ) (st0_10 t) fullShare (truncf .bf16 (iblk m c 5 t : Vec F S128x2816 .f32) bitsLt_bf16_f32) ∗ owns (c : Thread nD τ) (st0_11 t) fullShare (truncf .bf16 (iblk m c 6 t : Vec F S352x1024 .f32) bitsLt_bf16_f32))) := by
  simp only [before0, before1, before2, before3, before4, before5, before6]
  unfold Φc owns
  iintro ⟨⟨⟨%f13, %f14, %f18, %f21, %hc, H13, H14, H18, H21⟩, ⟨%f15, H15⟩, ⟨%f16, H16⟩, ⟨%f17, H17⟩, ⟨%f19, H19⟩, ⟨%f20, H20⟩, ⟨%f22, H22⟩, ⟨%f23, H23⟩, ⟨%f24, H24⟩, ⟨%f25, H25⟩, ⟨%f26, H26⟩, ⟨%f27, H27⟩, ⟨%f28, H28⟩, Hg⟩, HO, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩, ⟨%d12, %f12, %h12, H12⟩⟩
  have hb := body c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _)
    (bX m c t.val) (bX m c (t.val + 1)) f1 f2 f3 f4 f5 f6 f7 f8 f9 f10 f11 f12 f13 f14 f15 f16 f17 f18 f19 f20 f21 f22 f23 f24 f25 f26 f27 f28
    (h1.trans (iblk0_eq m c t)) (by rw [h2, h3]; exact next_eq m c t) (hc.imp (cond1_zero t) id)
  rw [h4, h5, h6, h7] at hb
  iapply (wp_wand_r Idealize.ShloMosaic.frame (wpE (defs₀ (F := F)) 𝒱₀ (c : Thread nD τ) none) Set.univ)
  isplitl [H1 H2 H3 H4 H5 H6 H7 H8 H9 H10 H11 H12 H13 H14 H15 H16 H17 H18 H19 H20 H21 H22 H23 H24 H25 H26 H27 H28]
  · iapply hb; iframe
  iintro %r ⟨K1, K2, K3, K4, K5, K6, K7, ⟨%g8, K8, %e8⟩, ⟨%g9, K9, %e9⟩, ⟨%g10, K10, %e10⟩, ⟨%g11, K11, %e11⟩, ⟨%g12, K12, %e12⟩, ⟨%g13, K13, %e13⟩, ⟨%g14, K14, %e14⟩, ⟨%g15, K15⟩, ⟨%g16, K16⟩, ⟨%g17, K17⟩, ⟨%g18, K18, %e18⟩, ⟨%g19, K19⟩, ⟨%g20, K20⟩, ⟨%g21, K21, %e21⟩, ⟨%g22, K22⟩, ⟨%g23, K23⟩, ⟨%g24, K24⟩, ⟨%g25, K25⟩, ⟨%g26, K26⟩, ⟨%g27, K27⟩, ⟨%g28, K28⟩⟩
  isplitl [K13 K14 K15 K16 K17 K18 K19 K20 K21 K22 K23 K24 K25 K26 K27 K28 Hg]
  · isplitl [K13 K14 K18 K21]
    · iexists g13, g14, g18, g21
      isplitr
      · ipureintro; exact Or.inr ⟨e13, e14, e18, e21⟩
      · iframe
    isplitl [K15]
    · iexists g15; iexact K15
    isplitl [K16]
    · iexists g16; iexact K16
    isplitl [K17]
    · iexists g17; iexact K17
    isplitl [K19]
    · iexists g19; iexact K19
    isplitl [K20]
    · iexists g20; iexact K20
    isplitl [K22]
    · iexists g22; iexact K22
    isplitl [K23]
    · iexists g23; iexact K23
    isplitl [K24]
    · iexists g24; iexact K24
    isplitl [K25]
    · iexists g25; iexact K25
    isplitl [K26]
    · iexists g26; iexact K26
    isplitl [K27]
    · iexists g27; iexact K27
    isplitl [K28]
    · iexists g28; iexact K28
    iexact Hg
  isplitl [HO]
  · iexact HO
  isplitl [K1]
  · iexists f1; isplitr
    · ipureintro; exact h1
    · iexact K1
  isplitl [K2]
  · iexists f2; isplitr
    · ipureintro; exact h2
    · iexact K2
  isplitl [K3]
  · iexists f3; isplitr
    · ipureintro; exact h3
    · iexact K3
  isplitl [K4]
  · iexists f4; isplitr
    · ipureintro; exact h4
    · iexact K4
  isplitl [K5]
  · iexists f5; isplitr
    · ipureintro; exact h5
    · iexact K5
  isplitl [K6]
  · iexists f6; isplitr
    · ipureintro; exact h6
    · iexact K6
  isplitl [K7]
  · iexists f7; isplitr
    · ipureintro; exact h7
    · iexact K7
  isplitl [K8]
  · iexists g8; isplitr
    · ipureintro; exact e8
    · iexact K8
  isplitl [K9]
  · iexists g9; isplitr
    · ipureintro; exact e9
    · iexact K9
  isplitl [K10]
  · iexists g10; isplitr
    · ipureintro; exact e10
    · iexact K10
  isplitl [K11]
  · iexists g11; isplitr
    · ipureintro; exact e11
    · iexact K11
  · iexists g12; isplitr
    · ipureintro; exact e12
    · iexact K12

/-- The library's body obligation. -/
theorem obligation (c : Dev nD) : BodyObligationLoose (dat m c) (defs₀ (F := F)) 𝒱₀ () Set.univ := fun t => by
  rw [bigSep_W0, bigSep_W0, row]
  exact triple_restated (point m c t _) rfl .rfl fun _ => .rfl

/-- A whole buffer's points-to, as a memref's. -/
theorem pt_whole (c : Dev nD) (b : Ref sig .tc) (f : Buf (Elt F) ((c : Thread nD τ).loc b)) :
    (iprop((c : Thread nD τ).loc b ↦{fullShare} f) : sProp 𝕄) = iprop((Memref.whole b).view.loc (c : Thread nD τ) ↦[(Memref.whole b).view.set]{fullShare} f) := by
  simp only [View.set_whole, Memref.view_whole]

set_option maxHeartbeats 4000000 in
/-- The invariant holds at the start. -/
theorem inv_in (c : Dev nD) : Pipeline.ΦA spec0 c ⊢ (dat m c).Φ 0 := by
  show _ ⊢ Φc m c 0
  unfold Pipeline.ΦA Φc; rw [scopedRest0_eq]; simp only [pt_whole]
  iintro ⟨⟨⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩⟩, Hg⟩
  isplitl [H13 H14 H18 H21]
  · iexists f13, f14, f18, f21
    isplitr
    · ipureintro; exact Or.inl rfl
    · iframe
  isplitl [H15]
  · iexists f15; iexact H15
  isplitl [H16]
  · iexists f16; iexact H16
  isplitl [H17]
  · iexists f17; iexact H17
  isplitl [H19]
  · iexists f19; iexact H19
  isplitl [H20]
  · iexists f20; iexact H20
  isplitl [H22]
  · iexists f22; iexact H22
  isplitl [H23]
  · iexists f23; iexact H23
  isplitl [H24]
  · iexists f24; iexact H24
  isplitl [H25]
  · iexists f25; iexact H25
  isplitl [H26]
  · iexists f26; iexact H26
  isplitl [H27]
  · iexists f27; iexact H27
  isplitl [H28]
  · iexists f28; iexact H28
  iexact Hg
set_option maxHeartbeats 4000000 in
/-- The scratch buffers are given back at the end. -/
theorem inv_out (c : Dev nD) : (dat m c).Φ (Fin.last cfg0.N) ⊢ Pipeline.ΦA spec0 c := by
  show Φc m c _ ⊢ _
  unfold Pipeline.ΦA Φc; rw [scopedRest0_eq]; simp only [pt_whole]
  iintro ⟨⟨%f13, %f14, %f18, %f21, %hc, H13, H14, H18, H21⟩, ⟨%f15, H15⟩, ⟨%f16, H16⟩, ⟨%f17, H17⟩, ⟨%f19, H19⟩, ⟨%f20, H20⟩, ⟨%f22, H22⟩, ⟨%f23, H23⟩, ⟨%f24, H24⟩, ⟨%f25, H25⟩, ⟨%f26, H26⟩, ⟨%f27, H27⟩, ⟨%f28, H28⟩, Hg⟩
  isplitr [Hg]
  · isplitl [H13]
    · iexists f13; iexact H13
    isplitl [H14]
    · iexists f14; iexact H14
    isplitl [H15]
    · iexists f15; iexact H15
    isplitl [H16]
    · iexists f16; iexact H16
    isplitl [H17]
    · iexists f17; iexact H17
    isplitl [H18]
    · iexists f18; iexact H18
    isplitl [H19]
    · iexists f19; iexact H19
    isplitl [H20]
    · iexists f20; iexact H20
    isplitl [H21]
    · iexists f21; iexact H21
    isplitl [H22]
    · iexists f22; iexact H22
    isplitl [H23]
    · iexists f23; iexact H23
    isplitl [H24]
    · iexists f24; iexact H24
    isplitl [H25]
    · iexists f25; iexact H25
    isplitl [H26]
    · iexists f26; iexact H26
    isplitl [H27]
    · iexists f27; iexact H27
    iexists f28; iexact H28
  · iexact Hg

/-- The run: every window's array ends at its final contents, every other buffer as the call found it, every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared cfgs (dats m) 0 launch₀0 defs₀ 𝒱₀ m ρ main (fun c => obligation m c)
    (fun c w _ => by dsimp only [dats, dat]) (fun c t => by dsimp only [dats, dat]) (V m) (hmain m 𝒱₀) (fun c w => by dsimp only [dats, dat])
    (fun c => inv_in m c) (fun c => inv_out m c) _ (fun _ h => h)

end Cert.Proof.AttnIdeal

end
-- ==== Proof.Attention.Frame.lean ====
module

public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import Idealize.ShloMosaic.Lib.Tactic
public import proofs.«01_k».proof.Proof.Attention.Launch

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

/-- The frame: the call runs, its argument arrays end unchanged and every semaphore counter ends at zero. -/
theorem quiescent : θ_run defs (onTc (τ := τ) (main (F := F))) ⟨m, fun _ => 0, ρ⟩ (fun r => (∀ c : Dev nD,
  r.2.mem ((c.tc : Thread nD τ).loc main_arg0) = m ((c.tc : Thread nD τ).loc main_arg0)
      ∧   r.2.mem ((c.tc : Thread nD τ).loc main_arg1) = m ((c.tc : Thread nD τ).loc main_arg1)
      ∧   r.2.mem ((c.tc : Thread nD τ).loc main_arg2) = m ((c.tc : Thread nD τ).loc main_arg2)
      ∧   r.2.mem ((c.tc : Thread nD τ).loc main_arg3) = m ((c.tc : Thread nD τ).loc main_arg3)
      ∧   r.2.mem ((c.tc : Thread nD τ).loc main_arg4) = m ((c.tc : Thread nD τ).loc main_arg4)
      ∧   r.2.mem ((c.tc : Thread nD τ).loc main_arg5) = m ((c.tc : Thread nD τ).loc main_arg5)
      ∧   r.2.mem ((c.tc : Thread nD τ).loc main_arg6) = m ((c.tc : Thread nD τ).loc main_arg6))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 3).trans (((dats m 0 c).arrAt_in 3 rfl _).trans (V_main_arg3 m c)),
      ((h.1 c).1 4).trans (((dats m 0 c).arrAt_in 4 rfl _).trans (V_main_arg4 m c)),
      ((h.1 c).1 5).trans (((dats m 0 c).arrAt_in 5 rfl _).trans (V_main_arg5 m c)),
      ((h.1 c).1 6).trans (((dats m 0 c).arrAt_in 6 rfl _).trans (V_main_arg6 m c))⟩, h.2⟩) (run_main m ρ)

end Cert.Proof.AttnIdeal

end
-- ==== Proof.Mix.Values.lean ====
module

public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import Idealize.ShloMosaic.Lib.Pipeline.FrameBody
public import Idealize.ShloMosaic.Lib.Ring
public import Idealize.ShloMosaic.Lib.Tactic

@[expose] public section

set_option maxRecDepth 16384

noncomputable section

namespace Cert.Proof.MixIdeal

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What one tile of 512 rows computes -/

/-- The blocks a tile reads: its number in its sequence, rows of the input, the attention's result, the pooling input
    with the eight rows before and after it, the pooling weights, bias and scale, the output projection and the gain. -/
structure Tile (F : FTy → Type) [FloatOps F] where
  v : BitVec 32
  x : Vec F S512x1024 .f32
  a : Vec F S1x2x512x256 .bf16
  u : Vec F S512x512 .f32
  up : Vec F S8x512 .f32
  un : Vec F S8x512 .f32
  pw : Vec F S4x128x128 .f32
  pb : Vec F S4x1x128 .f32
  ps : Vec F S1x512 .f32
  wo : Vec F S1024x1024 .bf16
  g : Vec F S1x1024 .f32

/-- The scratch buffers the pooling input with its neighbours, and the pooled groups, are staged in. -/
abbrev scE : Memref sig .tc .vmem S528x512 .f32 := Memref.whole cc0_scratch0
abbrev scP : Memref sig .tc .vmem S512x512 .bf16 := Memref.whole cc0_scratch1

/-- The stores that stage the pooling input with its neighbours, the last first. -/
def extL (T : Tile F) : List (View.Piece (Elt F) S528x512 .f32) :=
  [⟨(Rect.unit (s := S528x512) ![520, 0] S8x512.size inb_S528x512_S8x512_520_0), k0_pay7 T.v (View.ld T.un (Rect.unit (s := S8x512) ![0, 0] S8x512.size inb_S8x512_S8x512_0_0))⟩,
   ⟨(Rect.unit (s := S528x512) ![8, 0] S512x512.size inb_S528x512_S512x512_8_0), k0_pay6 (View.ld T.u (Rect.unit (s := S512x512) ![0, 0] S512x512.size inb_S512x512_S512x512_0_0))⟩,
   ⟨(Rect.unit (s := S528x512) ![0, 0] S8x512.size inb_S528x512_S8x512_0_0), k0_pay5 T.v (View.ld T.up (Rect.unit (s := S8x512) ![0, 0] S8x512.size inb_S8x512_S8x512_0_0))⟩]

/-- Pooling group 0's 128 channels of the staged rows. -/
def ext0 (T : Tile F) : Vec F S528x128 .f32 :=
  scE.view.readCov (Val := Elt F) (extL T) (Rect.unit (s := S528x512) ![0, 0] S528x128.size inb_S528x512_S528x128_0_0).toLoadRect

/-- Pooling group 1's 128 channels of the staged rows. -/
def ext1 (T : Tile F) : Vec F S528x128 .f32 :=
  scE.view.readCov (Val := Elt F) (extL T) (Rect.unit (s := S528x512) ![0, 128] S528x128.size inb_S528x512_S528x128_0_128).toLoadRect

/-- Pooling group 2's 128 channels of the staged rows. -/
def ext2 (T : Tile F) : Vec F S528x128 .f32 :=
  scE.view.readCov (Val := Elt F) (extL T) (Rect.unit (s := S528x512) ![0, 256] S528x128.size inb_S528x512_S528x128_0_256).toLoadRect

/-- Pooling group 3's 128 channels of the staged rows. -/
def ext3 (T : Tile F) : Vec F S528x128 .f32 :=
  scE.view.readCov (Val := Elt F) (extL T) (Rect.unit (s := S528x512) ![0, 384] S528x128.size inb_S528x512_S528x128_0_384).toLoadRect

/-- Pooling group 0: the windowed mean less the row itself, through the group's weights, bias and scale. -/
def pool0 (v : BitVec 32) (e : Vec F S528x128 .f32) (pw : Vec F S1x128x128 .f32) (pb : Vec F S1x1x128 .f32) (ps : Vec F S1x128 .f32) : FVec F S512x128 .bf16 :=
  k0_pay10 (k0_pay9 v e (k0_pay8 e) (Scalar.addi (Scalar.muli v 512#32) 0#32)) pw pb ps

theorem pool0_eq (v : BitVec 32) (e : Vec F S528x128 .f32) (pw : Vec F S1x128x128 .f32) (pb : Vec F S1x1x128 .f32) (ps : Vec F S1x128 .f32) :
    k0_pay38 e (k0_pay32 e) (k0_pay33 v e) (k0_pay34 e) (k0_pay36 v) (k0_pay37 v) 2048#32 pw pb ps = pool0 v e pw pb ps := rfl

/-- Pooling group 1: the windowed mean less the row itself, through the group's weights, bias and scale. -/
def pool1 (v : BitVec 32) (e : Vec F S528x128 .f32) (pw : Vec F S1x128x128 .f32) (pb : Vec F S1x1x128 .f32) (ps : Vec F S1x128 .f32) : FVec F S512x128 .bf16 :=
  k0_pay14 (k0_pay13 v e (k0_pay11 e) (k0_pay12 v e) pw pb ps)

theorem pool1_eq (v : BitVec 32) (e : Vec F S528x128 .f32) (pw : Vec F S1x128x128 .f32) (pb : Vec F S1x1x128 .f32) (ps : Vec F S1x128 .f32) :
    k0_pay46 e (k0_pay40 e) (k0_pay41 v e) (k0_pay42 e) (k0_pay44 v) (k0_pay45 v) pw pb ps = pool1 v e pw pb ps := rfl

/-- Pooling group 2: the windowed mean less the row itself, through the group's weights, bias and scale. -/
def pool2 (v : BitVec 32) (e : Vec F S528x128 .f32) (pw : Vec F S1x128x128 .f32) (pb : Vec F S1x1x128 .f32) (ps : Vec F S1x128 .f32) : FVec F S512x128 .bf16 :=
  k0_pay21 e (k0_pay15 e) (k0_pay16 v e) (k0_pay17 e) (k0_pay18 v) (k0_pay19 v) k0_pay20 pw pb ps

theorem pool2_eq (v : BitVec 32) (e : Vec F S528x128 .f32) (pw : Vec F S1x128x128 .f32) (pb : Vec F S1x1x128 .f32) (ps : Vec F S1x128 .f32) :
    k0_pay55 e (k0_pay48 e 527#32) (k0_pay49 v e 527#32) (k0_pay50 e 527#32) (k0_pay52 v) (k0_pay53 v) k0_pay54 pw pb ps = pool2 v e pw pb ps := rfl

/-- Pooling group 3: the windowed mean less the row itself, through the group's weights, bias and scale. -/
def pool3 (v : BitVec 32) (e : Vec F S528x128 .f32) (pw : Vec F S1x128x128 .f32) (pb : Vec F S1x1x128 .f32) (ps : Vec F S1x128 .f32) : FVec F S512x128 .bf16 :=
  k0_pay24 (k0_pay23 v e (k0_pay22 e) 512#32) pw pb ps

theorem pool3_eq (v : BitVec 32) (e : Vec F S528x128 .f32) (pw : Vec F S1x128x128 .f32) (pb : Vec F S1x1x128 .f32) (ps : Vec F S1x128 .f32) :
    k0_pay63 e (k0_pay57 e) (k0_pay58 v e) (k0_pay59 e) (k0_pay61 v) (k0_pay62 v) 16#32 pw pb ps = pool3 v e pw pb ps := rfl

/-- The stores of the four pooled groups, the last first. -/
def mixL (T : Tile F) : List (View.Piece (Elt F) S512x512 .bf16) :=
  [⟨(Rect.unit (s := S512x512) ![0, 384] S512x128.size inb_S512x512_S512x128_0_384), pool3 T.v (ext3 T) (View.ld T.pw (Rect.unit (s := S4x128x128) ![3, 0, 0] S1x128x128.size inb_S4x128x128_S1x128x128_3_0_0)) (View.ld T.pb (Rect.unit (s := S4x1x128) ![3, 0, 0] S1x1x128.size inb_S4x1x128_S1x1x128_3_0_0)) (View.ld T.ps (Rect.unit (s := S1x512) ![0, 384] S1x128.size inb_S1x512_S1x128_0_384))⟩,
   ⟨(Rect.unit (s := S512x512) ![0, 256] S512x128.size inb_S512x512_S512x128_0_256), pool2 T.v (ext2 T) (View.ld T.pw (Rect.unit (s := S4x128x128) ![2, 0, 0] S1x128x128.size inb_S4x128x128_S1x128x128_2_0_0)) (View.ld T.pb (Rect.unit (s := S4x1x128) ![2, 0, 0] S1x1x128.size inb_S4x1x128_S1x1x128_2_0_0)) (View.ld T.ps (Rect.unit (s := S1x512) ![0, 256] S1x128.size inb_S1x512_S1x128_0_256))⟩,
   ⟨(Rect.unit (s := S512x512) ![0, 128] S512x128.size inb_S512x512_S512x128_0_128), pool1 T.v (ext1 T) (View.ld T.pw (Rect.unit (s := S4x128x128) ![1, 0, 0] S1x128x128.size inb_S4x128x128_S1x128x128_1_0_0)) (View.ld T.pb (Rect.unit (s := S4x1x128) ![1, 0, 0] S1x1x128.size inb_S4x1x128_S1x1x128_1_0_0)) (View.ld T.ps (Rect.unit (s := S1x512) ![0, 128] S1x128.size inb_S1x512_S1x128_0_128))⟩,
   ⟨(Rect.unit (s := S512x512) ![0, 0] S512x128.size inb_S512x512_S512x128_0_0), pool0 T.v (ext0 T) (View.ld T.pw (Rect.unit (s := S4x128x128) ![0, 0, 0] S1x128x128.size inb_S4x128x128_S1x128x128_0_0_0)) (View.ld T.pb (Rect.unit (s := S4x1x128) ![0, 0, 0] S1x1x128.size inb_S4x1x128_S1x1x128_0_0_0)) (View.ld T.ps (Rect.unit (s := S1x512) ![0, 0] S1x128.size inb_S1x512_S1x128_0_0))⟩]

/-- The pooled groups side by side. -/
def mixV (T : Tile F) : Vec F S512x512 .bf16 :=
  scP.view.readCov (Val := Elt F) (mixL T) (Rect.unit (s := S512x512) ![0, 0] S512x512.size inb_S512x512_S512x512_0_0).toLoadRect

/-- A tile's rows after the mixing layer. -/
def x1V (T : Tile F) : FVec F S512x1024 .f32 :=
  k0_pay1 (k0_pay25 (View.ld T.a (Rect.unit (s := S1x2x512x256) ![0, 0, 0, 0] S1x1x512x256.size inb_S1x2x512x256_S1x1x512x256_0_0_0_0)) (View.ld T.a (Rect.unit (s := S1x2x512x256) ![0, 1, 0, 0] S1x1x512x256.size inb_S1x2x512x256_S1x1x512x256_0_1_0_0)) (mixV T) (View.ld T.x (Rect.unit (s := S512x1024) ![0, 0] S512x1024.size inb_S512x1024_S512x1024_0_0)) (View.ld T.wo (Rect.unit (s := S1024x1024) ![0, 0] S1024x1024.size inb_S1024x1024_S1024x1024_0_0)))

/-- The same rows normalised. -/
def hV (T : Tile F) : FVec F S512x1024 .bf16 :=
  k0_pay2 (k0_pay25 (View.ld T.a (Rect.unit (s := S1x2x512x256) ![0, 0, 0, 0] S1x1x512x256.size inb_S1x2x512x256_S1x1x512x256_0_0_0_0)) (View.ld T.a (Rect.unit (s := S1x2x512x256) ![0, 1, 0, 0] S1x1x512x256.size inb_S1x2x512x256_S1x1x512x256_0_1_0_0)) (mixV T) (View.ld T.x (Rect.unit (s := S512x1024) ![0, 0] S512x1024.size inb_S512x1024_S512x1024_0_0)) (View.ld T.wo (Rect.unit (s := S1024x1024) ![0, 0] S1024x1024.size inb_S1024x1024_S1024x1024_0_0))) (k0_pay26 (View.ld T.a (Rect.unit (s := S1x2x512x256) ![0, 0, 0, 0] S1x1x512x256.size inb_S1x2x512x256_S1x1x512x256_0_0_0_0)) (View.ld T.a (Rect.unit (s := S1x2x512x256) ![0, 1, 0, 0] S1x1x512x256.size inb_S1x2x512x256_S1x1x512x256_0_1_0_0)) (mixV T) (View.ld T.x (Rect.unit (s := S512x1024) ![0, 0] S512x1024.size inb_S512x1024_S512x1024_0_0)) (View.ld T.wo (Rect.unit (s := S1024x1024) ![0, 0] S1024x1024.size inb_S1024x1024_S1024x1024_0_0)))
    (View.ld T.g (Rect.unit (s := S1x1024) ![0, 0] S1x1024.size inb_S1x1024_S1x1024_0_0))

theorem x1V_eq (T : Tile F) : k0_pay67 (View.ld T.a (Rect.unit (s := S1x2x512x256) ![0, 0, 0, 0] S1x1x512x256.size inb_S1x2x512x256_S1x1x512x256_0_0_0_0)) (View.ld T.a (Rect.unit (s := S1x2x512x256) ![0, 1, 0, 0] S1x1x512x256.size inb_S1x2x512x256_S1x1x512x256_0_1_0_0)) (mixV T) (View.ld T.x (Rect.unit (s := S512x1024) ![0, 0] S512x1024.size inb_S512x1024_S512x1024_0_0)) (View.ld T.wo (Rect.unit (s := S1024x1024) ![0, 0] S1024x1024.size inb_S1024x1024_S1024x1024_0_0)) = x1V T := rfl

theorem hV_eq (T : Tile F) : k0_pay3 (k0_pay68 (View.ld T.a (Rect.unit (s := S1x2x512x256) ![0, 0, 0, 0] S1x1x512x256.size inb_S1x2x512x256_S1x1x512x256_0_0_0_0)) (View.ld T.a (Rect.unit (s := S1x2x512x256) ![0, 1, 0, 0] S1x1x512x256.size inb_S1x2x512x256_S1x1x512x256_0_1_0_0)) (mixV T) (View.ld T.x (Rect.unit (s := S512x1024) ![0, 0] S512x1024.size inb_S512x1024_S512x1024_0_0)) (View.ld T.wo (Rect.unit (s := S1024x1024) ![0, 0] S1024x1024.size inb_S1024x1024_S1024x1024_0_0)) (View.ld T.g (Rect.unit (s := S1x1024) ![0, 0] S1x1024.size inb_S1x1024_S1x1024_0_0))) = hV T := rfl

/-- The feed-forward layer on a tile's normalised rows, added to the rows: six chunks of the hidden width in turn. -/
def ffnV (h : FVec F S512x1024 .bf16) (x1 : FVec F S512x1024 .f32) (wg wu : Vec F S1024x2816 .bf16) (wd : Vec F S2816x1024 .bf16) : FVec F S512x1024 .f32 :=
  let a0 := k0_pay31 (View.ld x1 (Rect.unit (s := S512x1024) ![0, 0] S512x1024.size inb_S512x1024_S512x1024_0_0)) (k0_pay30 (View.ld h (Rect.unit (s := S512x1024) ![0, 0] S512x1024.size inb_S512x1024_S512x1024_0_0)) (View.ld wg (Rect.unit (s := S1024x2816) ![0, 0] S1024x512.size inb_S1024x2816_S1024x512_0_0)) (View.ld wu (Rect.unit (s := S1024x2816) ![0, 0] S1024x512.size inb_S1024x2816_S1024x512_0_0))) (View.ld wd (Rect.unit (s := S2816x1024) ![0, 0] S512x1024.size inb_S2816x1024_S512x1024_0_0))
  let a1 := k0_pay39 (View.ld h (Rect.unit (s := S512x1024) ![0, 0] S512x1024.size inb_S512x1024_S512x1024_0_0)) a0 (View.ld wg (Rect.unit (s := S1024x2816) ![0, 512] S1024x512.size inb_S1024x2816_S1024x512_0_512)) (View.ld wu (Rect.unit (s := S1024x2816) ![0, 512] S1024x512.size inb_S1024x2816_S1024x512_0_512)) (View.ld wd (Rect.unit (s := S2816x1024) ![512, 0] S512x1024.size inb_S2816x1024_S512x1024_512_0))
  let a2 := k0_pay47 (View.ld h (Rect.unit (s := S512x1024) ![0, 0] S512x1024.size inb_S512x1024_S512x1024_0_0)) a1 (View.ld wg (Rect.unit (s := S1024x2816) ![0, 1024] S1024x512.size inb_S1024x2816_S1024x512_0_1024)) (View.ld wu (Rect.unit (s := S1024x2816) ![0, 1024] S1024x512.size inb_S1024x2816_S1024x512_0_1024)) (View.ld wd (Rect.unit (s := S2816x1024) ![1024, 0] S512x1024.size inb_S2816x1024_S512x1024_1024_0))
  let a3 := k0_pay56 (View.ld h (Rect.unit (s := S512x1024) ![0, 0] S512x1024.size inb_S512x1024_S512x1024_0_0)) a2 (View.ld wg (Rect.unit (s := S1024x2816) ![0, 1536] S1024x512.size inb_S1024x2816_S1024x512_0_1536)) (View.ld wu (Rect.unit (s := S1024x2816) ![0, 1536] S1024x512.size inb_S1024x2816_S1024x512_0_1536)) (View.ld wd (Rect.unit (s := S2816x1024) ![1536, 0] S512x1024.size inb_S2816x1024_S512x1024_1536_0))
  let a4 := k0_pay65 a3 (k0_pay64 (View.ld h (Rect.unit (s := S512x1024) ![0, 0] S512x1024.size inb_S512x1024_S512x1024_0_0)) (View.ld wg (Rect.unit (s := S1024x2816) ![0, 2048] S1024x512.size inb_S1024x2816_S1024x512_0_2048)) (View.ld wu (Rect.unit (s := S1024x2816) ![0, 2048] S1024x512.size inb_S1024x2816_S1024x512_0_2048)) (View.ld wd (Rect.unit (s := S2816x1024) ![2048, 0] S512x1024.size inb_S2816x1024_S512x1024_2048_0)))
  k0_pay4 (View.ld h (Rect.unit (s := S512x1024) ![0, 0] S512x1024.size inb_S512x1024_S512x1024_0_0)) a4 (k0_pay69 (View.ld h (Rect.unit (s := S512x1024) ![0, 0] S512x1024.size inb_S512x1024_S512x1024_0_0)) (View.ld wg (Rect.unit (s := S1024x2816) ![0, 2560] S1024x256.size inb_S1024x2816_S1024x256_0_2560))) (View.ld wu (Rect.unit (s := S1024x2816) ![0, 2560] S1024x256.size inb_S1024x2816_S1024x256_0_2560)) (View.ld wd (Rect.unit (s := S2816x1024) ![2560, 0] S256x1024.size inb_S2816x1024_S256x1024_2560_0))

end Cert.Proof.MixIdeal

end
-- ==== Proof.Mix.First.lean ====
module

public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import Idealize.ShloMosaic.Lib.Pipeline.FrameBody
public import Idealize.ShloMosaic.Lib.Ring
public import Idealize.ShloMosaic.Lib.Tactic
public import proofs.«01_k».proof.Proof.Mix.Values
public import Idealize.ShloMosaic.Lib.VecWindow

@[expose] public section

set_option maxRecDepth 16384

noncomputable section

namespace Cert.Proof.MixIdeal

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev scX : Memref sig .tc .vmem S512x1024 .f32 := Memref.whole cc0_scratch2
abbrev scH : Memref sig .tc .vmem S512x1024 .bf16 := Memref.whole cc0_scratch3
abbrev scG : Memref sig .tc .vmem S1024x2816 .bf16 := Memref.whole cc0_scratch4
abbrev scU : Memref sig .tc .vmem S1024x2816 .bf16 := Memref.whole cc0_scratch5
abbrev scD : Memref sig .tc .vmem S2816x1024 .bf16 := Memref.whole cc0_scratch6
abbrev hbG : Memref sig .tc .hbm S1024x2816 .bf16 := Memref.whole main_arg8
abbrev hbU : Memref sig .tc .hbm S1024x2816 .bf16 := Memref.whole main_arg9
abbrev hbD : Memref sig .tc .hbm S2816x1024 .bf16 := Memref.whole main_arg10

/-- The contents of a buffer of core `c`. -/
abbrev Bf (c : Dev nD) {sp : Space} {S : Shape} {e : EltTy} (M : Memref sig .tc sp S e) : Type := Buf (Elt F) (M.view.loc (c : Thread nD τ))
/-- A buffer of core `c` held by its own elements. -/
abbrev pt (c : Dev nD) {sp : Space} {S : Shape} {e : EltTy} (M : Memref sig .tc sp S e) (f : Bf (F := F) c M) : sProp 𝕄 :=
  M.view.loc (c : Thread nD τ) ↦[M.view.set]{fullShare} f

/-- A tile's number in its sequence, as the kernel computes it. -/
def tileNo (i : grid0.Coords) : BitVec 32 :=
  let arg0 : BitVec 32 := BitVec.ofNat 32 (i 0).val
  let v0 : BitVec 32 := Scalar.minsi arg0 31#32
  let v1 : BitVec 1 := Scalar.cmpi .eq 4#32 0#32
  let v2 : BitVec 32 := Scalar.select v1 1#32 4#32
  let v3 : BitVec 32 := Scalar.remsi v0 v2
  let v4 : BitVec 1 := Scalar.cmpi .ne v3 0#32
  let v5 : BitVec 1 := Scalar.cmpi .slt v3 0#32
  let v6 : BitVec 1 := Scalar.cmpi .slt v2 0#32
  let v7 : BitVec 1 := Scalar.xori v5 v6
  let v8 : BitVec 1 := Scalar.andi v7 v4
  let v9 : BitVec 32 := Scalar.addi v3 v2
  Scalar.select v8 v9 v3

/-- Whether the grid step is the number `k`, as the kernel tests it. -/
abbrev isStep (i : grid0.Coords) (k : BitVec 32) : BitVec 1 :=
  Scalar.cmpi .ne (Scalar.extui (Scalar.cmpi .eq (BitVec.ofNat 32 (i 0).val) k) : BitVec 32) 0#32

/-- A copy in flight into `M` from `B`: what `M` will hold is what `B` holds, and both come back with the cell. -/
abbrev fly (c : Dev nD) {S : Shape} {e : EltTy} (k : DmaSem sig) (N : ℕ) (M : Memref sig .tc .vmem S e) (B : Memref sig .tc .hbm S e) (g : Bf (F := F) c B) : sProp 𝕄 :=
  iprop(∃ f : Bf (F := F) c M, Transfers.Flight (countersEmb (U := Pipeline.UD sig nD τ)) (c : Thread nD τ) (SemLoc.dma k) () N iprop(pt c M f ∗ pt c B g)
    ∗ ⌜M.view.read (Elt F) f = B.view.read (Elt F) g⌝)

theorem read_whole {sp : Space} {S : Shape} {e : EltTy} (v : View sig .tc sp S e) (f : v.ty.Contents (Elt F)) (w : S.Idx → Elt F e) :
    v.read (Elt F) (v.writes (Elt F) f [⟨Rect.whole S, w⟩]) = w := by
  rw [← View.write_univ_eq_writes_whole, View.writes_nil]; exact View.read_write_univ _ _

set_option maxHeartbeats 4000000 in
/-- The first point: the three copies of the feed-forward weights are issued and tile 0's rows are computed and staged. -/
theorem first_spec (c : Dev nD) (i : grid0.Coords)
    (arg1 : Memref sig .tc .vmem S512x1024 .f32) (harg1 : arg1.IsWhole)
    (arg2 : Memref sig .tc .vmem S1x2x512x256 .bf16) (harg2 : arg2.IsWhole)
    (arg3 : Memref sig .tc .vmem S512x512 .f32) (harg3 : arg3.IsWhole)
    (arg4 : Memref sig .tc .vmem S8x512 .f32) (harg4 : arg4.IsWhole)
    (arg5 : Memref sig .tc .vmem S8x512 .f32) (harg5 : arg5.IsWhole)
    (arg6 : Memref sig .tc .vmem S4x128x128 .f32) (harg6 : arg6.IsWhole)
    (arg7 : Memref sig .tc .vmem S4x1x128 .f32) (harg7 : arg7.IsWhole)
    (arg8 : Memref sig .tc .vmem S1x512 .f32) (harg8 : arg8.IsWhole)
    (arg9 : Memref sig .tc .vmem S1024x1024 .bf16) (harg9 : arg9.IsWhole)
    (arg10 : Memref sig .tc .vmem S1x1024 .f32) (harg10 : arg10.IsWhole)
    (arg14 : Memref sig .tc .vmem S512x1024 .f32) (harg14 : arg14.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10)
    (fE : Bf (F := F) c scE) (fP : Bf (F := F) c scP) (fX : Bf (F := F) c scX) (fH : Bf (F := F) c scH) (fG : Bf (F := F) c scG) (fU : Bf (F := F) c scU) (fD : Bf (F := F) c scD) (gG : Bf (F := F) c hbG) (gU : Bf (F := F) c hbU) (gD : Bf (F := F) c hbD) (W : Waits sig Unit)
    (hc1 : isStep i 0#32 = 1#1) (hc2 : ¬ isStep i 1#32 = 1#1) (hc3 : ¬ k0_cond3 i = 1#1) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c scE fE ∗ pt c scP fP ∗ pt c scX fX ∗ pt c scH fH ∗ pt c scG fG ∗ pt c scU fU ∗ pt c scD fD ∗ pt c hbG gG ∗ pt c hbU gU ∗ pt c hbD gD ∗ semVal ((c : Thread nD τ), SemLoc.dma 17) 0 ∗ semVal ((c : Thread nD τ), SemLoc.dma 18) 0 ∗ semVal ((c : Thread nD τ), SemLoc.dma 19) 0 ∗ owes (c : Thread nD τ) 0 W)
    ⊢ wp frame (wpE (defs₀ (F := F)) Variants.none (c : Thread nD τ) none) Set.univ
      (cc0_mix_ffn i arg1 harg1 arg2 harg2 arg3 harg3 arg4 harg4 arg5 harg5 arg6 harg6 arg7 harg7 arg8 harg8 arg9 harg9 arg10 harg10 hbG (Memref.isWhole_whole _) hbU (Memref.isWhole_whole _) hbD (Memref.isWhole_whole _) arg14 harg14 scE (Memref.isWhole_whole _) scP (Memref.isWhole_whole _) scX (Memref.isWhole_whole _) scH (Memref.isWhole_whole _) scG (Memref.isWhole_whole _) scU (Memref.isWhole_whole _) scD (Memref.isWhole_whole _) cc0_scratch7) (fun _ => iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ (∃ f, pt c scE f) ∗ (∃ f, pt c scP f)
        ∗ (∃ f, pt c scX f ∗ ⌜scX.view.read (Elt F) f = x1V ⟨tileNo i, arg1.view.read (Elt F) f1, arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10⟩⌝) ∗ (∃ f, pt c scH f ∗ ⌜scH.view.read (Elt F) f = hV ⟨tileNo i, arg1.view.read (Elt F) f1, arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10⟩⌝)
        ∗ fly c 17 180224 scG hbG gG ∗ fly c 18 180224 scU hbU gU ∗ fly c 19 180224 scD hbD gD ∗ ∃ W, owes (c : Thread nD τ) 0 W)) := by
  iintro ⟨H1, H2, H3, H4, H5, H6, H7, H8, H9, H10, HE, HP, HX, HH, HG, HU, HD, HgG, HgU, HgD, Hq0, Hq1, Hq2, HW⟩
  unfold cc0_mix_ffn
  dsimp only [isStep] at hc1 hc2
  sl_exec_parts
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HE]; · iexists _; iexact HE
  isplitl [HP]; · iexists _; iexact HP
  isplitl [HX]
  · iexists _; isplitl [HX]; · iexact HX
    ipureintro; refine (View.read_writes_full _ _ _ _ _).trans ?_; rfl
  isplitl [HH]
  · iexists _; isplitl [HH]; · iexact HH
    ipureintro; refine (View.read_writes_full _ _ _ _ _).trans ?_; rfl
  isplitl [Hq0]
  · iexists _; isplitl [Hq0]; · iexact Hq0
    ipureintro; exact read_whole _ _ _
  isplitl [Hq1]
  · iexists _; isplitl [Hq1]; · iexact Hq1
    ipureintro; exact read_whole _ _ _
  isplitl [Hq2]
  · iexists _; isplitl [Hq2]; · iexact Hq2
    ipureintro; exact read_whole _ _ _
  iexists _; iexact HW

end Cert.Proof.MixIdeal

end
-- ==== Proof.Mix.Later.lean ====
module

public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import Idealize.ShloMosaic.Lib.Pipeline.FrameBody
public import Idealize.ShloMosaic.Lib.Ring
public import Idealize.ShloMosaic.Lib.Tactic
public import proofs.«01_k».proof.Proof.Mix.First
public import Idealize.ShloMosaic.Lib.VecWindow

@[expose] public section

set_option maxRecDepth 16384

noncomputable section

namespace Cert.Proof.MixIdeal

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000 in
/-- The second point: it waits for the three copies, finishes the first tile from its staged rows, and stages its own. -/
theorem second_spec (c : Dev nD) (i : grid0.Coords)
    (arg1 : Memref sig .tc .vmem S512x1024 .f32) (harg1 : arg1.IsWhole)
    (arg2 : Memref sig .tc .vmem S1x2x512x256 .bf16) (harg2 : arg2.IsWhole)
    (arg3 : Memref sig .tc .vmem S512x512 .f32) (harg3 : arg3.IsWhole)
    (arg4 : Memref sig .tc .vmem S8x512 .f32) (harg4 : arg4.IsWhole)
    (arg5 : Memref sig .tc .vmem S8x512 .f32) (harg5 : arg5.IsWhole)
    (arg6 : Memref sig .tc .vmem S4x128x128 .f32) (harg6 : arg6.IsWhole)
    (arg7 : Memref sig .tc .vmem S4x1x128 .f32) (harg7 : arg7.IsWhole)
    (arg8 : Memref sig .tc .vmem S1x512 .f32) (harg8 : arg8.IsWhole)
    (arg9 : Memref sig .tc .vmem S1024x1024 .bf16) (harg9 : arg9.IsWhole)
    (arg10 : Memref sig .tc .vmem S1x1024 .f32) (harg10 : arg10.IsWhole)
    (arg14 : Memref sig .tc .vmem S512x1024 .f32) (harg14 : arg14.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10)
    (f14 : Bf (F := F) c arg14) (fE : Bf (F := F) c scE) (fP : Bf (F := F) c scP) (fX : Bf (F := F) c scX) (fH : Bf (F := F) c scH) (gG : Bf (F := F) c hbG) (gU : Bf (F := F) c hbU) (gD : Bf (F := F) c hbD) (W : Waits sig Unit)
    (x1 : FVec F S512x1024 .f32) (h : FVec F S512x1024 .bf16) (hX : scX.view.read (Elt F) fX = x1) (hH : scH.view.read (Elt F) fH = h)
    (hc1 : ¬ isStep i 0#32 = 1#1) (hc2 : isStep i 1#32 = 1#1) (hc3 : k0_cond3 i = 1#1) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg14 f14 ∗ pt c scE fE ∗ pt c scP fP ∗ pt c scX fX ∗ pt c scH fH ∗ fly c 17 180224 scG hbG gG ∗ fly c 18 180224 scU hbU gU ∗ fly c 19 180224 scD hbD gD ∗ owes (c : Thread nD τ) 0 W)
    ⊢ wp frame (wpE (defs₀ (F := F)) Variants.none (c : Thread nD τ) none) Set.univ
      (cc0_mix_ffn i arg1 harg1 arg2 harg2 arg3 harg3 arg4 harg4 arg5 harg5 arg6 harg6 arg7 harg7 arg8 harg8 arg9 harg9 arg10 harg10 hbG (Memref.isWhole_whole _) hbU (Memref.isWhole_whole _) hbD (Memref.isWhole_whole _) arg14 harg14 scE (Memref.isWhole_whole _) scP (Memref.isWhole_whole _) scX (Memref.isWhole_whole _) scH (Memref.isWhole_whole _) scG (Memref.isWhole_whole _) scU (Memref.isWhole_whole _) scD (Memref.isWhole_whole _) cc0_scratch7) (fun _ => iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ (∃ f, pt c arg14 f ∗ ⌜arg14.view.read (Elt F) f = ffnV h x1 (hbG.view.read (Elt F) gG) (hbU.view.read (Elt F) gU) (hbD.view.read (Elt F) gD)⌝) ∗ (∃ f, pt c scE f) ∗ (∃ f, pt c scP f)
        ∗ (∃ f, pt c scX f ∗ ⌜scX.view.read (Elt F) f = x1V ⟨tileNo i, arg1.view.read (Elt F) f1, arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10⟩⌝) ∗ (∃ f, pt c scH f ∗ ⌜scH.view.read (Elt F) f = hV ⟨tileNo i, arg1.view.read (Elt F) f1, arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10⟩⌝)
        ∗ (∃ f, pt c scG f ∗ ⌜scG.view.read (Elt F) f = hbG.view.read (Elt F) gG⌝) ∗ (∃ f, pt c scU f ∗ ⌜scU.view.read (Elt F) f = hbU.view.read (Elt F) gU⌝) ∗ (∃ f, pt c scD f ∗ ⌜scD.view.read (Elt F) f = hbD.view.read (Elt F) gD⌝)
        ∗ pt c hbG gG ∗ pt c hbU gU ∗ pt c hbD gD ∗ semVal ((c : Thread nD τ), SemLoc.dma 17) 0 ∗ semVal ((c : Thread nD τ), SemLoc.dma 18) 0 ∗ semVal ((c : Thread nD τ), SemLoc.dma 19) 0 ∗ ∃ W, owes (c : Thread nD τ) 0 W)) := by
  iintro ⟨H1, H2, H3, H4, H5, H6, H7, H8, H9, H10, H14, HE, HP, HX, HH, ⟨%fG, Hq0, %eG⟩, ⟨%fU, Hq1, %eU⟩, ⟨%fD, Hq2, %eD⟩, HW⟩
  unfold cc0_mix_ffn
  dsimp only [isStep] at hc1 hc2
  sl_exec_parts
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H14]
  · iexists _; isplitl [H14]; · iexact H14
    ipureintro; refine (View.read_writes_full _ _ _ _ _).trans ?_; rw [← hX, ← hH, ← eG, ← eU, ← eD]; rfl
  isplitl [HE]; · iexists _; iexact HE
  isplitl [HP]; · iexists _; iexact HP
  isplitl [HX]
  · iexists _; isplitl [HX]; · iexact HX
    ipureintro; refine (View.read_writes_full _ _ _ _ _).trans ?_; rfl
  isplitl [HH]
  · iexists _; isplitl [HH]; · iexact HH
    ipureintro; refine (View.read_writes_full _ _ _ _ _).trans ?_; rfl
  isplitl [Hq0_dst]
  · iexists _; isplitl [Hq0_dst]; · iexact Hq0_dst
    ipureintro; exact eG
  isplitl [Hq1_dst]
  · iexists _; isplitl [Hq1_dst]; · iexact Hq1_dst
    ipureintro; exact eU
  isplitl [Hq2_dst]
  · iexists _; isplitl [Hq2_dst]; · iexact Hq2_dst
    ipureintro; exact eD
  isplitl [Hq0_src]; · iexact Hq0_src
  isplitl [Hq1_src]; · iexact Hq1_src
  isplitl [Hq2_src]; · iexact Hq2_src
  isplitl [Hq0]; · iexact Hq0
  isplitl [Hq1]; · iexact Hq1
  isplitl [Hq2]; · iexact Hq2
  iexists _; iexact HW

set_option maxHeartbeats 4000000 in
/-- A later point: it finishes the tile before from its staged rows, and stages its own. -/
theorem later_spec (c : Dev nD) (i : grid0.Coords)
    (arg1 : Memref sig .tc .vmem S512x1024 .f32) (harg1 : arg1.IsWhole)
    (arg2 : Memref sig .tc .vmem S1x2x512x256 .bf16) (harg2 : arg2.IsWhole)
    (arg3 : Memref sig .tc .vmem S512x512 .f32) (harg3 : arg3.IsWhole)
    (arg4 : Memref sig .tc .vmem S8x512 .f32) (harg4 : arg4.IsWhole)
    (arg5 : Memref sig .tc .vmem S8x512 .f32) (harg5 : arg5.IsWhole)
    (arg6 : Memref sig .tc .vmem S4x128x128 .f32) (harg6 : arg6.IsWhole)
    (arg7 : Memref sig .tc .vmem S4x1x128 .f32) (harg7 : arg7.IsWhole)
    (arg8 : Memref sig .tc .vmem S1x512 .f32) (harg8 : arg8.IsWhole)
    (arg9 : Memref sig .tc .vmem S1024x1024 .bf16) (harg9 : arg9.IsWhole)
    (arg10 : Memref sig .tc .vmem S1x1024 .f32) (harg10 : arg10.IsWhole)
    (arg14 : Memref sig .tc .vmem S512x1024 .f32) (harg14 : arg14.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10)
    (f14 : Bf (F := F) c arg14) (fE : Bf (F := F) c scE) (fP : Bf (F := F) c scP) (fX : Bf (F := F) c scX) (fH : Bf (F := F) c scH) (fG : Bf (F := F) c scG) (fU : Bf (F := F) c scU) (fD : Bf (F := F) c scD) (gG : Bf (F := F) c hbG) (gU : Bf (F := F) c hbU) (gD : Bf (F := F) c hbD) (W : Waits sig Unit)
    (x1 : FVec F S512x1024 .f32) (h : FVec F S512x1024 .bf16) (hX : scX.view.read (Elt F) fX = x1) (hH : scH.view.read (Elt F) fH = h)
    (eG : scG.view.read (Elt F) fG = hbG.view.read (Elt F) gG) (eU : scU.view.read (Elt F) fU = hbU.view.read (Elt F) gU) (eD : scD.view.read (Elt F) fD = hbD.view.read (Elt F) gD)
    (hc1 : ¬ isStep i 0#32 = 1#1) (hc2 : ¬ isStep i 1#32 = 1#1) (hc3 : k0_cond3 i = 1#1) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg14 f14 ∗ pt c scE fE ∗ pt c scP fP ∗ pt c scX fX ∗ pt c scH fH ∗ pt c scG fG ∗ pt c scU fU ∗ pt c scD fD ∗ pt c hbG gG ∗ pt c hbU gU ∗ pt c hbD gD ∗ semVal ((c : Thread nD τ), SemLoc.dma 17) 0 ∗ semVal ((c : Thread nD τ), SemLoc.dma 18) 0 ∗ semVal ((c : Thread nD τ), SemLoc.dma 19) 0 ∗ owes (c : Thread nD τ) 0 W)
    ⊢ wp frame (wpE (defs₀ (F := F)) Variants.none (c : Thread nD τ) none) Set.univ
      (cc0_mix_ffn i arg1 harg1 arg2 harg2 arg3 harg3 arg4 harg4 arg5 harg5 arg6 harg6 arg7 harg7 arg8 harg8 arg9 harg9 arg10 harg10 hbG (Memref.isWhole_whole _) hbU (Memref.isWhole_whole _) hbD (Memref.isWhole_whole _) arg14 harg14 scE (Memref.isWhole_whole _) scP (Memref.isWhole_whole _) scX (Memref.isWhole_whole _) scH (Memref.isWhole_whole _) scG (Memref.isWhole_whole _) scU (Memref.isWhole_whole _) scD (Memref.isWhole_whole _) cc0_scratch7) (fun _ => iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ (∃ f, pt c arg14 f ∗ ⌜arg14.view.read (Elt F) f = ffnV h x1 (hbG.view.read (Elt F) gG) (hbU.view.read (Elt F) gU) (hbD.view.read (Elt F) gD)⌝) ∗ (∃ f, pt c scE f) ∗ (∃ f, pt c scP f)
        ∗ (∃ f, pt c scX f ∗ ⌜scX.view.read (Elt F) f = x1V ⟨tileNo i, arg1.view.read (Elt F) f1, arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10⟩⌝) ∗ (∃ f, pt c scH f ∗ ⌜scH.view.read (Elt F) f = hV ⟨tileNo i, arg1.view.read (Elt F) f1, arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10⟩⌝)
        ∗ (∃ f, pt c scG f ∗ ⌜scG.view.read (Elt F) f = hbG.view.read (Elt F) gG⌝) ∗ (∃ f, pt c scU f ∗ ⌜scU.view.read (Elt F) f = hbU.view.read (Elt F) gU⌝) ∗ (∃ f, pt c scD f ∗ ⌜scD.view.read (Elt F) f = hbD.view.read (Elt F) gD⌝)
        ∗ pt c hbG gG ∗ pt c hbU gU ∗ pt c hbD gD ∗ semVal ((c : Thread nD τ), SemLoc.dma 17) 0 ∗ semVal ((c : Thread nD τ), SemLoc.dma 18) 0 ∗ semVal ((c : Thread nD τ), SemLoc.dma 19) 0 ∗ ∃ W, owes (c : Thread nD τ) 0 W)) := by
  iintro ⟨H1, H2, H3, H4, H5, H6, H7, H8, H9, H10, H14, HE, HP, HX, HH, HG, HU, HD, HgG, HgU, HgD, Hq0, Hq1, Hq2, HW⟩
  unfold cc0_mix_ffn
  dsimp only [isStep] at hc1 hc2
  sl_exec_parts
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H14]
  · iexists _; isplitl [H14]; · iexact H14
    ipureintro; refine (View.read_writes_full _ _ _ _ _).trans ?_; rw [← hX, ← hH, ← eG, ← eU, ← eD]; rfl
  isplitl [HE]; · iexists _; iexact HE
  isplitl [HP]; · iexists _; iexact HP
  isplitl [HX]
  · iexists _; isplitl [HX]; · iexact HX
    ipureintro; refine (View.read_writes_full _ _ _ _ _).trans ?_; rfl
  isplitl [HH]
  · iexists _; isplitl [HH]; · iexact HH
    ipureintro; refine (View.read_writes_full _ _ _ _ _).trans ?_; rfl
  isplitl [HG]
  · iexists _; isplitl [HG]; · iexact HG
    ipureintro; exact eG
  isplitl [HU]
  · iexists _; isplitl [HU]; · iexact HU
    ipureintro; exact eU
  isplitl [HD]
  · iexists _; isplitl [HD]; · iexact HD
    ipureintro; exact eD
  isplitl [HgG]; · iexact HgG
  isplitl [HgU]; · iexact HgU
  isplitl [HgD]; · iexact HgD
  isplitl [Hq0]; · iexact Hq0
  isplitl [Hq1]; · iexact Hq1
  isplitl [Hq2]; · iexact Hq2
  iexists _; iexact HW

end Cert.Proof.MixIdeal

end
-- ==== Proof.Mix.Launch.lean ====
module

public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import Idealize.ShloMosaic.Lib.Pipeline.FrameBody
public import Idealize.ShloMosaic.Lib.Ring
public import Idealize.ShloMosaic.Lib.Tactic
public import proofs.«01_k».proof.Proof.Mix.Later
public import Idealize.ShloMosaic.Lib.Pipeline.Frame

@[expose] public section

set_option maxRecDepth 16384

noncomputable section

namespace Cert.Proof.MixIdeal

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The tile point `t` stages. -/
def tile (c : Dev nD) (t : Fin cfg0.N) : Tile F :=
  ⟨tileNo (grid0.coords t), iblk m c 0 t, iblk m c 1 t, iblk m c 2 t, iblk m c 3 t, iblk m c 4 t, iblk m c 5 t, iblk m c 6 t, iblk m c 7 t, iblk m c 8 t, iblk m c 9 t⟩

/-- The tile point `n` stages (the last point's beyond the grid). -/
def tileN (c : Dev nD) (n : ℕ) : Tile F := tile m c ⟨min n 32, by show min n 32 < 33; omega⟩

theorem tileN_val (c : Dev nD) (t : Fin cfg0.N) : tileN m c t.val = tile m c t := by
  have h : t.val < 33 := t.isLt
  unfold tileN; congr 1; exact Fin.ext (Nat.min_eq_left (by omega))

/-- The feed-forward weights as the call finds them. -/
abbrev wG (c : Dev nD) : Bf (F := F) c hbG := V m c main_arg8
abbrev wU (c : Dev nD) : Bf (F := F) c hbU := V m c main_arg9
abbrev wD (c : Dev nD) : Bf (F := F) c hbD := V m c main_arg10

/-- A tile's finished rows: the feed-forward layer on its staged rows. -/
def outV (c : Dev nD) (T : Tile F) : FVec F S512x1024 .f32 :=
  ffnV (hV T) (x1V T) (hbG.view.read (Elt F) (wG m c)) (hbU.view.read (Elt F) (wU m c)) (hbD.view.read (Elt F) (wD m c))

/-- The rows staged for the next point: tile `n`'s. -/
abbrev staged (c : Dev nD) (n : ℕ) : sProp 𝕄 :=
  iprop((∃ f, pt c scE f) ∗ (∃ f, pt c scP f) ∗ (∃ f, pt c scX f ∗ ⌜scX.view.read (Elt F) f = x1V (tileN m c n)⌝)
    ∗ (∃ f, pt c scH f ∗ ⌜scH.view.read (Elt F) f = hV (tileN m c n)⌝))

/-- The invariant before point `n`: at first nothing is known of the scratch buffers; then the three copies are in
    flight; from then on the weights have landed. -/
def Φc (c : Dev nD) : ℕ → sProp 𝕄
  | 0 => iprop(((∃ f, pt c scE f) ∗ (∃ f, pt c scP f) ∗ (∃ f, pt c scX f) ∗ (∃ f, pt c scH f) ∗ (∃ f, pt c scG f) ∗ (∃ f, pt c scU f) ∗ (∃ f, pt c scD f))
      ∗ (∃ r, prngReg c r)
      ∗ (semVal ((c : Thread nD τ), SemLoc.dma 17) 0 ∗ semVal ((c : Thread nD τ), SemLoc.dma 18) 0 ∗ semVal ((c : Thread nD τ), SemLoc.dma 19) 0)
      ∗ pt c hbG (wG m c) ∗ pt c hbU (wU m c) ∗ pt c hbD (wD m c))
  | 1 => iprop(staged m c 0 ∗ (∃ r, prngReg c r)
      ∗ fly c 17 180224 scG hbG (wG m c) ∗ fly c 18 180224 scU hbU (wU m c) ∗ fly c 19 180224 scD hbD (wD m c))
  | n + 2 => iprop(staged m c (n + 1) ∗ (∃ r, prngReg c r)
      ∗ (∃ f, pt c scG f ∗ ⌜scG.view.read (Elt F) f = hbG.view.read (Elt F) (wG m c)⌝) ∗ (∃ f, pt c scU f ∗ ⌜scU.view.read (Elt F) f = hbU.view.read (Elt F) (wU m c)⌝) ∗ (∃ f, pt c scD f ∗ ⌜scD.view.read (Elt F) f = hbD.view.read (Elt F) (wD m c)⌝)
      ∗ (semVal ((c : Thread nD τ), SemLoc.dma 17) 0 ∗ semVal ((c : Thread nD τ), SemLoc.dma 18) 0 ∗ semVal ((c : Thread nD τ), SemLoc.dma 19) 0)
      ∗ pt c hbG (wG m c) ∗ pt c hbU (wU m c) ∗ pt c hbD (wD m c))

/-- The pipeline's proof data: the inputs stay, the result's block is the finished rows of the tile before. -/
def dat (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outV m c (tileN m c (t.val - 1))
  Φ n := Φc m c n.val
  q w := Pipeline.shareOf spec0 w
  owed _ := 0

abbrev dats (p : Fin 1) (c : Dev nD) : Dat τ (Elt F) Unit ℕ (Pipeline.UD sig nD τ) ℕ (cfgs p) c := dat m c

theorem before0 (c : Dev nD) (t : Fin cfg0.N) (d) : (dat m c).before 0 t d = iblk m c 0 t :=
  ((dat m c).before_in_eq_fetched 0 rfl (fun _ => rfl) (fun _ _ _ => rfl) (fun t => by dsimp only [dat]; unfold Dat.blockOf iblk; rfl) t d).trans
    (by unfold Dat.fetched Dat.blockOf iblk; rfl)
theorem before1 (c : Dev nD) (t : Fin cfg0.N) (d) : (dat m c).before 1 t d = iblk m c 1 t :=
  ((dat m c).before_in_eq_fetched 1 rfl (fun _ => rfl) (fun _ _ _ => rfl) (fun t => by dsimp only [dat]; unfold Dat.blockOf iblk; rfl) t d).trans
    (by unfold Dat.fetched Dat.blockOf iblk; rfl)
theorem before2 (c : Dev nD) (t : Fin cfg0.N) (d) : (dat m c).before 2 t d = iblk m c 2 t :=
  ((dat m c).before_in_eq_fetched 2 rfl (fun _ => rfl) (fun _ _ _ => rfl) (fun t => by dsimp only [dat]; unfold Dat.blockOf iblk; rfl) t d).trans
    (by unfold Dat.fetched Dat.blockOf iblk; rfl)
theorem before3 (c : Dev nD) (t : Fin cfg0.N) (d) : (dat m c).before 3 t d = iblk m c 3 t :=
  ((dat m c).before_in_eq_fetched 3 rfl (fun _ => rfl) (fun _ _ _ => rfl) (fun t => by dsimp only [dat]; unfold Dat.blockOf iblk; rfl) t d).trans
    (by unfold Dat.fetched Dat.blockOf iblk; rfl)
theorem before4 (c : Dev nD) (t : Fin cfg0.N) (d) : (dat m c).before 4 t d = iblk m c 4 t :=
  ((dat m c).before_in_eq_fetched 4 rfl (fun _ => rfl) (fun _ _ _ => rfl) (fun t => by dsimp only [dat]; unfold Dat.blockOf iblk; rfl) t d).trans
    (by unfold Dat.fetched Dat.blockOf iblk; rfl)
theorem before5 (c : Dev nD) (t : Fin cfg0.N) (d) : (dat m c).before 5 t d = iblk m c 5 t :=
  ((dat m c).before_in_eq_fetched 5 rfl (fun _ => rfl) (fun _ _ _ => rfl) (fun t => by dsimp only [dat]; unfold Dat.blockOf iblk; rfl) t d).trans
    (by unfold Dat.fetched Dat.blockOf iblk; rfl)
theorem before6 (c : Dev nD) (t : Fin cfg0.N) (d) : (dat m c).before 6 t d = iblk m c 6 t :=
  ((dat m c).before_in_eq_fetched 6 rfl (fun _ => rfl) (fun _ _ _ => rfl) (fun t => by dsimp only [dat]; unfold Dat.blockOf iblk; rfl) t d).trans
    (by unfold Dat.fetched Dat.blockOf iblk; rfl)
theorem before7 (c : Dev nD) (t : Fin cfg0.N) (d) : (dat m c).before 7 t d = iblk m c 7 t :=
  ((dat m c).before_in_eq_fetched 7 rfl (fun _ => rfl) (fun _ _ _ => rfl) (fun t => by dsimp only [dat]; unfold Dat.blockOf iblk; rfl) t d).trans
    (by unfold Dat.fetched Dat.blockOf iblk; rfl)
theorem before8 (c : Dev nD) (t : Fin cfg0.N) (d) : (dat m c).before 8 t d = iblk m c 8 t :=
  ((dat m c).before_in_eq_fetched 8 rfl (fun _ => rfl) (fun _ _ _ => rfl) (fun t => by dsimp only [dat]; unfold Dat.blockOf iblk; rfl) t d).trans
    (by unfold Dat.fetched Dat.blockOf iblk; rfl)
theorem before9 (c : Dev nD) (t : Fin cfg0.N) (d) : (dat m c).before 9 t d = iblk m c 9 t :=
  ((dat m c).before_in_eq_fetched 9 rfl (fun _ => rfl) (fun _ _ _ => rfl) (fun t => by dsimp only [dat]; unfold Dat.blockOf iblk; rfl) t d).trans
    (by unfold Dat.fetched Dat.blockOf iblk; rfl)

/-- The label's body at a point is the kernel on the point's staging buffers. -/
theorem row (t : Fin cfg0.N) : defs₀ (F := F) .tc cfg0.body (cfg0.bodyArgs t (cfg0.slots t)) = bodyAt0 t := by
  unfold defs₀; rw [Defs.onTc_tc]

theorem step0 (t : Fin grid0.N) : isStep (grid0.coords t) 0#32 = 1#1 ↔ t.val = 0 := by
  revert t; decide +kernel
theorem step1 (t : Fin grid0.N) : isStep (grid0.coords t) 1#32 = 1#1 ↔ t.val = 1 := by
  revert t; decide +kernel
theorem step2 (t : Fin grid0.N) : k0_cond3 (grid0.coords t) = 1#1 ↔ t.val ≠ 0 := by
  revert t; decide +kernel

set_option maxHeartbeats 4000000 in
/-- The first point. -/
theorem point0 (c : Dev nD) (t : Fin cfg0.N) (ht : t.val = 0) :
  iprop(Φc m c 0 ∗ (dat m c).owesAt () t.castSucc ∗ (∃ d, owns (c : Thread nD τ) (st0_0 t) fullShare ((dat m c).before 0 t d)) ∗ (∃ d, owns (c : Thread nD τ) (st0_1 t) fullShare ((dat m c).before 1 t d)) ∗ (∃ d, owns (c : Thread nD τ) (st0_2 t) fullShare ((dat m c).before 2 t d)) ∗ (∃ d, owns (c : Thread nD τ) (st0_3 t) fullShare ((dat m c).before 3 t d)) ∗ (∃ d, owns (c : Thread nD τ) (st0_4 t) fullShare ((dat m c).before 4 t d)) ∗ (∃ d, owns (c : Thread nD τ) (st0_5 t) fullShare ((dat m c).before 5 t d)) ∗ (∃ d, owns (c : Thread nD τ) (st0_6 t) fullShare ((dat m c).before 6 t d)) ∗ (∃ d, owns (c : Thread nD τ) (st0_7 t) fullShare ((dat m c).before 7 t d)) ∗ (∃ d, owns (c : Thread nD τ) (st0_8 t) fullShare ((dat m c).before 8 t d)) ∗ (∃ d, owns (c : Thread nD τ) (st0_9 t) fullShare ((dat m c).before 9 t d)) ∗ (∃ d, owns (c : Thread nD τ) (st0_10 t) fullShare ((dat m c).before 10 t d)) ) ⊢ wp frame (wpE (defs₀ (F := F)) Variants.none (c : Thread nD τ) none) Set.univ (bodyAt0 t)
    (fun _ => iprop(Φc m c 1 ∗ (dat m c).owesAt () t.succ ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t)  ∗ (∃ d, owns (c : Thread nD τ) (st0_10 t) fullShare ((dat m c).before 10 t d)))) := by
  simp only [before0, before1, before2, before3, before4, before5, before6, before7, before8, before9]
  unfold Dat.owesAt Pipeline.owesWithin owns
  rw [show (dat m c).owed t.castSucc = 0 from rfl, show (dat m c).owed t.succ = 0 from rfl]
  unfold Φc
  iintro ⟨⟨⟨⟨%fE, HE⟩, ⟨%fP, HP⟩, ⟨%fX, HX⟩, ⟨%fH, HH⟩, ⟨%fG, HG⟩, ⟨%fU, HU⟩, ⟨%fD, HD⟩⟩, Hg, ⟨Hq0, Hq1, Hq2⟩, HgG, HgU, HgD⟩, ⟨%W, -, HW⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d14, %f14, %h14, H14⟩⟩
  have hT : (⟨tileNo (grid0.coords t), (st0_0 t).view.read (Elt F) f1, (st0_1 t).view.read (Elt F) f2, (st0_2 t).view.read (Elt F) f3, (st0_3 t).view.read (Elt F) f4, (st0_4 t).view.read (Elt F) f5, (st0_5 t).view.read (Elt F) f6, (st0_6 t).view.read (Elt F) f7, (st0_7 t).view.read (Elt F) f8, (st0_8 t).view.read (Elt F) f9, (st0_9 t).view.read (Elt F) f10⟩ : Tile F) = tileN m c 0 := by
    rw [show 0 = t.val from ht.symm, tileN_val]; rw [h1, h2, h3, h4, h5, h6, h7, h8, h9, h10]; rfl
  have hb := first_spec c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10))
    f1 f2 f3 f4 f5 f6 f7 f8 f9 f10 fE fP fX fH fG fU fD (wG m c) (wU m c) (wD m c) W ((step0 t).mpr ht) (fun h => by have := (step1 t).mp h; omega) (fun h => (step2 t).mp h ht)
  iapply (wp_wand_r Idealize.ShloMosaic.frame (wpE (defs₀ (F := F)) Variants.none (c : Thread nD τ) none) Set.univ)
  isplitl [H1 H2 H3 H4 H5 H6 H7 H8 H9 H10 HE HP HX HH HG HU HD HgG HgU HgD Hq0 Hq1 Hq2 HW]
  · iapply hb; iframe
  iintro %r ⟨H1, H2, H3, H4, H5, H6, H7, H8, H9, H10, ⟨%gE, KE⟩, ⟨%gP, KP⟩, ⟨%gX, KX, %eX⟩, ⟨%gH, KH, %eH⟩, Kq0, Kq1, Kq2, ⟨%W', HW⟩⟩
  isplitl [KE KP KX KH Hg Kq0 Kq1 Kq2]
  · isplitl [KE KP KX KH]
    · isplitl [KE]; · iexists gE; iexact KE
      isplitl [KP]; · iexists gP; iexact KP
      isplitl [KX]
      · iexists gX; isplitl [KX]; · iexact KX
        ipureintro; exact eX.trans (congrArg x1V hT)
      iexists gH; isplitl [KH]; · iexact KH
      ipureintro; exact eH.trans (congrArg hV hT)
    isplitl [Hg]; · iexact Hg
    isplitl [Kq0]; · iexact Kq0
    isplitl [Kq1]; · iexact Kq1
    iexact Kq2
  isplitl [HW]
  · iexists W'; isplitr; · ipureintro; exact fun _ _ => Or.inl trivial
    iexact HW
  isplitl [H1]
  · iexists f1; isplitr
    · ipureintro; exact h1
    · iexact H1
  isplitl [H2]
  · iexists f2; isplitr
    · ipureintro; exact h2
    · iexact H2
  isplitl [H3]
  · iexists f3; isplitr
    · ipureintro; exact h3
    · iexact H3
  isplitl [H4]
  · iexists f4; isplitr
    · ipureintro; exact h4
    · iexact H4
  isplitl [H5]
  · iexists f5; isplitr
    · ipureintro; exact h5
    · iexact H5
  isplitl [H6]
  · iexists f6; isplitr
    · ipureintro; exact h6
    · iexact H6
  isplitl [H7]
  · iexists f7; isplitr
    · ipureintro; exact h7
    · iexact H7
  isplitl [H8]
  · iexists f8; isplitr
    · ipureintro; exact h8
    · iexact H8
  isplitl [H9]
  · iexists f9; isplitr
    · ipureintro; exact h9
    · iexact H9
  isplitl [H10]
  · iexists f10; isplitr
    · ipureintro; exact h10
    · iexact H10
  iexists d14; iexists f14; isplitr
  · ipureintro; exact h14
  · iexact H14

set_option maxHeartbeats 4000000 in
/-- The second point. -/
theorem point1 (c : Dev nD) (t : Fin cfg0.N) (ht : t.val = 0 + 1) :
  iprop(Φc m c 1 ∗ (dat m c).owesAt () t.castSucc ∗ (∃ d, owns (c : Thread nD τ) (st0_0 t) fullShare ((dat m c).before 0 t d)) ∗ (∃ d, owns (c : Thread nD τ) (st0_1 t) fullShare ((dat m c).before 1 t d)) ∗ (∃ d, owns (c : Thread nD τ) (st0_2 t) fullShare ((dat m c).before 2 t d)) ∗ (∃ d, owns (c : Thread nD τ) (st0_3 t) fullShare ((dat m c).before 3 t d)) ∗ (∃ d, owns (c : Thread nD τ) (st0_4 t) fullShare ((dat m c).before 4 t d)) ∗ (∃ d, owns (c : Thread nD τ) (st0_5 t) fullShare ((dat m c).before 5 t d)) ∗ (∃ d, owns (c : Thread nD τ) (st0_6 t) fullShare ((dat m c).before 6 t d)) ∗ (∃ d, owns (c : Thread nD τ) (st0_7 t) fullShare ((dat m c).before 7 t d)) ∗ (∃ d, owns (c : Thread nD τ) (st0_8 t) fullShare ((dat m c).before 8 t d)) ∗ (∃ d, owns (c : Thread nD τ) (st0_9 t) fullShare ((dat m c).before 9 t d)) ∗ (∃ d, owns (c : Thread nD τ) (st0_10 t) fullShare ((dat m c).before 10 t d)) ) ⊢ wp frame (wpE (defs₀ (F := F)) Variants.none (c : Thread nD τ) none) Set.univ (bodyAt0 t)
    (fun _ => iprop(Φc m c (0 + 2) ∗ (dat m c).owesAt () t.succ ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t)  ∗ owns (c : Thread nD τ) (st0_10 t) fullShare (outV m c (tileN m c 0)))) := by
  simp only [before0, before1, before2, before3, before4, before5, before6, before7, before8, before9]
  unfold Dat.owesAt Pipeline.owesWithin owns
  rw [show (dat m c).owed t.castSucc = 0 from rfl, show (dat m c).owed t.succ = 0 from rfl]
  unfold Φc
  iintro ⟨⟨⟨⟨%fE, HE⟩, ⟨%fP, HP⟩, ⟨%fX, HX, %eX⟩, ⟨%fH, HH, %eH⟩⟩, Hg, HG, HU, HD⟩, ⟨%W, -, HW⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d14, %f14, %h14, H14⟩⟩
  have hT : (⟨tileNo (grid0.coords t), (st0_0 t).view.read (Elt F) f1, (st0_1 t).view.read (Elt F) f2, (st0_2 t).view.read (Elt F) f3, (st0_3 t).view.read (Elt F) f4, (st0_4 t).view.read (Elt F) f5, (st0_5 t).view.read (Elt F) f6, (st0_6 t).view.read (Elt F) f7, (st0_7 t).view.read (Elt F) f8, (st0_8 t).view.read (Elt F) f9, (st0_9 t).view.read (Elt F) f10⟩ : Tile F) = tileN m c (0 + 1) := by
    rw [show 0 + 1 = t.val by omega, tileN_val]; rw [h1, h2, h3, h4, h5, h6, h7, h8, h9, h10]; rfl
  have hb := second_spec c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10))
    f1 f2 f3 f4 f5 f6 f7 f8 f9 f10 f14 fE fP fX fH  (wG m c) (wU m c) (wD m c) W _ _ eX eH (fun h => by have := (step0 t).mp h; omega) ((step1 t).mpr (by omega)) ((step2 t).mpr (by omega))
  iapply (wp_wand_r Idealize.ShloMosaic.frame (wpE (defs₀ (F := F)) Variants.none (c : Thread nD τ) none) Set.univ)
  isplitl [H1 H2 H3 H4 H5 H6 H7 H8 H9 H10 H14 HE HP HX HH HG HU HD HW]
  · iapply hb; iframe
  iintro %r ⟨H1, H2, H3, H4, H5, H6, H7, H8, H9, H10, ⟨%g14, K14, %e14⟩, ⟨%gE, KE⟩, ⟨%gP, KP⟩, ⟨%gX, KX, %eX⟩, ⟨%gH, KH, %eH⟩, KG, KU, KD, KgG, KgU, KgD, Kq0, Kq1, Kq2, ⟨%W', HW⟩⟩
  isplitl [KE KP KX KH Hg KG KU KD KgG KgU KgD Kq0 Kq1 Kq2]
  · isplitl [KE KP KX KH]
    · isplitl [KE]; · iexists gE; iexact KE
      isplitl [KP]; · iexists gP; iexact KP
      isplitl [KX]
      · iexists gX; isplitl [KX]; · iexact KX
        ipureintro; exact eX.trans (congrArg x1V hT)
      iexists gH; isplitl [KH]; · iexact KH
      ipureintro; exact eH.trans (congrArg hV hT)
    isplitl [Hg]; · iexact Hg
    isplitl [KG]; · iexact KG
    isplitl [KU]; · iexact KU
    isplitl [KD]; · iexact KD
    isplitl [Kq0 Kq1 Kq2]; · iframe
    iframe
  isplitl [HW]
  · iexists W'; isplitr; · ipureintro; exact fun _ _ => Or.inl trivial
    iexact HW
  isplitl [H1]
  · iexists f1; isplitr
    · ipureintro; exact h1
    · iexact H1
  isplitl [H2]
  · iexists f2; isplitr
    · ipureintro; exact h2
    · iexact H2
  isplitl [H3]
  · iexists f3; isplitr
    · ipureintro; exact h3
    · iexact H3
  isplitl [H4]
  · iexists f4; isplitr
    · ipureintro; exact h4
    · iexact H4
  isplitl [H5]
  · iexists f5; isplitr
    · ipureintro; exact h5
    · iexact H5
  isplitl [H6]
  · iexists f6; isplitr
    · ipureintro; exact h6
    · iexact H6
  isplitl [H7]
  · iexists f7; isplitr
    · ipureintro; exact h7
    · iexact H7
  isplitl [H8]
  · iexists f8; isplitr
    · ipureintro; exact h8
    · iexact H8
  isplitl [H9]
  · iexists f9; isplitr
    · ipureintro; exact h9
    · iexact H9
  isplitl [H10]
  · iexists f10; isplitr
    · ipureintro; exact h10
    · iexact H10
  iexists g14; isplitr
  · ipureintro; exact e14
  · iexact K14

set_option maxHeartbeats 4000000 in
/-- A later point. -/
theorem point2 (c : Dev nD) (t : Fin cfg0.N) (n : ℕ) (ht : t.val = n + 1 + 1) :
  iprop(Φc m c (n + 2) ∗ (dat m c).owesAt () t.castSucc ∗ (∃ d, owns (c : Thread nD τ) (st0_0 t) fullShare ((dat m c).before 0 t d)) ∗ (∃ d, owns (c : Thread nD τ) (st0_1 t) fullShare ((dat m c).before 1 t d)) ∗ (∃ d, owns (c : Thread nD τ) (st0_2 t) fullShare ((dat m c).before 2 t d)) ∗ (∃ d, owns (c : Thread nD τ) (st0_3 t) fullShare ((dat m c).before 3 t d)) ∗ (∃ d, owns (c : Thread nD τ) (st0_4 t) fullShare ((dat m c).before 4 t d)) ∗ (∃ d, owns (c : Thread nD τ) (st0_5 t) fullShare ((dat m c).before 5 t d)) ∗ (∃ d, owns (c : Thread nD τ) (st0_6 t) fullShare ((dat m c).before 6 t d)) ∗ (∃ d, owns (c : Thread nD τ) (st0_7 t) fullShare ((dat m c).before 7 t d)) ∗ (∃ d, owns (c : Thread nD τ) (st0_8 t) fullShare ((dat m c).before 8 t d)) ∗ (∃ d, owns (c : Thread nD τ) (st0_9 t) fullShare ((dat m c).before 9 t d)) ∗ (∃ d, owns (c : Thread nD τ) (st0_10 t) fullShare ((dat m c).before 10 t d)) ) ⊢ wp frame (wpE (defs₀ (F := F)) Variants.none (c : Thread nD τ) none) Set.univ (bodyAt0 t)
    (fun _ => iprop(Φc m c ((n + 1) + 2) ∗ (dat m c).owesAt () t.succ ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t)  ∗ owns (c : Thread nD τ) (st0_10 t) fullShare (outV m c (tileN m c (n + 1))))) := by
  simp only [before0, before1, before2, before3, before4, before5, before6, before7, before8, before9]
  unfold Dat.owesAt Pipeline.owesWithin owns
  rw [show (dat m c).owed t.castSucc = 0 from rfl, show (dat m c).owed t.succ = 0 from rfl]
  unfold Φc
  iintro ⟨⟨⟨⟨%fE, HE⟩, ⟨%fP, HP⟩, ⟨%fX, HX, %eX⟩, ⟨%fH, HH, %eH⟩⟩, Hg, ⟨%fG, HG, %eG⟩, ⟨%fU, HU, %eU⟩, ⟨%fD, HD, %eD⟩, ⟨Hq0, Hq1, Hq2⟩, HgG, HgU, HgD⟩, ⟨%W, -, HW⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d14, %f14, %h14, H14⟩⟩
  have hT : (⟨tileNo (grid0.coords t), (st0_0 t).view.read (Elt F) f1, (st0_1 t).view.read (Elt F) f2, (st0_2 t).view.read (Elt F) f3, (st0_3 t).view.read (Elt F) f4, (st0_4 t).view.read (Elt F) f5, (st0_5 t).view.read (Elt F) f6, (st0_6 t).view.read (Elt F) f7, (st0_7 t).view.read (Elt F) f8, (st0_8 t).view.read (Elt F) f9, (st0_9 t).view.read (Elt F) f10⟩ : Tile F) = tileN m c ((n + 1) + 1) := by
    rw [show (n + 1) + 1 = t.val by omega, tileN_val]; rw [h1, h2, h3, h4, h5, h6, h7, h8, h9, h10]; rfl
  have hb := later_spec c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10))
    f1 f2 f3 f4 f5 f6 f7 f8 f9 f10 f14 fE fP fX fH fG fU fD (wG m c) (wU m c) (wD m c) W _ _ eX eH eG eU eD (fun h => by have := (step0 t).mp h; omega) (fun h => by have := (step1 t).mp h; omega) ((step2 t).mpr (by omega))
  iapply (wp_wand_r Idealize.ShloMosaic.frame (wpE (defs₀ (F := F)) Variants.none (c : Thread nD τ) none) Set.univ)
  isplitl [H1 H2 H3 H4 H5 H6 H7 H8 H9 H10 H14 HE HP HX HH HG HU HD HgG HgU HgD Hq0 Hq1 Hq2 HW]
  · iapply hb; iframe
  iintro %r ⟨H1, H2, H3, H4, H5, H6, H7, H8, H9, H10, ⟨%g14, K14, %e14⟩, ⟨%gE, KE⟩, ⟨%gP, KP⟩, ⟨%gX, KX, %eX⟩, ⟨%gH, KH, %eH⟩, KG, KU, KD, KgG, KgU, KgD, Kq0, Kq1, Kq2, ⟨%W', HW⟩⟩
  isplitl [KE KP KX KH Hg KG KU KD KgG KgU KgD Kq0 Kq1 Kq2]
  · isplitl [KE KP KX KH]
    · isplitl [KE]; · iexists gE; iexact KE
      isplitl [KP]; · iexists gP; iexact KP
      isplitl [KX]
      · iexists gX; isplitl [KX]; · iexact KX
        ipureintro; exact eX.trans (congrArg x1V hT)
      iexists gH; isplitl [KH]; · iexact KH
      ipureintro; exact eH.trans (congrArg hV hT)
    isplitl [Hg]; · iexact Hg
    isplitl [KG]; · iexact KG
    isplitl [KU]; · iexact KU
    isplitl [KD]; · iexact KD
    isplitl [Kq0 Kq1 Kq2]; · iframe
    iframe
  isplitl [HW]
  · iexists W'; isplitr; · ipureintro; exact fun _ _ => Or.inl trivial
    iexact HW
  isplitl [H1]
  · iexists f1; isplitr
    · ipureintro; exact h1
    · iexact H1
  isplitl [H2]
  · iexists f2; isplitr
    · ipureintro; exact h2
    · iexact H2
  isplitl [H3]
  · iexists f3; isplitr
    · ipureintro; exact h3
    · iexact H3
  isplitl [H4]
  · iexists f4; isplitr
    · ipureintro; exact h4
    · iexact H4
  isplitl [H5]
  · iexists f5; isplitr
    · ipureintro; exact h5
    · iexact H5
  isplitl [H6]
  · iexists f6; isplitr
    · ipureintro; exact h6
    · iexact H6
  isplitl [H7]
  · iexists f7; isplitr
    · ipureintro; exact h7
    · iexact H7
  isplitl [H8]
  · iexists f8; isplitr
    · ipureintro; exact h8
    · iexact H8
  isplitl [H9]
  · iexists f9; isplitr
    · ipureintro; exact h9
    · iexact H9
  isplitl [H10]
  · iexists f10; isplitr
    · ipureintro; exact h10
    · iexact H10
  iexists g14; isplitr
  · ipureintro; exact e14
  · iexact K14

theorem idle_first (t : Fin grid0.N) (h : t.val = 0) : idle0 10 (grid0.coords t) = true := by
  revert t; decide +kernel
theorem idle_later (t : Fin grid0.N) (h : t.val ≠ 0) : idle0 10 (grid0.coords t) = false := by
  revert t; decide +kernel
theorem flush_first (t : Fin grid0.N) (h : t.val = 0) : (win0 10).flush t = false := by
  revert t; decide +kernel

set_option maxHeartbeats 1000000 in
/-- The library's body obligation. -/
theorem obligation (c : Dev nD) : BodyObligationLoose (dat m c) (defs₀ (F := F)) Variants.none () Set.univ := fun t => by
  rw [bigSep_W0, bigSep_W0, row]
  rcases ht : t.val with _ | _ | n
  · have hi := idle_first t ht
    have hf := flush_first t ht
    have hid : cfg0.idle 10 (cfg0.grid.coords t) = true := hi
    simp only [hid, hi, hf]
    have e1 : (dat m c).Φ t.castSucc = Φc m c 0 := by show Φc m c t.val = _; rw [ht]
    have e2 : (dat m c).Φ t.succ = Φc m c 1 := by show Φc m c (t.val + 1) = _; rw [ht]
    rw [e1, e2]
    exact triple_restated (point0 m c t ht) rfl .rfl fun _ => .rfl
  · have hi : cfg0.idle 10 (cfg0.grid.coords t) = false := idle_later t (by omega)
    simp only [idle_later t (by omega)]
    have e : (dat m c).after 10 t = outV m c (tileN m c 0) := by
      show outV m c (tileN m c (t.val - 1)) = _
      rw [ht]
    have e1 : (dat m c).Φ t.castSucc = Φc m c 1 := by show Φc m c t.val = _; rw [ht]
    have e2 : (dat m c).Φ t.succ = Φc m c (0 + 2) := by show Φc m c (t.val + 1) = _; rw [ht]
    rw [e1, e2, e]
    exact triple_restated (point1 m c t ht) rfl .rfl fun _ => .rfl
  · have hi : cfg0.idle 10 (cfg0.grid.coords t) = false := idle_later t (by omega)
    simp only [idle_later t (by omega)]
    have e : (dat m c).after 10 t = outV m c (tileN m c (n + 1)) := by
      show outV m c (tileN m c (t.val - 1)) = _
      rw [ht]; rfl
    have e1 : (dat m c).Φ t.castSucc = Φc m c (n + 2) := by show Φc m c t.val = _; rw [ht]
    have e2 : (dat m c).Φ t.succ = Φc m c (n + 1 + 2) := by show Φc m c (t.val + 1) = _; rw [ht]
    rw [e1, e2, e]
    exact triple_restated (point2 m c t n ht) rfl .rfl fun _ => .rfl

/-- The kernel's own semaphores. -/
abbrev osem0 : Fin 3 → SemLoc sig := fun j => (![SemLoc.dma 17, SemLoc.dma 18, SemLoc.dma 19] : Fin 3 → SemLoc sig) j

theorem ownSemFacts0 : Pipeline.OwnSemFacts spec0 osem0 := by decide

theorem ownSems0_eq' (c : Dev nD) : (Pipeline.ownSems0 osem0 c : sProp 𝕄)
    = iprop(semVal ((c : Thread nD τ), SemLoc.dma 17) 0 ∗ semVal ((c : Thread nD τ), SemLoc.dma 18) 0 ∗ semVal ((c : Thread nD τ), SemLoc.dma 19) 0) := by
  rw [Pipeline.ownSems0_eq_of_list c osem0 [0, 1, 2] (by decide) (by decide)]; rfl

/-- The arrays the kernel copies from itself. -/
abbrev H0 : Finset (Ref sig .tc) := {main_arg8, main_arg9, main_arg10}

theorem H0_sub : H0 ⊆ Pipeline.restRefs sig spec0 := by decide

theorem H0_pts (c : Dev nD) :
    (bigSep H0 (fun b => iprop((c : Thread nD τ).loc b ↦{fullShare} V m c b)) : sProp 𝕄)
      = iprop(((c : Thread nD τ).loc main_arg8 ↦{fullShare} V m c main_arg8) ∗ ((c : Thread nD τ).loc main_arg9 ↦{fullShare} V m c main_arg9) ∗ ((c : Thread nD τ).loc main_arg10 ↦{fullShare} V m c main_arg10)) := by
  rw [BI.bigSep_eq_bigSepL_of_eq [main_arg8, main_arg9, main_arg10] (by decide) (by decide)]; rfl

/-- A whole buffer's points-to, as a memref's. -/
theorem pt_whole (c : Dev nD) (b : Ref sig .tc) (f : Buf (Elt F) ((c : Thread nD τ).loc b)) :
    (iprop((c : Thread nD τ).loc b ↦{fullShare} f) : sProp 𝕄) = iprop((Memref.whole b).view.loc (c : Thread nD τ) ↦[(Memref.whole b).view.set]{fullShare} f) := by
  simp only [View.set_whole, Memref.view_whole]

set_option maxHeartbeats 4000000 in
/-- The invariant holds at the start. -/
theorem inv_in (c : Dev nD) : Pipeline.ΦD osem0 spec0 H0 (V m) c ⊢ (dat m c).Φ 0 := by
  show _ ⊢ Φc m c 0
  rw [Pipeline.ΦD_eq, ownSems0_eq', H0_pts, scopedRest0_eq]; unfold Φc; simp only [pt_whole]
  iintro ⟨HS, Hg, Hq, HgG, HgU, HgD⟩
  isplitl [HS]; · iexact HS
  isplitl [Hg]; · iexact Hg
  isplitl [Hq]; · iexact Hq
  isplitl [HgG]; · iexact HgG
  isplitl [HgU]; · iexact HgU
  iexact HgD

set_option maxHeartbeats 4000000 in
/-- What the launch lent is given back at the end. -/
theorem inv_out (c : Dev nD) : (dat m c).Φ (Fin.last cfg0.N) ⊢ Pipeline.ΦD osem0 spec0 H0 (V m) c := by
  show Φc m c (31 + 2) ⊢ _
  rw [Pipeline.ΦD_eq, ownSems0_eq', H0_pts, scopedRest0_eq]; unfold Φc; simp only [pt_whole]
  iintro ⟨⟨HE, HP, ⟨%fX, HX, -⟩, ⟨%fH, HH, -⟩⟩, Hg, ⟨%fG, HG, -⟩, ⟨%fU, HU, -⟩, ⟨%fD, HD, -⟩, Hq, HgG, HgU, HgD⟩
  isplitl [HE HP HX HH HG HU HD]
  · isplitl [HE]; · iexact HE
    isplitl [HP]; · iexact HP
    isplitl [HX]; · iexists fX; iexact HX
    isplitl [HH]; · iexists fH; iexact HH
    isplitl [HG]; · iexists fG; iexact HG
    isplitl [HU]; · iexists fU; iexact HU
    iexists fD; iexact HD
  isplitl [Hg]; · iexact Hg
  isplitl [Hq]; · iexact Hq
  isplitl [HgG]; · iexact HgG
  isplitl [HgU]; · iexact HgU
  iexact HgD

set_option maxHeartbeats 800000 in
/-- The launch's first part: the host operations before the call. -/
theorem hmain' : Pipeline.HMain (Ix := Unit) (Name := ℕ) (U := Pipeline.UD sig nD τ) (Lvl := ℕ) cfgs 0 (defs₀ (F := F)) Variants.none m (main (F := F)) (V m) :=
  Pipeline.hmain_prefix cfgs 0 (defs₀ (F := F)) Variants.none m main hostOps0 hostOps0_sub hostOps0_fresh main_chain

set_option backward.isDefEq.respectTransparency.types false in
set_option maxHeartbeats 800000 in
/-- The run: every window's array ends at its final contents, every other buffer as the call found it, every counter at zero. -/
theorem run_main : θ_run defs (onTc (τ := τ) (main (F := F))) (s₀ m ρ)
    (fun r => Pipeline.FramePost cfgs (dats m) 0 (V m) r ∧ r.2.sem = fun _ => 0) :=
  Pipeline.θ_run_frame_dma_shared cfgs (dats m) 0 launch₀0 osem0 (defs₀ (F := F)) Variants.none ownSemFacts0 H0 H0_sub m ρ main
    (fun c => obligation m c) (fun c w _ => rfl) (fun c t => rfl) (V m) (hmain' m) (fun c w => rfl)
    (fun c => inv_in m c) (fun c => inv_out m c) _ (fun _ h => h)

end Cert.Proof.MixIdeal

end
-- ==== Proof.Mix.Frame.lean ====
module

public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import Idealize.ShloMosaic.Lib.Pipeline.FrameBody
public import Idealize.ShloMosaic.Lib.Ring
public import Idealize.ShloMosaic.Lib.Tactic
public import proofs.«01_k».proof.Proof.Mix.Launch

@[expose] public section

set_option maxRecDepth 16384

noncomputable section

namespace Cert.Proof.MixIdeal

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The frame: the call runs, its argument arrays end unchanged and every semaphore counter ends at zero. -/
theorem quiescent : θ_run defs (onTc (τ := τ) (main (F := F))) ⟨m, fun _ => 0, ρ⟩ (fun r => (∀ c : Dev nD,
  r.2.mem ((c.tc : Thread nD τ).loc main_arg0) = m ((c.tc : Thread nD τ).loc main_arg0)
      ∧   r.2.mem ((c.tc : Thread nD τ).loc main_arg1) = m ((c.tc : Thread nD τ).loc main_arg1)
      ∧   r.2.mem ((c.tc : Thread nD τ).loc main_arg2) = m ((c.tc : Thread nD τ).loc main_arg2)
      ∧   r.2.mem ((c.tc : Thread nD τ).loc main_arg3) = m ((c.tc : Thread nD τ).loc main_arg3)
      ∧   r.2.mem ((c.tc : Thread nD τ).loc main_arg4) = m ((c.tc : Thread nD τ).loc main_arg4)
      ∧   r.2.mem ((c.tc : Thread nD τ).loc main_arg5) = m ((c.tc : Thread nD τ).loc main_arg5)
      ∧   r.2.mem ((c.tc : Thread nD τ).loc main_arg6) = m ((c.tc : Thread nD τ).loc main_arg6)
      ∧   r.2.mem ((c.tc : Thread nD τ).loc main_arg7) = m ((c.tc : Thread nD τ).loc main_arg7)
      ∧   r.2.mem ((c.tc : Thread nD τ).loc main_arg8) = m ((c.tc : Thread nD τ).loc main_arg8)
      ∧   r.2.mem ((c.tc : Thread nD τ).loc main_arg9) = m ((c.tc : Thread nD τ).loc main_arg9)
      ∧   r.2.mem ((c.tc : Thread nD τ).loc main_arg10) = m ((c.tc : Thread nD τ).loc main_arg10))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).1 1).trans (((dats m 0 c).arrAt_in 1 rfl _).trans (V_main_arg1 m c)),
      ((h.1 c).1 2).trans (((dats m 0 c).arrAt_in 2 rfl _).trans (V_main_arg2 m c)),
      ((h.1 c).1 5).trans (((dats m 0 c).arrAt_in 5 rfl _).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).1 8).trans (((dats m 0 c).arrAt_in 8 rfl _).trans (V_main_arg6 m c)),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c)⟩, h.2⟩) (run_main m ρ)

end Cert.Proof.MixIdeal

end
-- ==== Proof.AttentionValue.Tile.lean ====
module

public import proofs.«01_k».proof.Proof.Attention.Values
public import Idealize.ShloMosaic.Lib.Pointwise

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic

/-! ## What a tile's operations are at an index, over exact numbers -/

/-- The kernel's test whether lane `k` lies in half `h`, decided lane by lane. -/
theorem keep_bit : ∀ (h : Fin 2) (k : Fin 128), (IntOp.cmpi CmpIPredicate.eq
        (Scalar.select
          (IntOp.andi
            (IntOp.cmpi CmpIPredicate.ne
              (IntOp.subi (BitVec.setWidth 32 (IntOp.cmpi CmpIPredicate.sgt (BitVec.ofNat 32 k.val) 0#32))
                (BitVec.setWidth 32 (IntOp.cmpi CmpIPredicate.slt (BitVec.ofNat 32 k.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 k.val) 64#32) 0#32))
          (IntOp.subi (IntOp.divsi ArithUnit.vector (BitVec.ofNat 32 k.val) 64#32) 1#32)
          (IntOp.divsi ArithUnit.vector (BitVec.ofNat 32 k.val) 64#32))
        (BitVec.ofNat 32 h.val)) = BitVec.ofBool (decide (k.val / 64 = h.val)) := by
  decide +kernel

/-- One head's queries kept, the other's zeroed. -/
theorem keep_apply (h : Fin 2) (q : FVec Ideal S128x128 .bf16) (r k : Fin 128) :
    keep lane (BitVec.ofNat 32 h.val) q (ix2 r k) = if k.val / 64 = h.val then q (ix2 r k) else 0 := by
  pointwise [keep, half]
  rw [keep_bit h k]
  by_cases e : k.val / 64 = h.val <;> simp [e, Scalar.select]

/-- Row `i` of the stacked queries is row `i % 128` of head `i / 128`, whose 64 lanes alone are kept. -/
theorem stack_apply (Q : Vec Ideal S1x1x128x256 .bf16) (i : Fin 512) (k : Fin 128) :
    stack lane Q (ix2 i k) = if k.val / 64 = i.val / 128 % 2
      then Q (ix4 0 0 ⟨i.val % 128, Nat.mod_lt _ (by decide)⟩ ⟨128 * (i.val / 256) + k.val, by omega⟩) else 0 := by
  have k0 := keep_apply 0
  have k1 := keep_apply 1
  simp only [Fin.val_zero, Fin.val_one, Fin.isValue] at k0 k1
  pointwise [stack]
  have e0 : (0#32 : BitVec 32) = BitVec.ofNat 32 0 := rfl
  have e1 : (1#32 : BitVec 32) = BitVec.ofNat 32 1 := rfl
  rw [e0, e1]
  have hi := i.isLt
  by_cases hc : k.val / 64 = i.val / 128 % 2
  · rw [if_pos hc]
    split_ifs <;> (first | rw [k0, if_pos (by omega)] | rw [k1, if_pos (by omega)]) <;>
      (pointwise
       refine congrArg Q ?_
       congr 1 <;> (apply Fin.ext; show _ = _; dsimp only; omega))
  · rw [if_neg hc]
    split_ifs <;> (first | rw [k0, if_neg (by omega)] | rw [k1, if_neg (by omega)])

/-- A score: row `i` of head `i / 128` against key `j`, over the head's 64 lanes. -/
theorem scoreSt_apply (Q : Vec Ideal S1x1x128x256 .bf16) (K : Vec Ideal S1x1x2048x128 .bf16) (i : Fin 512) (j : Fin 2048) :
    scoreSt lane Q K (ix2 i j) = ∑ d : Fin 64, Q (ix4 0 0 ⟨i.val % 128, Nat.mod_lt _ (by decide)⟩ ⟨64 * (i.val / 128) + d.val, by omega⟩)
      * K (ix4 0 0 j ⟨64 * (i.val / 128 % 2) + d.val, by omega⟩) := by
  have hs := stack_apply Q i
  pointwise [scoreSt, scoreMat]
  simp only [hs, ite_mul, zero_mul]
  rw [Fin.sum_univ_two_halves 64 64 rfl]
  have hi := i.isLt
  rcases Nat.mod_two_eq_zero_or_one (i.val / 128) with e | e
  · have z : ∀ k : Fin 64, (64 + k.val) / 64 ≠ 0 := fun k => by omega
    have o : ∀ k : Fin 64, k.val / 64 = 0 := fun k => by omega
    simp only [e, z, o, if_true, if_false, Finset.sum_const_zero, add_zero]
    refine Finset.sum_congr rfl fun k _ => ?_
    congr 2 <;> congr 1 <;> (apply Fin.ext; show _ = _; dsimp only; omega)
  · have z : ∀ k : Fin 64, (64 + k.val) / 64 = 1 := fun k => by omega
    have o : ∀ k : Fin 64, k.val / 64 ≠ 1 := fun k => by omega
    simp only [e, z, o, if_true, if_false, Finset.sum_const_zero, zero_add]
    refine Finset.sum_congr rfl fun k _ => ?_
    congr 2 <;> congr 1 <;> (apply Fin.ext; show _ = _; dsimp only; omega)

/-- The constant that a maximum starts from is the least element. -/
theorem ninf_bot : Ideal.ofBits FTy.f32 0xFF800000#32 = (⊥ : EReal) := by
  simp [Ideal.ofBits, Ideal.ieee]

/-- A fold of maxima is a supremum. -/
theorem fold_max {ι : Type} (s : Finset ι) (f : ι → EReal) : Finset.fold max (⊥ : EReal) f s = s.sup f := rfl

/-- The maximum over the lanes of the maximum over the sixteen stretches is the maximum over all keys. -/
theorem row_apply (S : FVec Ideal S512x2048 .f32) (i : Fin 512) (l : Fin 128) :
    rowSt (lanes S) (ix2 i l) = Finset.univ.sup fun j : Fin 2048 => (S (ix2 i j) : EReal) := by
  have hl : ∀ l : Fin 128, lanes S (ix2 i l) ≤ Finset.univ.sup fun j : Fin 2048 => (S (ix2 i j) : EReal) := fun l => by
    have h : ∀ p : Fin 2048, (S (ix2 i p) : EReal) ≤ Finset.univ.sup fun j : Fin 2048 => (S (ix2 i j) : EReal) :=
      fun p => Finset.le_sup (f := fun j : Fin 2048 => (S (ix2 i j) : EReal)) (Finset.mem_univ p)
    pointwise [lanes]
    simp only [max_le_iff, h, and_self]
  have hg : ∀ (n : ℕ) (hn : n < 16) (l : Fin 128), (S (ix2 i ⟨128 * n + l.val, by omega⟩) : EReal) ≤ lanes S (ix2 i l) := fun n hn l => by
    pointwise [lanes]
    interval_cases n <;> simp only [Nat.mul_zero, Nat.zero_add, Nat.reduceMul, le_max_iff, le_refl, or_true, true_or]
  pointwise [rowSt]
  rw [ninf_bot, fold_max]
  refine le_antisymm (Finset.sup_le fun l _ => hl l) (Finset.sup_le fun j _ => ?_)
  refine le_trans ?_ (Finset.le_sup (f := fun l : Fin 128 => (lanes S (ix2 i l) : EReal)) (Finset.mem_univ ⟨j.val % 128, Nat.mod_lt _ (by decide)⟩))
  refine le_trans (le_of_eq ?_) (hg (j.val / 128) (by omega) _)
  congr 2; apply Fin.ext; show j.val = 128 * (j.val / 128) + j.val % 128; omega

/-- Sixteen copies of a column constant along the lanes, side by side, are that column. -/
theorem cat_apply (m : FVec Ideal S512x128 .f32) (M : Fin 512 → EReal) (hm : ∀ i l, m (ix2 i l) = M i) (i : Fin 512) (j : Fin 2048) :
    (concatenate S512x2048 1 [⟨S512x128, m⟩, ⟨S512x128, m⟩, ⟨S512x128, m⟩, ⟨S512x128, m⟩, ⟨S512x128, m⟩, ⟨S512x128, m⟩, ⟨S512x128, m⟩, ⟨S512x128, m⟩, ⟨S512x128, m⟩, ⟨S512x128, m⟩, ⟨S512x128, m⟩, ⟨S512x128, m⟩, ⟨S512x128, m⟩, ⟨S512x128, m⟩, ⟨S512x128, m⟩, ⟨S512x128, m⟩] concatenates_S512x128_S512x128_S512x128_S512x128_S512x128_S512x128_S512x128_S512x128_S512x128_S512x128_S512x128_S512x128_S512x128_S512x128_S512x128_S512x128_S512x2048_d1 : FVec Ideal S512x2048 .f32) (ix2 i j) = M i := by
  have e : m = fun x => M (x (0 : Fin 2)) := by funext x; idx_vars x; exact hm _ _
  subst e
  rw [concatenate_cons_apply]
  iterate 15 (rw [concatenateAt_cons]; split; · rfl)
  rw [concatenateAt_singleton]; rfl

/-- A weighted sum: the powers of two of the scores less their maximum, times the values. -/
theorem outSt_apply (S : FVec Ideal S512x2048 .f32) (m : FVec Ideal S512x128 .f32) (M : Fin 512 → EReal) (hm : ∀ i l, m (ix2 i l) = M i)
    (V : Vec Ideal S1x1x2048x128 .bf16) (i : Fin 512) (l : Fin 128) :
    outSt S m V (ix2 i l) = ∑ j : Fin 2048, Ideal.exp2 ((S (ix2 i j) : EReal) - M i) * V (ix4 0 0 j l) := by
  have hc := cat_apply m M hm
  unfold outSt
  generalize (concatenate S512x2048 1 _ _ : FVec Ideal S512x2048 .f32) = C at hc ⊢
  pointwise
  simp only [hc]
  rfl

/-- A result: two heads side by side, each a weighted sum over its sum of weights. -/
theorem finSt_apply (a b : Vec Ideal S128x128 .f32) (r l : Fin 128) :
    finSt lane a b (ix4 0 0 r l) = if l.val < 64
      then Ideal.div (a (ix2 r l)) (a (ix2 r ⟨(l.val + 64) % 128, Nat.mod_lt _ (by decide)⟩))
      else Ideal.div (b (ix2 r ⟨(l.val + 64) % 128, Nat.mod_lt _ (by decide)⟩)) (b (ix2 r l)) := by
  have hb : ∀ k : Fin 128, IntOp.cmpi CmpIPredicate.slt (BitVec.ofNat 32 k.val) 64#32 = BitVec.ofBool (decide (k.val < 64)) := by decide +kernel
  have hr : (⟨(l.val + 128 - 64) % 128, Nat.mod_lt _ (by decide)⟩ : Fin 128) = ⟨(l.val + 64) % 128, Nat.mod_lt _ (by decide)⟩ := by
    apply Fin.ext; show _ = _; dsimp only; omega
  pointwise [finSt]
  rw [hb, hr]
  by_cases e : l.val < 64 <;> simp [e, Scalar.select]

end Cert.Proof.AttnIdeal

end
-- ==== Proof.AttentionValue.Batch.lean ====
module

public import proofs.«01_k».proof.Proof.Attention.Tiles
public import proofs.«01_k».proof.Proof.AttentionValue.Tile
public import Idealize.ShloMosaic.Lib.Pointwise

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic

/-! ## A batch's result at an index, over the batch's packed block -/

variable (X : Vec Ideal S1x2x2048x512 .bf16)

theorem qT_apply (t : ℕ) (a : Fin 128) (b : Fin 256) :
    qT X t (ix4 0 0 a b) = X (ix4 0 ⟨t / 16 % 2, by omega⟩ ⟨128 * (t % 16) + a.val, by omega⟩ ⟨b.val, by omega⟩) := by
  unfold qT; pointwise
theorem kT_apply (t : ℕ) (j : Fin 2048) (b : Fin 128) :
    kT X t (ix4 0 0 j b) = X (ix4 0 ⟨t / 16 % 2, by omega⟩ j ⟨256 + b.val, by omega⟩) := by
  unfold kT; pointwise
theorem vT_apply (t : ℕ) (j : Fin 2048) (b : Fin 128) :
    vT X t (ix4 0 0 j b) = X (ix4 0 ⟨t / 16 % 2, by omega⟩ j ⟨384 + b.val, by omega⟩) := by
  unfold vT; pointwise

/-- The score of query row `q` of head `h` of group `g` against key `j`, over the packed block. -/
def bscore (g : Fin 2) (q : Fin 2048) (h : Fin 4) (j : Fin 2048) : EReal :=
  ∑ d : Fin 64, (X (ix4 0 g q ⟨64 * h.val + d.val, by omega⟩) : EReal) * X (ix4 0 g j ⟨256 + (64 * (h.val % 2) + d.val), by omega⟩)

/-- The weighted sum of the block's lane `l` over the keys. -/
def bsum (g : Fin 2) (q : Fin 2048) (h : Fin 4) (l : Fin 512) : EReal :=
  ∑ j : Fin 2048, Ideal.exp2 (bscore X g q h j - Finset.univ.sup (bscore X g q h)) * (X (ix4 0 g j l) : EReal)

/-- The row of the packed block that row `i` of tile `t` is. -/
def rowOf (t : ℕ) (i : Fin 512) : Fin 2048 := ⟨128 * (t % 16) + i.val % 128, by omega⟩

theorem Sc_apply (t : ℕ) (i : Fin 512) (j : Fin 2048) :
    (Sc X t (ix2 i j) : EReal) = bscore X ⟨t / 16 % 2, by omega⟩ (rowOf t i) ⟨i.val / 128, by omega⟩ j := by
  unfold Sc
  rw [scoreSt_apply]
  simp only [qT_apply, kT_apply]
  rfl

theorem RM_apply (t : ℕ) (i : Fin 512) (l : Fin 128) :
    (RM X t (ix2 i l) : EReal) = Finset.univ.sup (bscore X ⟨t / 16 % 2, by omega⟩ (rowOf t i) ⟨i.val / 128, by omega⟩) := by
  have e : LM X t = lanes (Sc X t) := by
    unfold LM Sc laneSt scoreSt
    funext x; idx_vars x
    pointwise [lanes]
  unfold RM
  rw [e, row_apply]
  exact Finset.sup_congr rfl fun j _ => Sc_apply X t i j

/-- Row `i`, lane `l` of a tile's weighted sums. -/
theorem OE_apply (t : ℕ) (i : Fin 512) (l : Fin 128) :
    (OE X t (ix2 i l) : EReal) = bsum X ⟨t / 16 % 2, by omega⟩ (rowOf t i) ⟨i.val / 128, by omega⟩ ⟨384 + l.val, by omega⟩ := by
  unfold OE bsum
  rw [outSt_apply _ _ _ (RM_apply X t)]
  refine Finset.sum_congr rfl fun j _ => ?_
  rw [Sc_apply, vT_apply]

/-- A batch's result at row `q` and lane `n` of group `g`: head `n / 64`, lane `n % 64`. -/
theorem outAt_apply (b : Fin 1) (g : Fin 2) (q : Fin 2048) (n : Fin 256) :
    (outAt X (ix4 b g q n) : EReal) = Ideal.div (bsum X g q ⟨n.val / 64, by omega⟩ ⟨384 + n.val % 64, by omega⟩)
      (bsum X g q ⟨n.val / 64, by omega⟩ ⟨448 + n.val % 64, by omega⟩) := by
  have hg := g.isLt
  have hq := q.isLt
  have hn := n.isLt
  have key : ∀ (i : Fin 512) (l l' : Fin 128), i.val = 128 * (n.val / 64) + q.val % 128 → l.val = n.val % 64 → l'.val = 64 + n.val % 64 →
      Ideal.div (OE X (16 * g.val + q.val / 128) (ix2 i l)) (OE X (16 * g.val + q.val / 128) (ix2 i l'))
        = Ideal.div (bsum X g q ⟨n.val / 64, by omega⟩ ⟨384 + n.val % 64, by omega⟩) (bsum X g q ⟨n.val / 64, by omega⟩ ⟨448 + n.val % 64, by omega⟩) := by
    intro i l l' hi hl hl'
    have e1 : (⟨(16 * g.val + q.val / 128) / 16 % 2, by omega⟩ : Fin 2) = g := by apply Fin.ext; show _ = _; dsimp only; omega
    have e2 : rowOf (16 * g.val + q.val / 128) i = q := by apply Fin.ext; show _ = _; dsimp only [rowOf]; omega
    have e3 : (⟨i.val / 128, by omega⟩ : Fin 4) = ⟨n.val / 64, by omega⟩ := by apply Fin.ext; show _ = _; dsimp only; omega
    have e4 : (⟨384 + l.val, by omega⟩ : Fin 512) = ⟨384 + n.val % 64, by omega⟩ := by apply Fin.ext; show _ = _; dsimp only; omega
    have e5 : (⟨384 + l'.val, by omega⟩ : Fin 512) = ⟨448 + n.val % 64, by omega⟩ := by apply Fin.ext; show _ = _; dsimp only; omega
    rw [OE_apply, OE_apply, e1, e2, e3, e4, e5]
  have et : tileOf (ix4 b g q n : S1x2x2048x256.Idx) = 16 * g.val + q.val / 128 := rfl
  have ei : ∀ r l, inTile r l = ix4 0 0 ⟨r % 128, Nat.mod_lt _ (by decide)⟩ ⟨l % 128, Nat.mod_lt _ (by decide)⟩ := fun r l => by
    funext a; match a with | 0 => rfl | 1 => rfl | 2 => rfl | 3 => rfl
  unfold outAt
  rw [et, ei]
  show (if n.val < 128 then O1 X _ (ix4 0 0 ⟨q.val % 128, _⟩ ⟨n.val % 128, _⟩) else O2 X _ (ix4 0 0 ⟨q.val % 128, _⟩ ⟨n.val % 128, _⟩)) = _
  split_ifs with h
  · unfold O1
    rw [finSt_apply]
    split_ifs with h'
    all_goals
      pointwise
      refine key _ _ _ ?_ ?_ ?_ <;> (show _ = _; dsimp only at *; omega)
  · unfold O2
    rw [finSt_apply]
    split_ifs with h'
    all_goals
      pointwise
      refine key _ _ _ ?_ ?_ ?_ <;> (show _ = _; dsimp only at *; omega)

end Cert.Proof.AttnIdeal

end
-- ==== Proof.AttentionValue.Packed.lean ====
module

public import proofs.«01_k».proof.Proof.Attention.Blocks
public import Idealize.ShloMosaic.Lib.StableHlo.ReadAt
public import Idealize.ShloMosaic.Lib.Pointwise

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic

/-! ## The packed array at an index -/

variable (m : (ℓ : Loc nD τ sig) → Buf (Elt Ideal) ℓ) (c : Dev nD)

/-- The queries, the keys and the values of a device. -/
abbrev argQ : Vec Ideal S8x2048x512 .f32 := m ((c : Thread nD τ).loc main_arg0)
abbrev argK : Vec Ideal S8x2048x128 .f32 := m ((c : Thread nD τ).loc main_arg1)
abbrev argV : Vec Ideal S8x2048x128 .f32 := m ((c : Thread nD τ).loc main_arg2)

/-- The factor of the packed queries. -/
abbrev qfac : EReal := Ideal.div (Ideal.ofBits FTy.f32 0x3E000000#32) (Ideal.log (Ideal.ofBits FTy.f32 0x40000000#32))

/-- The packed array: 256 lanes of scaled queries, the keys twice, the values, ones. -/
theorem packed (b : Fin 8) (g : Fin 2) (r : Fin 2048) (l : Fin 512) : (qkv m c (ix4 b g r l) : EReal) =
    if h : l.val < 256 then (argQ m c (ix3 b r ⟨g.val * 256 + l.val, by omega⟩) : EReal) * qfac
    else if h : l.val - 256 < 64 then argK m c (ix3 b r ⟨g.val * 64 + (l.val - 256), by omega⟩)
    else if h : l.val - 256 - 64 < 64 then argK m c (ix3 b r ⟨g.val * 64 + (l.val - 256 - 64), by omega⟩)
    else if h : l.val - 256 - 64 - 64 < 64 then argV m c (ix3 b r ⟨g.val * 64 + (l.val - 256 - 64 - 64), by omega⟩)
    else 1 := by
  unfold qkv V
  after_reads_at
  after_reads_at

variable (n : Fin 8) (b : Fin 1) (g : Fin 2) (r : Fin 2048)

theorem bX_at (l : Fin 512) : bX m c n.val (ix4 b g r l) = qkv m c (ix4 n g r l) := by
  unfold bX
  refine congrArg (qkv m c) (funext fun a => Fin.ext ?_)
  match a with
  | 0 => show min n.val 7 % 8 = n.val; omega
  | 1 => show g.val % 2 = g.val; omega
  | 2 => show r.val % 2048 = r.val; omega
  | 3 => show l.val % 512 = l.val; omega

/-- A batch's block at the queries' lanes, the keys', the values' and the ones'. -/
theorem bX_q (d : Fin 256) : (bX m c n.val (ix4 b g r ⟨d.val, by omega⟩) : EReal) = (argQ m c (ix3 n r ⟨g.val * 256 + d.val, by omega⟩) : EReal) * qfac := by
  rw [bX_at, packed, dif_pos d.isLt]
theorem bX_k (a : Fin 2) (d : Fin 64) (l : Fin 512) (hl : l.val = 256 + (64 * a.val + d.val)) :
    (bX m c n.val (ix4 b g r l) : EReal) = argK m c (ix3 n r ⟨g.val * 64 + d.val, by omega⟩) := by
  rw [bX_at, packed, dif_neg (by omega)]
  split_ifs
  · congr 2; apply Fin.ext; show _ = _; dsimp only; omega
  · congr 2; apply Fin.ext; show _ = _; dsimp only; omega
  · omega
  · omega
theorem bX_v (d : Fin 64) (l : Fin 512) (hl : l.val = 384 + d.val) :
    (bX m c n.val (ix4 b g r l) : EReal) = argV m c (ix3 n r ⟨g.val * 64 + d.val, by omega⟩) := by
  rw [bX_at, packed, dif_neg (by omega), dif_neg (by omega), dif_neg (by omega), dif_pos (by omega)]
  congr 2; apply Fin.ext; show _ = _; dsimp only; omega
theorem bX_one (l : Fin 512) (hl : 448 ≤ l.val) : (bX m c n.val (ix4 b g r l) : EReal) = 1 := by
  rw [bX_at, packed, dif_neg (by omega), dif_neg (by omega), dif_neg (by omega), dif_neg (by omega)]

end Cert.Proof.AttnIdeal

end
-- ==== Proof.AttentionValue.Reference.lean ====
module

public import proofs.«01_k».proof.Proof.Gen.AttnRefIdeal
public import proofs.«01_k».proof.Proof.Gen.AttnRefIdeal.Run
public import Idealize.ShloMosaic.Lib.Pointwise

@[expose] public section

set_option maxRecDepth 16384

noncomputable section

namespace Cert.Proof.AttnRefIdeal

open Cert.AttnRefIdeal Cert.AttnRefIdeal.Gen
open Idealize.ShloMosaic Idealize.ShloMosaic.TcCoe Idealize.ShloMosaic.Tactic

/-! ## What the reference computes at an index -/

variable (q : Vec Ideal S8x2048x512 .f32) (k v : Vec Ideal S8x2048x128 .f32)

/-- The reference's scores. -/
def scoresR : FVec Ideal S8x2x4x2048x2048 .f32 := (mulf (transpose S8x2x4x2048x2048 [0, 1, 4, 3, 2] (Host.dotGeneral (φ₁ := .f32) (φ₂ := .f32) dot_S8x2048x2x64_S8x2048x2x4x64_S8x2x2048x2048x4_3_4_1_13_02_02 none (shapeCast (α := Ideal .f32) S8x2048x2x64 k shapeCasts_S8x2048x128_S8x2048x2x64) (shapeCast (α := Ideal .f32) S8x2048x2x4x64 q shapeCasts_S8x2048x512_S8x2048x2x4x64)) transposes_S8x2x2048x2048x4_S8x2x4x2048x2048_0_1_4_3_2) (broadcastInDim S8x2x4x2048x2048 ![] bcast_S_S8x2x4x2048x2048 (constant S_ .f32 0x3E000000#32)))

/-- A row's maximum as the host takes it. -/
def rowMax (x : FVec Ideal S8x2x4x2048x2048 .f32) : FVec Ideal S8x2x4x2048 .f32 :=
  Host.reduce FloatOps.maximumf x (constant S_ .f32 0xFF800000#32) reducesTo_S8x2x4x2048x2048_S8x2x4x2048_d4 h_S_

/-- Its exponentials of the scores less their row's maximum. -/
def expR : FVec Ideal S8x2x4x2048x2048 .f32 := (Host.exp (subf (scoresR q k) (broadcastInDim S8x2x4x2048x2048 ![0, 1, 2, 3, 4] bcast_S8x2x4x2048x1_S8x2x4x2048x2048_0_1_2_3_4 (broadcastInDim S8x2x4x2048x1 ![0, 1, 2, 3] bcast_S8x2x4x2048_S8x2x4x2048x1_0_1_2_3 (maximumf (broadcastInDim S8x2x4x2048 ![] bcast_S_S8x2x4x2048 (constant S_ .f32 0xFF800000#32)) (rowMax (scoresR q k)))))))

/-- Its weights. -/
def weightsR : FVec Ideal S8x2x4x2048x2048 .f32 := (Host.divf (expR q k) (broadcastInDim S8x2x4x2048x2048 ![0, 1, 2, 3, 4] bcast_S8x2x4x2048x1_S8x2x4x2048x2048_0_1_2_3_4 (broadcastInDim S8x2x4x2048x1 ![0, 1, 2, 3] bcast_S8x2x4x2048_S8x2x4x2048x1_0_1_2_3 (Host.reduceAdd (expR q k) (constant S_ .f32 0x00000000#32) reducesTo_S8x2x4x2048x2048_S8x2x4x2048_d4 h_S_))))

/-- Its result. -/
def resultR : FVec Ideal S8x2x2048x256 .bf16 := truncf .bf16 (transpose S8x2x2048x256 [0, 2, 1, 3] (shapeCast _ (transpose S8x2048x2x4x64 [0, 4, 1, 3, 2] (Host.dotGeneral (φ₁ := .f32) (φ₂ := .f32) dot_S8x2048x2x64_S8x2x4x2048x2048_S8x2x64x4x2048_1_4_3_23_02_01 none (shapeCast (α := Ideal .f32) S8x2048x2x64 v shapeCasts_S8x2048x128_S8x2048x2x64) (weightsR q k)) transposes_S8x2x64x4x2048_S8x2048x2x4x64_0_4_1_3_2) shapeCasts_S8x2048x2x4x64_S8x2048x2x256) transposes_S8x2048x2x256_S8x2x2048x256_0_2_1_3) bitsLt_bf16_f32

/-- The score of query row `i` of head `h` of group `g` of batch `b` against key `j`. -/
def rscore (b : Fin 8) (g : Fin 2) (h : Fin 4) (i j : Fin 2048) : EReal :=
  (∑ d : Fin 64, (k (ix3 b j ⟨g.val * 64 + d.val, by omega⟩) : EReal) * q (ix3 b i ⟨g.val * 256 + h.val * 64 + d.val, by omega⟩)) * Ideal.ofBits FTy.f32 0x3E000000#32

theorem scoresR_apply (b : Fin 8) (g : Fin 2) (h : Fin 4) (i j : Fin 2048) : (scoresR q k (ix5 b g h i j) : EReal) = rscore q k b g h i j := by
  pointwise [scoresR]
  rfl

theorem rowMax_fold (x : FVec Ideal S8x2x4x2048x2048 .f32) (b : Fin 8) (g : Fin 2) (h : Fin 4) (i : Fin 2048) :
    (rowMax x (ix4 b g h i) : EReal) = Finset.univ.fold max (Ideal.ofBits FTy.f32 0xFF800000#32) (fun j : Fin 2048 => (x (ix5 b g h i j) : EReal)) := by
  pointwise [rowMax]

theorem least : Ideal.ofBits FTy.f32 0xFF800000#32 = (⊥ : EReal) := by
  simp [Ideal.ofBits, Ideal.ieee]

theorem fold_max {ι : Type} (s : Finset ι) (f : ι → EReal) : Finset.fold max (⊥ : EReal) f s = s.sup f := rfl

/-- A row's maximum is the supremum of the row. -/
theorem rowMax_apply (x : FVec Ideal S8x2x4x2048x2048 .f32) (b : Fin 8) (g : Fin 2) (h : Fin 4) (i : Fin 2048) :
    (rowMax x (ix4 b g h i) : EReal) = Finset.univ.sup (fun j : Fin 2048 => (x (ix5 b g h i j) : EReal)) := by
  rw [rowMax_fold, least, fold_max]

/-- One value per row, spread along the row. -/
theorem spread_apply (y : FVec Ideal S8x2x4x2048 .f32) (b : Fin 8) (g : Fin 2) (h : Fin 4) (i j : Fin 2048) :
    (broadcastInDim S8x2x4x2048x2048 ![0, 1, 2, 3, 4] bcast_S8x2x4x2048x1_S8x2x4x2048x2048_0_1_2_3_4 (broadcastInDim S8x2x4x2048x1 ![0, 1, 2, 3] bcast_S8x2x4x2048_S8x2x4x2048x1_0_1_2_3 y) (ix5 b g h i j) : EReal) = y (ix4 b g h i) := by
  pointwise

theorem exp_sub_apply (x y : FVec Ideal S8x2x4x2048x2048 .f32) (i : S8x2x4x2048x2048.Idx) :
    (Host.exp (subf x y) i : EReal) = Ideal.exp ((x i : EReal) - y i) := rfl

theorem max_apply (x y : FVec Ideal S8x2x4x2048 .f32) (i : S8x2x4x2048.Idx) :
    (maximumf x y i : EReal) = max (x i : EReal) (y i) := rfl

theorem expR_read (b : Fin 8) (g : Fin 2) (h : Fin 4) (i j : Fin 2048) :
    (expR q k (ix5 b g h i j) : EReal) = Ideal.exp ((scoresR q k (ix5 b g h i j) : EReal) - max (Ideal.ofBits FTy.f32 0xFF800000#32) (rowMax (scoresR q k) (ix4 b g h i))) := by
  unfold expR
  rw [exp_sub_apply, spread_apply, max_apply]
  rfl

theorem expR_apply (b : Fin 8) (g : Fin 2) (h : Fin 4) (i j : Fin 2048) :
    (expR q k (ix5 b g h i j) : EReal) = Ideal.exp (rscore q k b g h i j - Finset.univ.sup (rscore q k b g h i)) := by
  rw [expR_read, rowMax_apply, least, max_eq_right bot_le, scoresR_apply]
  congr 3
  funext x
  exact scoresR_apply q k b g h i x

theorem weightsR_apply (b : Fin 8) (g : Fin 2) (h : Fin 4) (i j : Fin 2048) :
    (weightsR q k (ix5 b g h i j) : EReal) = Ideal.div (expR q k (ix5 b g h i j)) (∑ x : Fin 2048, expR q k (ix5 b g h i x)) := by
  pointwise [weightsR]

/-- The reference's result: the values weighted by the softmax of the scores. -/
theorem resultR_apply (b : Fin 8) (g : Fin 2) (i : Fin 2048) (n : Fin 256) :
    (resultR q k v (ix4 b g i n) : EReal) = ∑ j : Fin 2048, (v (ix3 b j ⟨g.val * 64 + n.val % 64, by omega⟩) : EReal)
      * Ideal.div (Ideal.exp (rscore q k b g ⟨n.val / 64, by omega⟩ i j - Finset.univ.sup (rscore q k b g ⟨n.val / 64, by omega⟩ i)))
          (∑ x : Fin 2048, Ideal.exp (rscore q k b g ⟨n.val / 64, by omega⟩ i x - Finset.univ.sup (rscore q k b g ⟨n.val / 64, by omega⟩ i))) := by
  pointwise [resultR]
  simp only [weightsR_apply, expR_apply]

end Cert.Proof.AttnRefIdeal

end
-- ==== Proof.AttentionValue.Softmax.lean ====
module

public import Idealize.ShloMosaic.PureOps.Ideal

@[expose] public section

noncomputable section

namespace Cert.Proof.Softmax

open Idealize.ShloMosaic

/-! ## The softmax over powers of two and the softmax over exponentials

Scores are real; the values are any extended reals. -/

/-- A finite sum of reals, among the extended reals. -/
theorem coe_sum {ι : Type} (s : Finset ι) (f : ι → ℝ) : ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

/-- A nonnegative real factor goes into a sum. -/
theorem sum_mul_coe {ι : Type} (s : Finset ι) (f : ι → EReal) (a : ℝ) (h : 0 ≤ a) : (∑ j ∈ s, f j) * (a : EReal) = ∑ j ∈ s, f j * (a : EReal) := by
  classical
  induction s using Finset.induction_on with
  | empty => simp
  | insert b s hb ih =>
    rw [Finset.sum_insert hb, Finset.sum_insert hb, EReal.right_distrib_of_nonneg_of_ne_top (EReal.coe_nonneg.2 h) (EReal.coe_ne_top a), ih]

theorem eighth : Ideal.ofBits FTy.f32 0x3E000000#32 = ((1 / 8 : ℝ) : EReal) := by
  simp [Ideal.ofBits, Ideal.ieee]
  rw [← EReal.coe_mul]; norm_num

theorem two : Ideal.ofBits FTy.f32 0x40000000#32 = ((2 : ℝ) : EReal) := by
  simp [Ideal.ofBits, Ideal.ieee]
  rw [← EReal.coe_mul]; norm_num

theorem log_two_pos : 0 < Real.log 2 := Real.log_pos (by norm_num)

/-- A quotient by a nonzero real. -/
theorem div_coe (x : EReal) (z : ℝ) (hz : z ≠ 0) : Ideal.div x (z : EReal) = x * ((z⁻¹ : ℝ) : EReal) := by
  unfold Ideal.div
  rw [if_neg (by simpa using hz), EReal.coe_inv]

/-- The factor of the packed queries: an eighth over the logarithm of two. -/
theorem factor : Ideal.div (Ideal.ofBits FTy.f32 0x3E000000#32) (Ideal.log (Ideal.ofBits FTy.f32 0x40000000#32)) = ((1 / 8 / Real.log 2 : ℝ) : EReal) := by
  rw [eighth, two, Ideal.log_coe, if_neg (by norm_num), div_coe _ _ log_two_pos.ne', ← EReal.coe_mul]
  rfl

/-- A power of two of a score over `log 2` is an exponential of the score. -/
theorem exp2_over (x : ℝ) : Ideal.exp2 ((x / Real.log 2 : ℝ) : EReal) = ((Real.exp x : ℝ) : EReal) := by
  rw [Ideal.exp2_coe]
  congr 1
  show (2 : ℝ) ^ (x / Real.log 2) = _
  rw [Real.rpow_def_of_pos (by norm_num), mul_div_cancel₀ _ log_two_pos.ne']

/-- THE EQUATION: a weighted sum of powers of two over the sum of the powers is the sum weighted by the softmax. -/
theorem softmax_eq {n : ℕ} [NeZero n] (s : Fin n → ℝ) (v : Fin n → EReal) (w t : Fin n → EReal)
    (hw : ∀ j, w j = ((s j / Real.log 2 : ℝ) : EReal)) (ht : ∀ j, t j = (s j : EReal)) :
    Ideal.div (∑ j, Ideal.exp2 (w j - Finset.univ.sup w) * v j) (∑ j, Ideal.exp2 (w j - Finset.univ.sup w) * 1)
      = ∑ j, v j * Ideal.div (Ideal.exp (t j - Finset.univ.sup t)) (∑ x, Ideal.exp (t x - Finset.univ.sup t)) := by
  obtain ⟨a, -, ha⟩ := Finset.exists_max_image (Finset.univ : Finset (Fin n)) s ⟨0, Finset.mem_univ _⟩
  have sw : Finset.univ.sup w = ((s a / Real.log 2 : ℝ) : EReal) := by
    refine le_antisymm (Finset.sup_le fun j _ => ?_) ((hw a).symm.le.trans (Finset.le_sup (Finset.mem_univ a)))
    rw [hw, EReal.coe_le_coe_iff]
    exact div_le_div_of_nonneg_right (ha j (Finset.mem_univ j)) log_two_pos.le
  have st : Finset.univ.sup t = (s a : EReal) := by
    refine le_antisymm (Finset.sup_le fun j _ => ?_) ((ht a).symm.le.trans (Finset.le_sup (Finset.mem_univ a)))
    rw [ht, EReal.coe_le_coe_iff]
    exact ha j (Finset.mem_univ j)
  have e2 : ∀ j, Ideal.exp2 (w j - Finset.univ.sup w) = ((Real.exp (s j - s a) : ℝ) : EReal) := fun j => by
    rw [hw, sw, ← EReal.coe_sub, ← sub_div, exp2_over]
  have e1 : ∀ j, Ideal.exp (t j - Finset.univ.sup t) = ((Real.exp (s j - s a) : ℝ) : EReal) := fun j => by
    rw [ht, st, ← EReal.coe_sub, Ideal.exp_coe]
  have hz : (0 : ℝ) < ∑ j, Real.exp (s j - s a) := Finset.sum_pos (fun j _ => Real.exp_pos _) ⟨0, Finset.mem_univ _⟩
  simp only [e1, e2, mul_one]
  rw [coe_sum, div_coe _ _ hz.ne', sum_mul_coe _ _ _ (inv_nonneg.2 hz.le)]
  refine Finset.sum_congr rfl fun j _ => ?_
  rw [div_coe _ _ hz.ne', mul_comm (v j), mul_right_comm]

end Cert.Proof.Softmax

end
-- ==== Proof.AttentionValue.Equation.lean ====
module

public import proofs.«01_k».proof.Proof.AttentionValue.Batch
public import proofs.«01_k».proof.Proof.AttentionValue.Packed
public import proofs.«01_k».proof.Proof.AttentionValue.Reference
public import proofs.«01_k».proof.Proof.AttentionValue.Softmax
public import proofs.«01_k».proof.Pre_finite
public import Idealize.ShloMosaic.Lib.Pointwise

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic

/-! ## The kernel's block against the reference's -/

variable (m : (ℓ : Loc nD τ sig) → Buf (Elt Ideal) ℓ) (c : Dev nD)

/-- The kernel's score is the reference's over `log 2`; both are real where queries and keys are. -/
theorem scores (qr : S8x2048x512.Idx → ℝ) (kr : S8x2048x128.Idx → ℝ) (hq : ∀ x, (argQ m c x : EReal) = (qr x : EReal))
    (hk : ∀ x, (argK m c x : EReal) = (kr x : EReal)) (n : Fin 8) (g : Fin 2) (h : Fin 4) (i j : Fin 2048) :
    bscore (bX m c n.val) g i h j
        = (((∑ d : Fin 64, kr (ix3 n j ⟨g.val * 64 + d.val, by omega⟩) * qr (ix3 n i ⟨g.val * 256 + h.val * 64 + d.val, by omega⟩)) * (1 / 8) / Real.log 2 : ℝ) : EReal)
      ∧ AttnRefIdeal.rscore (argQ m c) (argK m c) n g h i j
        = (((∑ d : Fin 64, kr (ix3 n j ⟨g.val * 64 + d.val, by omega⟩) * qr (ix3 n i ⟨g.val * 256 + h.val * 64 + d.val, by omega⟩)) * (1 / 8) : ℝ) : EReal) := by
  constructor
  · unfold bscore
    rw [Finset.sum_mul, Finset.sum_div, ← Softmax.coe_sum]
    refine Finset.sum_congr rfl fun d _ => ?_
    rw [bX_q m c n 0 g i ⟨64 * h.val + d.val, by omega⟩, bX_k m c n 0 g j ⟨h.val % 2, by omega⟩ d _ rfl, hq, hk, show qfac = _ from Softmax.factor]
    have e : (⟨g.val * 256 + (64 * h.val + d.val), by omega⟩ : Fin 512) = ⟨g.val * 256 + h.val * 64 + d.val, by omega⟩ := Fin.ext (by dsimp only; omega)
    rw [← EReal.coe_mul, ← EReal.coe_mul]
    dsimp only
    rw [e]
    congr 1
    ring
  · unfold AttnRefIdeal.rscore
    rw [EReal.coe_mul, ← Softmax.coe_sum, Softmax.eighth]
    refine congrArg (· * _) (Finset.sum_congr rfl fun d _ => ?_)
    rw [hq, hk, EReal.coe_mul]

/-- A batch's block of the kernel's result is the reference's, where the queries and the keys are real. -/
theorem block_eq (hq : ∀ x, ∃ r : ℝ, (argQ m c x : EReal) = (r : EReal)) (hk : ∀ x, ∃ r : ℝ, (argK m c x : EReal) = (r : EReal))
    (n : Fin 8) (b : Fin 1) (g : Fin 2) (i : Fin 2048) (l : Fin 256) :
    (outAt (bX m c n.val) (ix4 b g i l) : EReal) = AttnRefIdeal.resultR (argQ m c) (argK m c) (argV m c) (ix4 n g i l) := by
  choose qr hqr using hq
  choose kr hkr using hk
  have hs := fun j => scores m c qr kr hqr hkr n g ⟨l.val / 64, by omega⟩ i j
  have hv : ∀ j, (bX m c n.val (ix4 0 g j ⟨384 + l.val % 64, by omega⟩) : EReal) = argV m c (ix3 n j ⟨g.val * 64 + l.val % 64, by omega⟩) :=
    fun j => bX_v m c n 0 g j ⟨l.val % 64, by omega⟩ _ rfl
  have ho : ∀ j, (bX m c n.val (ix4 0 g j ⟨448 + l.val % 64, by omega⟩) : EReal) = 1 := fun j => bX_one m c n 0 g j _ (by show 448 ≤ 448 + _; omega)
  have key := Softmax.softmax_eq _ (fun j => (argV m c (ix3 n j ⟨g.val * 64 + l.val % 64, by omega⟩) : EReal)) _ _ (fun j => (hs j).1) (fun j => (hs j).2)
  rw [outAt_apply, AttnRefIdeal.resultR_apply]
  unfold bsum
  simp only [hv, ho]
  exact key

/-! ## What the precondition says -/

instance finiteFacts : Cert.Pre_finite.Facts where
  bcast_S_S8x2048x512 := by decide
  bcast_S_S8x2048x128 := by decide

theorem infinity : Ideal.ofBits FTy.f32 0x7F800000#32 = (⊤ : EReal) := by
  simp [Ideal.ofBits, Ideal.ieee]

/-- A value whose absolute value compares below the infinity is real. -/
theorem real_of_lt (x : EReal) (h : Ideal.cmp .olt (max x (-x)) (Ideal.ofBits FTy.f32 0x7F800000#32) = 1#1) : ∃ r : ℝ, x = (r : EReal) := by
  rw [infinity] at h
  induction x using EReal.rec with
  | bot => simp [Ideal.cmp] at h
  | top => simp [Ideal.cmp] at h
  | coe r => exact ⟨r, rfl⟩

theorem real_of_pre (a0 : FVec Ideal S8x2048x512 .f32) (a1 a2 : FVec Ideal S8x2048x128 .f32) (a3 : FVec Ideal S1024x1024 .f32)
    (a4 a5 : FVec Ideal S1024x2816 .f32) (a6 : FVec Ideal S2816x1024 .f32)
    (h0 : (Cert.Pre_finite.fn (F := Ideal) a0 a1 a2 a3 a4 a5 a6).1 = fun _ => 1#1)
    (h1 : (Cert.Pre_finite.fn (F := Ideal) a0 a1 a2 a3 a4 a5 a6).2 = fun _ => 1#1) :
    (∀ x, ∃ r : ℝ, (a0 x : EReal) = (r : EReal)) ∧ (∀ x, ∃ r : ℝ, (a1 x : EReal) = (r : EReal)) :=
  ⟨fun x => real_of_lt _ (congrFun h0 x), fun x => real_of_lt _ (congrFun h1 x)⟩

end Cert.Proof.AttnIdeal

end
-- ==== Proof.AttentionValue.Final.lean ====
module

public import proofs.«01_k».proof.Proof.AttentionValue.Equation
public import proofs.«01_k».proof.Proof.Attention.Launch
public import Idealize.ShloMosaic.Lib.Pipeline.ValueKit
public import Idealize.ShloMosaic.Lib.Pointwise

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic

/-! ## The result arrays after the run -/

variable (m : (ℓ : Loc nD τ sig) → Buf (Elt Ideal) ℓ) (c : Dev nD)

/-- The attention array: block by batch. -/
def attnArr : S8x2x2048x256.Idx → Elt Ideal .bf16 := fun x => outAt (bX m c (x (0 : Fin 4)).val) (ix4 0 (x (1 : Fin 4)) (x (2 : Fin 4)) (x (3 : Fin 4)))

theorem tr7 : ∀ t : Fin grid0.N, cc0_transform_7 (grid0.coords t) = ![t.val, 0, 0, 0] := by decide

/-- The attention array is the reference's result, where the queries and the keys are real. -/
theorem attention_eq (hq : ∀ x, ∃ r : ℝ, (argQ m c x : EReal) = (r : EReal)) (hk : ∀ x, ∃ r : ℝ, (argK m c x : EReal) = (r : EReal)) :
    attnArr m c = AttnRefIdeal.resultR (argQ m c) (argK m c) (argV m c) := by
  funext x
  have e : x = ix4 (x (0 : Fin 4)) (x (1 : Fin 4)) (x (2 : Fin 4)) (x (3 : Fin 4)) := funext fun a => by
    match a with
    | 0 => rfl
    | 1 => rfl
    | 2 => rfl
    | 3 => rfl
  unfold attnArr
  refine (block_eq m c hq hk (x (0 : Fin 4)) 0 (x (1 : Fin 4)) (x (2 : Fin 4)) (x (3 : Fin 4))).trans ?_
  exact (congrArg (AttnRefIdeal.resultR (argQ m c) (argK m c) (argV m c)) e).symm

/-- The attention array after the run. -/
theorem final7 : (dats m 0 c).arrAt 7 cfg0.N = attnArr m c := by
  refine (dats m 0 c).arrAt_eq_of_covers 7 _ (by decide +kernel) fun t hf y => ?_
  blk_simp
  dsimp only [dats, dat]
  have b0 : (y (0 : Fin 4)).val < 1 := (y (0 : Fin 4)).isLt
  have e0 : ((((View.whole main_v13_0).slice (win0_7.rect t)).emb y) (0 : Fin 4)).val = t.val := by
    show cc0_transform_7 (grid0.coords t) 0 * 1 + 1 * (y (0 : Fin 4)).val = t.val
    rw [tr7 t]; show t.val * 1 + _ = _; omega
  have e1 : (((View.whole main_v13_0).slice (win0_7.rect t)).emb y) (1 : Fin 4) = y (1 : Fin 4) := Fin.ext (by
    show cc0_transform_7 (grid0.coords t) 1 * 2 + 1 * (y (1 : Fin 4)).val = (y (1 : Fin 4)).val
    rw [tr7 t]; show 0 * 2 + _ = _; omega)
  have e2 : (((View.whole main_v13_0).slice (win0_7.rect t)).emb y) (2 : Fin 4) = y (2 : Fin 4) := Fin.ext (by
    show cc0_transform_7 (grid0.coords t) 2 * 2048 + 1 * (y (2 : Fin 4)).val = (y (2 : Fin 4)).val
    rw [tr7 t]; show 0 * 2048 + _ = _; omega)
  have e3 : (((View.whole main_v13_0).slice (win0_7.rect t)).emb y) (3 : Fin 4) = y (3 : Fin 4) := Fin.ext (by
    show cc0_transform_7 (grid0.coords t) 3 * 256 + 1 * (y (3 : Fin 4)).val = (y (3 : Fin 4)).val
    rw [tr7 t]; show 0 * 256 + _ = _; omega)
  unfold attnArr
  rw [e0, e1, e2, e3]
  refine congrArg (outAt (bX m c t.val)) (funext fun a => Fin.ext ?_)
  match a with
  | 0 => show (y (0 : Fin 4)).val = 0; omega
  | 1 => rfl
  | 2 => rfl
  | 3 => rfl

theorem final8 : (dats m 0 c).arrAt 8 cfg0.N = (truncf .bf16 (m ((c : Thread nD τ).loc main_arg3) : Vec Ideal S1024x1024 .f32) bitsLt_bf16_f32 : FVec Ideal S1024x1024 .bf16) := by
  refine (dats m 0 c).arrAt_eq_of_covers 8 _ (by decide +kernel) fun t hf y => ?_
  blk_simp
  dsimp only [dats, dat]
  refine (congrFun (V_main_arg3 m c) _).trans (congrArg (m ((c : Thread nD τ).loc main_arg3)) (funext fun a => Fin.ext ?_))
  match a with
  | 0 => rfl
  | 1 => rfl

theorem final9 : (dats m 0 c).arrAt 9 cfg0.N = (truncf .bf16 (m ((c : Thread nD τ).loc main_arg4) : Vec Ideal S1024x2816 .f32) bitsLt_bf16_f32 : FVec Ideal S1024x2816 .bf16) := by
  refine (dats m 0 c).arrAt_eq_of_covers 9 _ (by decide +kernel) fun t hf y => ?_
  blk_simp
  dsimp only [dats, dat]
  refine (congrFun (V_main_arg4 m c) _).trans (congrArg (m ((c : Thread nD τ).loc main_arg4)) (funext fun a => Fin.ext ?_))
  match a with
  | 0 => rfl
  | 1 => rfl

theorem final10 : (dats m 0 c).arrAt 10 cfg0.N = (truncf .bf16 (m ((c : Thread nD τ).loc main_arg5) : Vec Ideal S1024x2816 .f32) bitsLt_bf16_f32 : FVec Ideal S1024x2816 .bf16) := by
  refine (dats m 0 c).arrAt_eq_of_covers 10 _ (by decide +kernel) fun t hf y => ?_
  blk_simp
  dsimp only [dats, dat]
  refine (congrFun (V_main_arg5 m c) _).trans (congrArg (m ((c : Thread nD τ).loc main_arg5)) (funext fun a => Fin.ext ?_))
  match a with
  | 0 => rfl
  | 1 => rfl

theorem final11 : (dats m 0 c).arrAt 11 cfg0.N = (truncf .bf16 (m ((c : Thread nD τ).loc main_arg6) : Vec Ideal S2816x1024 .f32) bitsLt_bf16_f32 : FVec Ideal S2816x1024 .bf16) := by
  refine (dats m 0 c).arrAt_eq_of_covers 11 _ (by decide +kernel) fun t hf y => ?_
  blk_simp
  dsimp only [dats, dat]
  refine (congrFun (V_main_arg6 m c) _).trans (congrArg (m ((c : Thread nD τ).loc main_arg6)) (funext fun a => Fin.ext ?_))
  match a with
  | 0 => rfl
  | 1 => rfl

variable (ρ : Dev nD → PrngReg)

/-- The kernel's run: its five results and its arguments. -/
theorem run_value : θ_run defs (onTc (τ := τ) (main (F := Ideal))) ⟨m, fun _ => 0, ρ⟩ (fun r => ∀ c : Dev nD,
      r.2.mem ((c.tc : Thread nD τ).loc main_v13_0) = attnArr m c
      ∧ r.2.mem ((c.tc : Thread nD τ).loc main_v13_1) = (truncf .bf16 (m ((c.tc : Thread nD τ).loc main_arg3) : Vec Ideal S1024x1024 .f32) bitsLt_bf16_f32 : FVec Ideal S1024x1024 .bf16)
      ∧ r.2.mem ((c.tc : Thread nD τ).loc main_v13_2) = (truncf .bf16 (m ((c.tc : Thread nD τ).loc main_arg4) : Vec Ideal S1024x2816 .f32) bitsLt_bf16_f32 : FVec Ideal S1024x2816 .bf16)
      ∧ r.2.mem ((c.tc : Thread nD τ).loc main_v13_3) = (truncf .bf16 (m ((c.tc : Thread nD τ).loc main_arg5) : Vec Ideal S1024x2816 .f32) bitsLt_bf16_f32 : FVec Ideal S1024x2816 .bf16)
      ∧ r.2.mem ((c.tc : Thread nD τ).loc main_v13_4) = (truncf .bf16 (m ((c.tc : Thread nD τ).loc main_arg6) : Vec Ideal S2816x1024 .f32) bitsLt_bf16_f32 : FVec Ideal S2816x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 7).trans (final7 m c), ((h.1 c).1 8).trans (final8 m c), ((h.1 c).1 9).trans (final9 m c), ((h.1 c).1 10).trans (final10 m c), ((h.1 c).1 11).trans (final11 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 3).trans (((dats m 0 c).arrAt_in 3 rfl _).trans (V_main_arg3 m c)),
      ((h.1 c).1 4).trans (((dats m 0 c).arrAt_in 4 rfl _).trans (V_main_arg4 m c)),
      ((h.1 c).1 5).trans (((dats m 0 c).arrAt_in 5 rfl _).trans (V_main_arg5 m c)),
      ((h.1 c).1 6).trans (((dats m 0 c).arrAt_in 6 rfl _).trans (V_main_arg6 m c))⟩) (run_main m ρ)

end Cert.Proof.AttnIdeal

end
-- ==== Proof.MixValue.Reference.lean ====
module

public import proofs.«01_k».proof.Proof.Gen.MixRefIdeal
public import proofs.«01_k».proof.Proof.Gen.MixRefIdeal.Run
public import Idealize.ShloMosaic.Lib.Pointwise

@[expose] public section

set_option maxRecDepth 16384

noncomputable section

namespace Cert.Proof.MixRefIdeal

open Cert.MixRefIdeal Cert.MixRefIdeal.Gen
open Idealize.SL.Sem Idealize.ShloMosaic Idealize.ShloMosaic.StableHlo Idealize.ShloMosaic.TcCoe Idealize.ShloMosaic.Tactic

/-! ## What the reference computes at an index -/

/-- The pooling input, sequence by sequence. -/
def rowsR (u : Vec Ideal S16384x512 .f32) : FVec Ideal S8x2048x512 .f32 := shapeCast _ u shapeCasts_S16384x512_S8x2048x512

/-- The same with eight zero rows before and after each sequence. -/
def padR (u : Vec Ideal S16384x512 .f32) : FVec Ideal S8x2064x512 .f32 :=
  pad S8x2064x512 ![0, 8, 0] ![0, 8, 0] ![0, 0, 0] (rowsR u) (sitofp .f32 (constantI S_ 32 0#32)) pads_S8x2048x512_S8x2064x512_000_880_000 h_S_

/-- Group 0's windowed sums. -/
def winR0 (z : FVec Ideal S8x2064x512 .f32) : FVec Ideal S8x2048x128 .f32 := addf (extractStridedSlice S8x2048x128 ![0, 7, 0] z slices_S8x2064x512_S8x2048x128_0_7_0) (extractStridedSlice S8x2048x128 ![0, 8, 0] z slices_S8x2064x512_S8x2048x128_0_8_0)

theorem winR0_apply (z : FVec Ideal S8x2064x512 .f32) (b : Fin 8) (p : Fin 2048) (k : Fin 128) :
    (winR0 z (ix3 b p k) : EReal) = (z (ix3 b ⟨7 + p.val, by omega⟩ ⟨k.val, by omega⟩) : EReal) + (z (ix3 b ⟨8 + p.val, by omega⟩ ⟨k.val, by omega⟩) : EReal) := by
  pointwise [winR0]

/-- Group 1's windowed sums. -/
def winR1 (z : FVec Ideal S8x2064x512 .f32) : FVec Ideal S8x2048x128 .f32 := addf (addf (addf (extractStridedSlice S8x2048x128 ![0, 6, 128] z slices_S8x2064x512_S8x2048x128_0_6_128) (extractStridedSlice S8x2048x128 ![0, 7, 128] z slices_S8x2064x512_S8x2048x128_0_7_128)) (extractStridedSlice S8x2048x128 ![0, 8, 128] z slices_S8x2064x512_S8x2048x128_0_8_128)) (extractStridedSlice S8x2048x128 ![0, 9, 128] z slices_S8x2064x512_S8x2048x128_0_9_128)

theorem winR1_apply (z : FVec Ideal S8x2064x512 .f32) (b : Fin 8) (p : Fin 2048) (k : Fin 128) :
    (winR1 z (ix3 b p k) : EReal) = (z (ix3 b ⟨6 + p.val, by omega⟩ ⟨128 + k.val, by omega⟩) : EReal) + (z (ix3 b ⟨7 + p.val, by omega⟩ ⟨128 + k.val, by omega⟩) : EReal) + (z (ix3 b ⟨8 + p.val, by omega⟩ ⟨128 + k.val, by omega⟩) : EReal) + (z (ix3 b ⟨9 + p.val, by omega⟩ ⟨128 + k.val, by omega⟩) : EReal) := by
  pointwise [winR1]

/-- Group 2's windowed sums. -/
def winR2 (z : FVec Ideal S8x2064x512 .f32) : FVec Ideal S8x2048x128 .f32 := addf (addf (addf (addf (addf (addf (addf (extractStridedSlice S8x2048x128 ![0, 4, 256] z slices_S8x2064x512_S8x2048x128_0_4_256) (extractStridedSlice S8x2048x128 ![0, 5, 256] z slices_S8x2064x512_S8x2048x128_0_5_256)) (extractStridedSlice S8x2048x128 ![0, 6, 256] z slices_S8x2064x512_S8x2048x128_0_6_256)) (extractStridedSlice S8x2048x128 ![0, 7, 256] z slices_S8x2064x512_S8x2048x128_0_7_256)) (extractStridedSlice S8x2048x128 ![0, 8, 256] z slices_S8x2064x512_S8x2048x128_0_8_256)) (extractStridedSlice S8x2048x128 ![0, 9, 256] z slices_S8x2064x512_S8x2048x128_0_9_256)) (extractStridedSlice S8x2048x128 ![0, 10, 256] z slices_S8x2064x512_S8x2048x128_0_10_256)) (extractStridedSlice S8x2048x128 ![0, 11, 256] z slices_S8x2064x512_S8x2048x128_0_11_256)

theorem winR2_apply (z : FVec Ideal S8x2064x512 .f32) (b : Fin 8) (p : Fin 2048) (k : Fin 128) :
    (winR2 z (ix3 b p k) : EReal) = (z (ix3 b ⟨4 + p.val, by omega⟩ ⟨256 + k.val, by omega⟩) : EReal) + (z (ix3 b ⟨5 + p.val, by omega⟩ ⟨256 + k.val, by omega⟩) : EReal) + (z (ix3 b ⟨6 + p.val, by omega⟩ ⟨256 + k.val, by omega⟩) : EReal) + (z (ix3 b ⟨7 + p.val, by omega⟩ ⟨256 + k.val, by omega⟩) : EReal) + (z (ix3 b ⟨8 + p.val, by omega⟩ ⟨256 + k.val, by omega⟩) : EReal) + (z (ix3 b ⟨9 + p.val, by omega⟩ ⟨256 + k.val, by omega⟩) : EReal) + (z (ix3 b ⟨10 + p.val, by omega⟩ ⟨256 + k.val, by omega⟩) : EReal) + (z (ix3 b ⟨11 + p.val, by omega⟩ ⟨256 + k.val, by omega⟩) : EReal) := by
  pointwise [winR2]

/-- Group 3's windowed sums. -/
def winR3 (z : FVec Ideal S8x2064x512 .f32) : FVec Ideal S8x2048x128 .f32 := addf (addf (addf (addf (addf (addf (addf (addf (addf (addf (addf (addf (addf (addf (addf (extractStridedSlice S8x2048x128 ![0, 0, 384] z slices_S8x2064x512_S8x2048x128_0_0_384) (extractStridedSlice S8x2048x128 ![0, 1, 384] z slices_S8x2064x512_S8x2048x128_0_1_384)) (extractStridedSlice S8x2048x128 ![0, 2, 384] z slices_S8x2064x512_S8x2048x128_0_2_384)) (extractStridedSlice S8x2048x128 ![0, 3, 384] z slices_S8x2064x512_S8x2048x128_0_3_384)) (extractStridedSlice S8x2048x128 ![0, 4, 384] z slices_S8x2064x512_S8x2048x128_0_4_384)) (extractStridedSlice S8x2048x128 ![0, 5, 384] z slices_S8x2064x512_S8x2048x128_0_5_384)) (extractStridedSlice S8x2048x128 ![0, 6, 384] z slices_S8x2064x512_S8x2048x128_0_6_384)) (extractStridedSlice S8x2048x128 ![0, 7, 384] z slices_S8x2064x512_S8x2048x128_0_7_384)) (extractStridedSlice S8x2048x128 ![0, 8, 384] z slices_S8x2064x512_S8x2048x128_0_8_384)) (extractStridedSlice S8x2048x128 ![0, 9, 384] z slices_S8x2064x512_S8x2048x128_0_9_384)) (extractStridedSlice S8x2048x128 ![0, 10, 384] z slices_S8x2064x512_S8x2048x128_0_10_384)) (extractStridedSlice S8x2048x128 ![0, 11, 384] z slices_S8x2064x512_S8x2048x128_0_11_384)) (extractStridedSlice S8x2048x128 ![0, 12, 384] z slices_S8x2064x512_S8x2048x128_0_12_384)) (extractStridedSlice S8x2048x128 ![0, 13, 384] z slices_S8x2064x512_S8x2048x128_0_13_384)) (extractStridedSlice S8x2048x128 ![0, 14, 384] z slices_S8x2064x512_S8x2048x128_0_14_384)) (extractStridedSlice S8x2048x128 ![0, 15, 384] z slices_S8x2064x512_S8x2048x128_0_15_384)

theorem winR3_apply (z : FVec Ideal S8x2064x512 .f32) (b : Fin 8) (p : Fin 2048) (k : Fin 128) :
    (winR3 z (ix3 b p k) : EReal) = (z (ix3 b ⟨p.val, by omega⟩ ⟨384 + k.val, by omega⟩) : EReal) + (z (ix3 b ⟨1 + p.val, by omega⟩ ⟨384 + k.val, by omega⟩) : EReal) + (z (ix3 b ⟨2 + p.val, by omega⟩ ⟨384 + k.val, by omega⟩) : EReal) + (z (ix3 b ⟨3 + p.val, by omega⟩ ⟨384 + k.val, by omega⟩) : EReal) + (z (ix3 b ⟨4 + p.val, by omega⟩ ⟨384 + k.val, by omega⟩) : EReal) + (z (ix3 b ⟨5 + p.val, by omega⟩ ⟨384 + k.val, by omega⟩) : EReal) + (z (ix3 b ⟨6 + p.val, by omega⟩ ⟨384 + k.val, by omega⟩) : EReal) + (z (ix3 b ⟨7 + p.val, by omega⟩ ⟨384 + k.val, by omega⟩) : EReal) + (z (ix3 b ⟨8 + p.val, by omega⟩ ⟨384 + k.val, by omega⟩) : EReal) + (z (ix3 b ⟨9 + p.val, by omega⟩ ⟨384 + k.val, by omega⟩) : EReal) + (z (ix3 b ⟨10 + p.val, by omega⟩ ⟨384 + k.val, by omega⟩) : EReal) + (z (ix3 b ⟨11 + p.val, by omega⟩ ⟨384 + k.val, by omega⟩) : EReal) + (z (ix3 b ⟨12 + p.val, by omega⟩ ⟨384 + k.val, by omega⟩) : EReal) + (z (ix3 b ⟨13 + p.val, by omega⟩ ⟨384 + k.val, by omega⟩) : EReal) + (z (ix3 b ⟨14 + p.val, by omega⟩ ⟨384 + k.val, by omega⟩) : EReal) + (z (ix3 b ⟨15 + p.val, by omega⟩ ⟨384 + k.val, by omega⟩) : EReal) := by
  pointwise [winR3]

/-- How many rows each window holds. -/
def countR (h w : BitVec 32) : FVec Ideal S2048 .f32 :=
  sitofp .f32 (subi (minsi (addi (subi (iotaInDim S2048 32 0) (broadcastInDim S2048 ![] bcast_S_S2048 (constantI S_ 32 h))) (broadcastInDim S2048 ![] bcast_S_S2048 (constantI S_ 32 w))) (broadcastInDim S2048 ![] bcast_S_S2048 (constantI S_ 32 2048#32))) (maxsi (subi (iotaInDim S2048 32 0) (broadcastInDim S2048 ![] bcast_S_S2048 (constantI S_ 32 h))) (broadcastInDim S2048 ![] bcast_S_S2048 (constantI S_ 32 0#32))))

/-- One group: the windowed mean less the row, through the group's weights, bias and scale. -/
def poolR (win own : FVec Ideal S8x2048x128 .f32) (n : FVec Ideal S2048 .f32) (pw : FVec Ideal S128x128 .f32) (pb ps : FVec Ideal S128 .f32) : FVec Ideal S8x2048x128 .f32 :=
  mulf (addf (Host.dotGeneral (φ₁ := .f32) (φ₂ := .f32) dot_S8x2048x128_S128x128_S8x2048x128_2_0_01_1_n_n none (subf (Host.divf win (broadcastInDim S8x2048x128 ![0, 1, 2] bcast_S1x2048x1_S8x2048x128_0_1_2 (broadcastInDim S1x2048x1 ![1] bcast_S2048_S1x2048x1_1 n))) own) pw)
    (broadcastInDim S8x2048x128 ![0, 1, 2] bcast_S1x1x128_S8x2048x128_0_1_2 (broadcastInDim S1x1x128 ![2] bcast_S128_S1x1x128_2 pb)))
    (broadcastInDim S8x2048x128 ![0, 1, 2] bcast_S1x1x128_S8x2048x128_0_1_2 (broadcastInDim S1x1x128 ![2] bcast_S128_S1x1x128_2 ps))

theorem poolR_apply (win own : FVec Ideal S8x2048x128 .f32) (n : FVec Ideal S2048 .f32) (pw : FVec Ideal S128x128 .f32) (pb ps : FVec Ideal S128 .f32) (b : Fin 8) (p : Fin 2048) (d : Fin 128) :
    (poolR win own n pw pb ps (ix3 b p d) : EReal) = (∑ k : Fin 128, (Ideal.div (win (ix3 b p k)) (n (ix1 p)) - own (ix3 b p k)) * pw (ix2 k d) + pb (ix1 d)) * ps (ix1 d) := by
  pointwise [poolR]

theorem countR_apply (h w : BitVec 32) (p : Fin 2048) :
    (countR h w (ix1 p) : EReal) = (FloatOps.sitofp .f32 (IntOp.subi (IntOp.minsi (IntOp.addi (IntOp.subi (BitVec.ofNat 32 p.val) h) w) 2048#32) (IntOp.maxsi (IntOp.subi (BitVec.ofNat 32 p.val) h) 0#32)) : Ideal .f32) := by
  pointwise [countR]

theorem padR_apply (u : Vec Ideal S16384x512 .f32) (b : Fin 8) (q : Fin 2064) (k : Fin 512) :
    (padR u (ix3 b q k) : EReal) = if h : 8 ≤ q.val ∧ q.val < 2056 then u (ix2 ⟨b.val * 2048 + (q.val - 8), by omega⟩ k) else 0 := by
  have z : (FloatOps.sitofp .f32 0#32 : Ideal .f32) = (0 : EReal) := by
    show ((((0#32 : BitVec 32).toInt : ℤ) : ℝ) : EReal) = 0
    simp
  pointwise [padR, rowsR]
  rw [z]
  by_cases h : 8 ≤ q.val ∧ q.val < 2056
  · rw [dif_pos h, dif_pos ⟨h.1, by omega⟩]
  · rw [dif_neg h, dif_neg (by omega)]

variable (x : Vec Ideal S8x2048x1024 .f32) (a : Vec Ideal S8x2x2048x256 .bf16) (u : Vec Ideal S16384x512 .f32) (pw : Vec Ideal S4x128x128 .f32) (pb : Vec Ideal S4x128 .f32) (ps : Vec Ideal S512 .f32)
  (wo : Vec Ideal S1024x1024 .bf16) (gn : Vec Ideal S1024 .f32) (wg wu : Vec Ideal S1024x2816 .bf16) (wd : Vec Ideal S2816x1024 .bf16)

/-- The attention's heads side by side. -/
def headsR : FVec Ideal S8x2048x512 .f32 := shapeCast _ (transpose S8x2048x2x256 [0, 2, 1, 3] (extf .f32 a bitsLt_bf16_f32) transposes_S8x2x2048x256_S8x2048x2x256_0_2_1_3) shapeCasts_S8x2048x2x256_S8x2048x512

theorem headsR_apply (b : Fin 8) (p : Fin 2048) (k : Fin 512) : (headsR a (ix3 b p k) : EReal) = a (ix4 b ⟨k.val / 256, by omega⟩ p ⟨k.val % 256, by omega⟩) := by
  pointwise [headsR]

/-- Pooling group 0. -/
def groupR0 : FVec Ideal S8x2048x128 .f32 := poolR (winR0 (padR u)) (extractStridedSlice S8x2048x128 ![0, 0, 0] (rowsR u) slices_S8x2048x512_S8x2048x128_0_0_0) (countR 1#32 2#32) (shapeCast _ (extractStridedSlice S1x128x128 ![0, 0, 0] pw slices_S4x128x128_S1x128x128_0_0_0) shapeCasts_S1x128x128_S128x128) (shapeCast _ (extractStridedSlice S1x128 ![0, 0] pb slices_S4x128_S1x128_0_0) shapeCasts_S1x128_S128) (extractStridedSlice S128 ![0] ps slices_S512_S128_0)

/-- Pooling group 1. -/
def groupR1 : FVec Ideal S8x2048x128 .f32 := poolR (winR1 (padR u)) (extractStridedSlice S8x2048x128 ![0, 0, 128] (rowsR u) slices_S8x2048x512_S8x2048x128_0_0_128) (countR 2#32 4#32) (shapeCast _ (extractStridedSlice S1x128x128 ![1, 0, 0] pw slices_S4x128x128_S1x128x128_1_0_0) shapeCasts_S1x128x128_S128x128) (shapeCast _ (extractStridedSlice S1x128 ![1, 0] pb slices_S4x128_S1x128_1_0) shapeCasts_S1x128_S128) (extractStridedSlice S128 ![128] ps slices_S512_S128_128)

/-- Pooling group 2. -/
def groupR2 : FVec Ideal S8x2048x128 .f32 := poolR (winR2 (padR u)) (extractStridedSlice S8x2048x128 ![0, 0, 256] (rowsR u) slices_S8x2048x512_S8x2048x128_0_0_256) (countR 4#32 8#32) (shapeCast _ (extractStridedSlice S1x128x128 ![2, 0, 0] pw slices_S4x128x128_S1x128x128_2_0_0) shapeCasts_S1x128x128_S128x128) (shapeCast _ (extractStridedSlice S1x128 ![2, 0] pb slices_S4x128_S1x128_2_0) shapeCasts_S1x128_S128) (extractStridedSlice S128 ![256] ps slices_S512_S128_256)

/-- Pooling group 3. -/
def groupR3 : FVec Ideal S8x2048x128 .f32 := poolR (winR3 (padR u)) (extractStridedSlice S8x2048x128 ![0, 0, 384] (rowsR u) slices_S8x2048x512_S8x2048x128_0_0_384) (countR 8#32 16#32) (shapeCast _ (extractStridedSlice S1x128x128 ![3, 0, 0] pw slices_S4x128x128_S1x128x128_3_0_0) shapeCasts_S1x128x128_S128x128) (shapeCast _ (extractStridedSlice S1x128 ![3, 0] pb slices_S4x128_S1x128_3_0) shapeCasts_S1x128_S128) (extractStridedSlice S128 ![384] ps slices_S512_S128_384)

/-- The heads and the pooled groups side by side. -/
def catR (c0 : FVec Ideal S8x2048x512 .f32) (c1 c2 c3 c4 : FVec Ideal S8x2048x128 .f32) : FVec Ideal S8x2048x1024 .f32 :=
  concatenate S8x2048x1024 2 [⟨S8x2048x512, c0⟩, ⟨S8x2048x128, c1⟩, ⟨S8x2048x128, c2⟩, ⟨S8x2048x128, c3⟩, ⟨S8x2048x128, c4⟩] concatenates_S8x2048x512_S8x2048x128_S8x2048x128_S8x2048x128_S8x2048x128_S8x2048x1024_d2

/-- The rows after the mixing layer. -/
def x1R (cat : FVec Ideal S8x2048x1024 .f32) : FVec Ideal S8x2048x1024 .f32 :=
  addf x (Host.dotGeneral (φ₁ := .f32) (φ₂ := .f32) dot_S8x2048x1024_S1024x1024_S8x2048x1024_2_0_01_1_n_n none cat (extf .f32 wo bitsLt_bf16_f32))

theorem x1R_apply (cat : FVec Ideal S8x2048x1024 .f32) (b : Fin 8) (p : Fin 2048) (n : Fin 1024) :
    (x1R x wo cat (ix3 b p n) : EReal) = (x (ix3 b p n) : EReal) + ∑ k : Fin 1024, (cat (ix3 b p k) : EReal) * wo (ix2 k n) := by
  pointwise [x1R]

/-- A row's sum of squares. -/
def sqR (y : FVec Ideal S8x2048x1024 .f32) : FVec Ideal S8x2048 .f32 :=
  Host.reduceAdd (mulf y y) (constant S_ .f32 0x00000000#32) reducesTo_S8x2048x1024_S8x2048_d2 h_S_

theorem sqR_apply (y : FVec Ideal S8x2048x1024 .f32) (b : Fin 8) (p : Fin 2048) :
    (sqR y (ix2 b p) : EReal) = ∑ k : Fin 1024, (y (ix3 b p k) : EReal) * y (ix3 b p k) := by
  pointwise [sqR]

/-- The rows normalised, of their sums of squares. -/
def normR (y : FVec Ideal S8x2048x1024 .f32) (q : FVec Ideal S8x2048 .f32) : FVec Ideal S8x2048x1024 .f32 :=
  mulf (mulf y (broadcastInDim S8x2048x1024 ![0, 1, 2] bcast_S8x2048x1_S8x2048x1024_0_1_2 (Host.rsqrt (addf (Host.divf (broadcastInDim S8x2048x1 ![0, 1] bcast_S8x2048_S8x2048x1_0_1 q) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 gn))

theorem normR_apply (y : FVec Ideal S8x2048x1024 .f32) (q : FVec Ideal S8x2048 .f32) (b : Fin 8) (p : Fin 2048) (n : Fin 1024) :
    (normR gn y q (ix3 b p n) : EReal) = (y (ix3 b p n) : EReal) * Ideal.rsqrt (Ideal.div (q (ix2 b p)) (Ideal.ofBits .f32 0x44800000#32) + Ideal.ofBits .f32 0x358637BD#32) * gn (ix1 n) := by
  pointwise [normR]

/-- A projection to the hidden width. -/
def hidR (h : FVec Ideal S8x2048x1024 .f32) (w : Vec Ideal S1024x2816 .bf16) : FVec Ideal S8x2048x2816 .f32 :=
  Host.dotGeneral (φ₁ := .f32) (φ₂ := .f32) dot_S8x2048x1024_S1024x2816_S8x2048x2816_2_0_01_1_n_n none h (extf .f32 w bitsLt_bf16_f32)

theorem hidR_apply (h : FVec Ideal S8x2048x1024 .f32) (w : Vec Ideal S1024x2816 .bf16) (b : Fin 8) (p : Fin 2048) (j : Fin 2816) :
    (hidR h w (ix3 b p j) : EReal) = ∑ k : Fin 1024, (h (ix3 b p k) : EReal) * w (ix2 k j) := by
  pointwise [hidR]

/-- The gated hidden rows. -/
def actR (g v : FVec Ideal S8x2048x2816 .f32) : FVec Ideal S8x2048x2816 .f32 :=
  mulf (mulf g (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf g))))) v

theorem actR_apply (g v : FVec Ideal S8x2048x2816 .f32) (b : Fin 8) (p : Fin 2048) (j : Fin 2816) :
    (actR g v (ix3 b p j) : EReal) = (g (ix3 b p j) : EReal) * Ideal.logistic (g (ix3 b p j)) * v (ix3 b p j) := by
  pointwise [actR]
  rfl

/-- The result's rows. -/
def outR (y : FVec Ideal S8x2048x1024 .f32) (z : FVec Ideal S8x2048x2816 .f32) : FVec Ideal S16384x1024 .f32 :=
  shapeCast _ (addf y (Host.dotGeneral (φ₁ := .f32) (φ₂ := .f32) dot_S8x2048x2816_S2816x1024_S8x2048x1024_2_0_01_1_n_n none z (extf .f32 wd bitsLt_bf16_f32))) shapeCasts_S8x2048x1024_S16384x1024

theorem outR_apply (y : FVec Ideal S8x2048x1024 .f32) (z : FVec Ideal S8x2048x2816 .f32) (t : Fin 16384) (n : Fin 1024) :
    (outR wd y z (ix2 t n) : EReal) = (y (ix3 ⟨t.val / 2048, by omega⟩ ⟨t.val % 2048, by omega⟩ n) : EReal) + ∑ j : Fin 2816, (z (ix3 ⟨t.val / 2048, by omega⟩ ⟨t.val % 2048, by omega⟩ j) : EReal) * wd (ix2 j n) := by
  pointwise [outR]

/-- The reference's result. -/
def resultR : FVec Ideal S16384x1024 .f32 :=
  outR wd (x1R x wo (catR (headsR a) (groupR0 u pw pb ps) (groupR1 u pw pb ps) (groupR2 u pw pb ps) (groupR3 u pw pb ps)))
    (actR (hidR (normR gn (x1R x wo (catR (headsR a) (groupR0 u pw pb ps) (groupR1 u pw pb ps) (groupR2 u pw pb ps) (groupR3 u pw pb ps))) (sqR (x1R x wo (catR (headsR a) (groupR0 u pw pb ps) (groupR1 u pw pb ps) (groupR2 u pw pb ps) (groupR3 u pw pb ps))))) wg)
      (hidR (normR gn (x1R x wo (catR (headsR a) (groupR0 u pw pb ps) (groupR1 u pw pb ps) (groupR2 u pw pb ps) (groupR3 u pw pb ps))) (sqR (x1R x wo (catR (headsR a) (groupR0 u pw pb ps) (groupR1 u pw pb ps) (groupR2 u pw pb ps) (groupR3 u pw pb ps))))) wu))

/-- The reference's run: its result and its arguments. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v204) = resultR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans rfl, (h c).2⟩) (Cert.MixRefIdeal.Value.run (F := Ideal) m ρ)

end Cert.Proof.MixRefIdeal

end
-- ==== Proof.MixValue.Pool.lean ====
module

public import proofs.«01_k».proof.Proof.Mix.Values
public import Idealize.ShloMosaic.Lib.Pointwise

@[expose] public section

set_option maxRecDepth 16384

noncomputable section

namespace Cert.Proof.MixIdeal

open Cert.MixIdeal Cert.MixIdeal.Gen
open Idealize.ShloMosaic Idealize.ShloMosaic.TcCoe Idealize.ShloMosaic.Tactic

/-! ## One pooling group over exact numbers -/

/-- Row `n` of a staged group's channel `c`, rows counted modulo the 528 staged ones. -/
def rowAt (e : Vec Ideal S528x128 .f32) (c : Fin 128) (n : ℕ) : EReal := e (ix2 ⟨n % 528, Nat.mod_lt _ (by decide)⟩ c)

theorem rowAt_period (e : Vec Ideal S528x128 .f32) (c : Fin 128) (n : ℕ) : rowAt e c (n + 528) = rowAt e c n := by
  unfold rowAt; congr 3; exact Nat.add_mod_right n 528

theorem rowAt_of_lt (e : Vec Ideal S528x128 .f32) (c : Fin 128) (n : ℕ) (h : n < 528) : rowAt e c n = e (ix2 ⟨n, h⟩ c) := by
  unfold rowAt; congr 3; exact Nat.mod_eq_of_lt h

/-- Staged rows added to themselves rotated by 1. -/
theorem add_rotate_1 (e : Vec Ideal S528x128 .f32) (c : Fin 128) (n : ℕ) :
    rowAt (addf (F := Ideal) (φ := .f32) e (dynamicRotate 0 1#32 none e rotates_S528x128_d0)) c n = rowAt e c n + rowAt e c (n + 527) := by
  unfold rowAt; pointwise
  congr 3; apply Fin.ext; show _ = _; dsimp only; omega
/-- Staged rows added to themselves rotated by 2. -/
theorem add_rotate_2 (e : Vec Ideal S528x128 .f32) (c : Fin 128) (n : ℕ) :
    rowAt (addf (F := Ideal) (φ := .f32) e (dynamicRotate 0 2#32 none e rotates_S528x128_d0)) c n = rowAt e c n + rowAt e c (n + 526) := by
  unfold rowAt; pointwise
  congr 3; apply Fin.ext; show _ = _; dsimp only; omega
/-- Staged rows added to themselves rotated by 4. -/
theorem add_rotate_4 (e : Vec Ideal S528x128 .f32) (c : Fin 128) (n : ℕ) :
    rowAt (addf (F := Ideal) (φ := .f32) e (dynamicRotate 0 4#32 none e rotates_S528x128_d0)) c n = rowAt e c n + rowAt e c (n + 524) := by
  unfold rowAt; pointwise
  congr 3; apply Fin.ext; show _ = _; dsimp only; omega
/-- Staged rows added to themselves rotated by 8. -/
theorem add_rotate_8 (e : Vec Ideal S528x128 .f32) (c : Fin 128) (n : ℕ) :
    rowAt (addf (F := Ideal) (φ := .f32) e (dynamicRotate 0 8#32 none e rotates_S528x128_d0)) c n = rowAt e c n + rowAt e c (n + 520) := by
  unfold rowAt; pointwise
  congr 3; apply Fin.ext; show _ = _; dsimp only; omega
/-- Staged rows added to themselves rotated by 527. -/
theorem add_rotate_527 (e : Vec Ideal S528x128 .f32) (c : Fin 128) (n : ℕ) :
    rowAt (addf (F := Ideal) (φ := .f32) e (dynamicRotate 0 527#32 none e rotates_S528x128_d0)) c n = rowAt e c n + rowAt e c (n + 1) := by
  unfold rowAt; pointwise
  congr 3; apply Fin.ext; show _ = _; dsimp only; omega
/-- Staged rows added to themselves rotated by 526. -/
theorem add_rotate_526 (e : Vec Ideal S528x128 .f32) (c : Fin 128) (n : ℕ) :
    rowAt (addf (F := Ideal) (φ := .f32) e (dynamicRotate 0 526#32 none e rotates_S528x128_d0)) c n = rowAt e c n + rowAt e c (n + 2) := by
  unfold rowAt; pointwise
  congr 3; apply Fin.ext; show _ = _; dsimp only; omega
/-- Staged rows added to themselves rotated by 524. -/
theorem add_rotate_524 (e : Vec Ideal S528x128 .f32) (c : Fin 128) (n : ℕ) :
    rowAt (addf (F := Ideal) (φ := .f32) e (dynamicRotate 0 524#32 none e rotates_S528x128_d0)) c n = rowAt e c n + rowAt e c (n + 4) := by
  unfold rowAt; pointwise
  congr 3; apply Fin.ext; show _ = _; dsimp only; omega

/-- The windowed sum of group 0: 2 consecutive rows. -/
theorem win0_apply (e : Vec Ideal S528x128 .f32) (r : Fin 512) (c : Fin 128) :
    (k0_pay8 e (ix2 r c) : EReal) = rowAt e c (r.val + 7) + rowAt e c (r.val + 8) := by
  have key : (k0_pay8 e (ix2 r c) : EReal) = rowAt (addf (F := Ideal) (φ := .f32) e (dynamicRotate 0 1#32 none e rotates_S528x128_d0)) c (r.val + 8) := by
    rw [rowAt_of_lt _ _ _ (by omega)]
    show (extractStridedSlice S512x128 ![8, 0] (addf (F := Ideal) (φ := .f32) e (dynamicRotate 0 1#32 none e rotates_S528x128_d0)) slices_S528x128_o8_0_S512x128 : FVec Ideal S512x128 .f32) (ix2 r c) = _
    generalize (addf (F := Ideal) (φ := .f32) e (dynamicRotate 0 1#32 none e rotates_S528x128_d0)) = z
    pointwise
    congr 2; apply Fin.ext; show _ = _; dsimp only; omega
  rw [key]
  repeat rw [add_rotate_1]
  simp only [Nat.add_assoc, Nat.reduceAdd]
  rw [show r.val + 535 = r.val + 7 + 528 by omega, rowAt_period]
  abel

/-- The windowed sum of group 1: 4 consecutive rows. -/
theorem win1_apply (e : Vec Ideal S528x128 .f32) (r : Fin 512) (c : Fin 128) :
    (k0_pay11 e (ix2 r c) : EReal) = rowAt e c (r.val + 6) + rowAt e c (r.val + 7) + rowAt e c (r.val + 8) + rowAt e c (r.val + 9) := by
  have key : (k0_pay11 e (ix2 r c) : EReal) = rowAt (addf (F := Ideal) (φ := .f32) (addf (F := Ideal) (φ := .f32) e (dynamicRotate 0 527#32 none e rotates_S528x128_d0)) (dynamicRotate 0 2#32 none (addf (F := Ideal) (φ := .f32) e (dynamicRotate 0 527#32 none e rotates_S528x128_d0)) rotates_S528x128_d0)) c (r.val + 8) := by
    rw [rowAt_of_lt _ _ _ (by omega)]
    show (extractStridedSlice S512x128 ![8, 0] (addf (F := Ideal) (φ := .f32) (addf (F := Ideal) (φ := .f32) e (dynamicRotate 0 527#32 none e rotates_S528x128_d0)) (dynamicRotate 0 2#32 none (addf (F := Ideal) (φ := .f32) e (dynamicRotate 0 527#32 none e rotates_S528x128_d0)) rotates_S528x128_d0)) slices_S528x128_o8_0_S512x128 : FVec Ideal S512x128 .f32) (ix2 r c) = _
    generalize (addf (F := Ideal) (φ := .f32) (addf (F := Ideal) (φ := .f32) e (dynamicRotate 0 527#32 none e rotates_S528x128_d0)) (dynamicRotate 0 2#32 none (addf (F := Ideal) (φ := .f32) e (dynamicRotate 0 527#32 none e rotates_S528x128_d0)) rotates_S528x128_d0)) = z
    pointwise
    congr 2; apply Fin.ext; show _ = _; dsimp only; omega
  rw [key]
  repeat rw [add_rotate_2]
  repeat rw [add_rotate_527]
  simp only [Nat.add_assoc, Nat.reduceAdd]
  rw [show r.val + 534 = r.val + 6 + 528 by omega, rowAt_period]
  rw [show r.val + 535 = r.val + 7 + 528 by omega, rowAt_period]
  abel

/-- The windowed sum of group 2: 8 consecutive rows. -/
theorem win2_apply (e : Vec Ideal S528x128 .f32) (r : Fin 512) (c : Fin 128) :
    (k0_pay15 e (ix2 r c) : EReal) = rowAt e c (r.val + 4) + rowAt e c (r.val + 5) + rowAt e c (r.val + 6) + rowAt e c (r.val + 7) + rowAt e c (r.val + 8) + rowAt e c (r.val + 9) + rowAt e c (r.val + 10) + rowAt e c (r.val + 11) := by
  have key : (k0_pay15 e (ix2 r c) : EReal) = rowAt (addf (F := Ideal) (φ := .f32) (addf (F := Ideal) (φ := .f32) (addf (F := Ideal) (φ := .f32) e (dynamicRotate 0 527#32 none e rotates_S528x128_d0)) (dynamicRotate 0 526#32 none (addf (F := Ideal) (φ := .f32) e (dynamicRotate 0 527#32 none e rotates_S528x128_d0)) rotates_S528x128_d0)) (dynamicRotate 0 4#32 none (addf (F := Ideal) (φ := .f32) (addf (F := Ideal) (φ := .f32) e (dynamicRotate 0 527#32 none e rotates_S528x128_d0)) (dynamicRotate 0 526#32 none (addf (F := Ideal) (φ := .f32) e (dynamicRotate 0 527#32 none e rotates_S528x128_d0)) rotates_S528x128_d0)) rotates_S528x128_d0)) c (r.val + 8) := by
    rw [rowAt_of_lt _ _ _ (by omega)]
    show (extractStridedSlice S512x128 ![8, 0] (addf (F := Ideal) (φ := .f32) (addf (F := Ideal) (φ := .f32) (addf (F := Ideal) (φ := .f32) e (dynamicRotate 0 527#32 none e rotates_S528x128_d0)) (dynamicRotate 0 526#32 none (addf (F := Ideal) (φ := .f32) e (dynamicRotate 0 527#32 none e rotates_S528x128_d0)) rotates_S528x128_d0)) (dynamicRotate 0 4#32 none (addf (F := Ideal) (φ := .f32) (addf (F := Ideal) (φ := .f32) e (dynamicRotate 0 527#32 none e rotates_S528x128_d0)) (dynamicRotate 0 526#32 none (addf (F := Ideal) (φ := .f32) e (dynamicRotate 0 527#32 none e rotates_S528x128_d0)) rotates_S528x128_d0)) rotates_S528x128_d0)) slices_S528x128_o8_0_S512x128 : FVec Ideal S512x128 .f32) (ix2 r c) = _
    generalize (addf (F := Ideal) (φ := .f32) (addf (F := Ideal) (φ := .f32) (addf (F := Ideal) (φ := .f32) e (dynamicRotate 0 527#32 none e rotates_S528x128_d0)) (dynamicRotate 0 526#32 none (addf (F := Ideal) (φ := .f32) e (dynamicRotate 0 527#32 none e rotates_S528x128_d0)) rotates_S528x128_d0)) (dynamicRotate 0 4#32 none (addf (F := Ideal) (φ := .f32) (addf (F := Ideal) (φ := .f32) e (dynamicRotate 0 527#32 none e rotates_S528x128_d0)) (dynamicRotate 0 526#32 none (addf (F := Ideal) (φ := .f32) e (dynamicRotate 0 527#32 none e rotates_S528x128_d0)) rotates_S528x128_d0)) rotates_S528x128_d0)) = z
    pointwise
    congr 2; apply Fin.ext; show _ = _; dsimp only; omega
  rw [key]
  repeat rw [add_rotate_4]
  repeat rw [add_rotate_526]
  repeat rw [add_rotate_527]
  simp only [Nat.add_assoc, Nat.reduceAdd]
  rw [show r.val + 532 = r.val + 4 + 528 by omega, rowAt_period]
  rw [show r.val + 533 = r.val + 5 + 528 by omega, rowAt_period]
  rw [show r.val + 534 = r.val + 6 + 528 by omega, rowAt_period]
  rw [show r.val + 535 = r.val + 7 + 528 by omega, rowAt_period]
  abel

/-- The windowed sum of group 3: 16 consecutive rows. -/
theorem win3_apply (e : Vec Ideal S528x128 .f32) (r : Fin 512) (c : Fin 128) :
    (k0_pay22 e (ix2 r c) : EReal) = rowAt e c r.val + rowAt e c (r.val + 1) + rowAt e c (r.val + 2) + rowAt e c (r.val + 3) + rowAt e c (r.val + 4) + rowAt e c (r.val + 5) + rowAt e c (r.val + 6) + rowAt e c (r.val + 7) + rowAt e c (r.val + 8) + rowAt e c (r.val + 9) + rowAt e c (r.val + 10) + rowAt e c (r.val + 11) + rowAt e c (r.val + 12) + rowAt e c (r.val + 13) + rowAt e c (r.val + 14) + rowAt e c (r.val + 15) := by
  have key : (k0_pay22 e (ix2 r c) : EReal) = rowAt (addf (F := Ideal) (φ := .f32) (addf (F := Ideal) (φ := .f32) (addf (F := Ideal) (φ := .f32) (addf (F := Ideal) (φ := .f32) e (dynamicRotate 0 527#32 none e rotates_S528x128_d0)) (dynamicRotate 0 526#32 none (addf (F := Ideal) (φ := .f32) e (dynamicRotate 0 527#32 none e rotates_S528x128_d0)) rotates_S528x128_d0)) (dynamicRotate 0 524#32 none (addf (F := Ideal) (φ := .f32) (addf (F := Ideal) (φ := .f32) e (dynamicRotate 0 527#32 none e rotates_S528x128_d0)) (dynamicRotate 0 526#32 none (addf (F := Ideal) (φ := .f32) e (dynamicRotate 0 527#32 none e rotates_S528x128_d0)) rotates_S528x128_d0)) rotates_S528x128_d0)) (dynamicRotate 0 8#32 none (addf (F := Ideal) (φ := .f32) (addf (F := Ideal) (φ := .f32) (addf (F := Ideal) (φ := .f32) e (dynamicRotate 0 527#32 none e rotates_S528x128_d0)) (dynamicRotate 0 526#32 none (addf (F := Ideal) (φ := .f32) e (dynamicRotate 0 527#32 none e rotates_S528x128_d0)) rotates_S528x128_d0)) (dynamicRotate 0 524#32 none (addf (F := Ideal) (φ := .f32) (addf (F := Ideal) (φ := .f32) e (dynamicRotate 0 527#32 none e rotates_S528x128_d0)) (dynamicRotate 0 526#32 none (addf (F := Ideal) (φ := .f32) e (dynamicRotate 0 527#32 none e rotates_S528x128_d0)) rotates_S528x128_d0)) rotates_S528x128_d0)) rotates_S528x128_d0)) c (r.val + 8) := by
    rw [rowAt_of_lt _ _ _ (by omega)]
    show (extractStridedSlice S512x128 ![8, 0] (addf (F := Ideal) (φ := .f32) (addf (F := Ideal) (φ := .f32) (addf (F := Ideal) (φ := .f32) (addf (F := Ideal) (φ := .f32) e (dynamicRotate 0 527#32 none e rotates_S528x128_d0)) (dynamicRotate 0 526#32 none (addf (F := Ideal) (φ := .f32) e (dynamicRotate 0 527#32 none e rotates_S528x128_d0)) rotates_S528x128_d0)) (dynamicRotate 0 524#32 none (addf (F := Ideal) (φ := .f32) (addf (F := Ideal) (φ := .f32) e (dynamicRotate 0 527#32 none e rotates_S528x128_d0)) (dynamicRotate 0 526#32 none (addf (F := Ideal) (φ := .f32) e (dynamicRotate 0 527#32 none e rotates_S528x128_d0)) rotates_S528x128_d0)) rotates_S528x128_d0)) (dynamicRotate 0 8#32 none (addf (F := Ideal) (φ := .f32) (addf (F := Ideal) (φ := .f32) (addf (F := Ideal) (φ := .f32) e (dynamicRotate 0 527#32 none e rotates_S528x128_d0)) (dynamicRotate 0 526#32 none (addf (F := Ideal) (φ := .f32) e (dynamicRotate 0 527#32 none e rotates_S528x128_d0)) rotates_S528x128_d0)) (dynamicRotate 0 524#32 none (addf (F := Ideal) (φ := .f32) (addf (F := Ideal) (φ := .f32) e (dynamicRotate 0 527#32 none e rotates_S528x128_d0)) (dynamicRotate 0 526#32 none (addf (F := Ideal) (φ := .f32) e (dynamicRotate 0 527#32 none e rotates_S528x128_d0)) rotates_S528x128_d0)) rotates_S528x128_d0)) rotates_S528x128_d0)) slices_S528x128_o8_0_S512x128 : FVec Ideal S512x128 .f32) (ix2 r c) = _
    generalize (addf (F := Ideal) (φ := .f32) (addf (F := Ideal) (φ := .f32) (addf (F := Ideal) (φ := .f32) (addf (F := Ideal) (φ := .f32) e (dynamicRotate 0 527#32 none e rotates_S528x128_d0)) (dynamicRotate 0 526#32 none (addf (F := Ideal) (φ := .f32) e (dynamicRotate 0 527#32 none e rotates_S528x128_d0)) rotates_S528x128_d0)) (dynamicRotate 0 524#32 none (addf (F := Ideal) (φ := .f32) (addf (F := Ideal) (φ := .f32) e (dynamicRotate 0 527#32 none e rotates_S528x128_d0)) (dynamicRotate 0 526#32 none (addf (F := Ideal) (φ := .f32) e (dynamicRotate 0 527#32 none e rotates_S528x128_d0)) rotates_S528x128_d0)) rotates_S528x128_d0)) (dynamicRotate 0 8#32 none (addf (F := Ideal) (φ := .f32) (addf (F := Ideal) (φ := .f32) (addf (F := Ideal) (φ := .f32) e (dynamicRotate 0 527#32 none e rotates_S528x128_d0)) (dynamicRotate 0 526#32 none (addf (F := Ideal) (φ := .f32) e (dynamicRotate 0 527#32 none e rotates_S528x128_d0)) rotates_S528x128_d0)) (dynamicRotate 0 524#32 none (addf (F := Ideal) (φ := .f32) (addf (F := Ideal) (φ := .f32) e (dynamicRotate 0 527#32 none e rotates_S528x128_d0)) (dynamicRotate 0 526#32 none (addf (F := Ideal) (φ := .f32) e (dynamicRotate 0 527#32 none e rotates_S528x128_d0)) rotates_S528x128_d0)) rotates_S528x128_d0)) rotates_S528x128_d0)) = z
    pointwise
    congr 2; apply Fin.ext; show _ = _; dsimp only; omega
  rw [key]
  repeat rw [add_rotate_8]
  repeat rw [add_rotate_524]
  repeat rw [add_rotate_526]
  repeat rw [add_rotate_527]
  simp only [Nat.add_assoc, Nat.reduceAdd]
  rw [rowAt_period]
  rw [show r.val + 529 = r.val + 1 + 528 by omega, rowAt_period]
  rw [show r.val + 530 = r.val + 2 + 528 by omega, rowAt_period]
  rw [show r.val + 531 = r.val + 3 + 528 by omega, rowAt_period]
  rw [show r.val + 532 = r.val + 4 + 528 by omega, rowAt_period]
  rw [show r.val + 533 = r.val + 5 + 528 by omega, rowAt_period]
  rw [show r.val + 534 = r.val + 6 + 528 by omega, rowAt_period]
  rw [show r.val + 535 = r.val + 7 + 528 by omega, rowAt_period]
  abel

/-- How many rows of the sequence the window of row `p` holds. -/
def cnt (h w : BitVec 32) (p : ℕ) : EReal :=
  (FloatOps.sitofp .f32 (IntOp.subi (IntOp.minsi (IntOp.addi (IntOp.subi (BitVec.ofNat 32 p) h) w) 2048#32) (IntOp.maxsi (IntOp.subi (BitVec.ofNat 32 p) h) 0#32)) : Ideal .f32)

/-- The windowed mean less the row itself. -/
def meanG (h w inv v : BitVec 32) (e : Vec Ideal S528x128 .f32) (win : FVec Ideal S512x128 .f32) : FVec Ideal S512x128 .bf16 :=
  let y0 : BitVec 32 := Scalar.muli v 512#32
  let y1 : BitVec 32 := Scalar.addi y0 0#32
  have y2 : IVec S8x128 32 := iota .tc S8x128 32 [0] iota_S8x128_d0_w32
  have y3 : IVec S8x128 32 := broadcast S8x128 y1
  have y4 : IVec S8x128 32 := addi y3 y2
  have y5 : IVec S8x128 32 := broadcast S8x128 h
  have y6 : IVec S8x128 32 := subi y4 y5
  have y7 : IVec S8x128 32 := broadcast S8x128 0#32
  have y8 : IVec S8x128 32 := maxsi y6 y7
  have y9 : IVec S8x128 32 := broadcast S8x128 h
  have y10 : IVec S8x128 32 := subi y4 y9
  have y11 : IVec S8x128 32 := broadcast S8x128 w
  have y12 : IVec S8x128 32 := addi y10 y11
  have y13 : IVec S8x128 32 := broadcast S8x128 2048#32
  have y14 : IVec S8x128 32 := minsi y12 y13
  have y15 : FVec Ideal S8x128 .f32 := extractStridedSlice S8x128 ![0, 0] win slices_S512x128_o0_0_S8x128
  have y16 : IVec S8x128 32 := subi y14 y8
  have y17 : FVec Ideal S8x128 .f32 := sitofp .f32 y16
  have y18 : FVec Ideal S8x128 .f32 := divf y15 y17
  have y19 : FVec Ideal S496x128 .f32 := extractStridedSlice S496x128 ![8, 0] win slices_S512x128_o8_0_S496x128
  have scale : Ideal .f32 := Scalar.ofBits .f32 inv
  have y20 : FVec Ideal S496x128 .f32 := broadcast S496x128 scale
  have y21 : FVec Ideal S496x128 .f32 := mulf y19 y20
  let y22 : BitVec 32 := Scalar.muli v 512#32
  let y23 : BitVec 32 := Scalar.addi y22 504#32
  have y24 : IVec S8x128 32 := iota .tc S8x128 32 [0] iota_S8x128_d0_w32
  have y25 : IVec S8x128 32 := broadcast S8x128 y23
  have y26 : IVec S8x128 32 := addi y25 y24
  have y27 : IVec S8x128 32 := broadcast S8x128 h
  have y28 : IVec S8x128 32 := subi y26 y27
  have y29 : IVec S8x128 32 := broadcast S8x128 0#32
  have y30 : IVec S8x128 32 := maxsi y28 y29
  have y31 : IVec S8x128 32 := broadcast S8x128 h
  have y32 : IVec S8x128 32 := subi y26 y31
  have y33 : IVec S8x128 32 := broadcast S8x128 w
  have y34 : IVec S8x128 32 := addi y32 y33
  have y35 : IVec S8x128 32 := broadcast S8x128 2048#32
  have y36 : IVec S8x128 32 := minsi y34 y35
  have y37 : FVec Ideal S8x128 .f32 := extractStridedSlice S8x128 ![504, 0] win slices_S512x128_o504_0_S8x128
  have y38 : IVec S8x128 32 := subi y36 y30
  have y39 : FVec Ideal S8x128 .f32 := sitofp .f32 y38
  have y40 : FVec Ideal S8x128 .f32 := divf y37 y39
  have y41 : FVec Ideal S512x128 .f32 := concatenate S512x128 0 [⟨S8x128, y18⟩, ⟨S496x128, y21⟩, ⟨S8x128, y40⟩] concatenates_S8x128_S496x128_S8x128_S512x128_d0
  have y42 : FVec Ideal S512x128 .f32 := extractStridedSlice S512x128 ![8, 0] e slices_S528x128_o8_0_S512x128
  have y43 : FVec Ideal S512x128 .f32 := subf y41 y42
  have y44 : FVec Ideal S512x128 .bf16 := truncf .bf16 y43 bitsLt_bf16_f32
  y44

variable (v : BitVec 32) (e : Vec Ideal S528x128 .f32) (pw : Vec Ideal S1x128x128 .f32) (pb : Vec Ideal S1x1x128 .f32) (ps : Vec Ideal S1x128 .f32)

theorem pool0_mean : pool0 v e pw pb ps = k0_pay10 (meanG 1#32 2#32 0x3F000000#32 v e (k0_pay8 e)) pw pb ps := rfl
theorem pool1_mean : pool1 v e pw pb ps = k0_pay10 (meanG 2#32 4#32 0x3E800000#32 v e (k0_pay11 e)) pw pb ps := rfl
theorem pool2_mean : pool2 v e pw pb ps = k0_pay10 (meanG 4#32 8#32 0x3E000000#32 v e (k0_pay15 e)) pw pb ps := rfl
theorem pool3_mean : pool3 v e pw pb ps = k0_pay10 (meanG 8#32 16#32 0x3D800000#32 v e (k0_pay22 e)) pw pb ps := rfl

theorem project_apply (x : FVec Ideal S512x128 .bf16) (r : Fin 512) (d : Fin 128) :
    (k0_pay10 x pw pb ps (ix2 r d) : EReal) = (∑ k : Fin 128, (x (ix2 r k) : EReal) * pw (ix3 0 k d) + pb (ix3 0 0 d)) * ps (ix2 0 d) := by
  pointwise [k0_pay10]

theorem meanG_apply (h w inv : BitVec 32) (st : Fin 4) (win : FVec Ideal S512x128 .f32) (r : Fin 512) (c : Fin 128)
    (hm : ∀ (x : EReal) (p : ℕ), 8 ≤ p → p < 2040 → x * Ideal.ofBits .f32 inv = Ideal.div x (cnt h w p)) :
    (meanG h w inv (BitVec.ofNat 32 st.val) e win (ix2 r c) : EReal) = Ideal.div (win (ix2 r c)) (cnt h w (st.val * 512 + r.val)) - e (ix2 ⟨r.val + 8, by omega⟩ c) := by
  have e1 : ∀ a b : ℕ, IntOp.addi (Scalar.addi (Scalar.muli (BitVec.ofNat 32 st.val) 512#32) (BitVec.ofNat 32 a)) (BitVec.ofNat 32 b) = BitVec.ofNat 32 (st.val * 512 + a + b) := by
    intro a b
    show BitVec.ofNat 32 st.val * BitVec.ofNat 32 512 + BitVec.ofNat 32 a + BitVec.ofNat 32 b = _
    rw [← BitVec.ofNat_mul, ← BitVec.ofNat_add, ← BitVec.ofNat_add]
  pointwise [meanG]
  have hs := st.isLt
  have hr := r.isLt
  rw [show (⟨8 + r.val, by omega⟩ : Fin 528) = ⟨r.val + 8, by omega⟩ from Fin.ext (Nat.add_comm 8 r.val)]
  congr 1
  by_cases h1 : r.val < 8
  · rw [dif_pos h1, e1 0 r.val]; rfl
  · rw [dif_neg h1]
    by_cases h2 : r.val - 8 < 496
    · rw [dif_pos h2, hm _ (st.val * 512 + r.val) (by omega) (by omega)]
      congr 3; apply Fin.ext; show 8 + (r.val - 8) = r.val; omega
    · rw [dif_neg h2, e1 504 (r.val - 8 - 496), show st.val * 512 + 504 + (r.val - 8 - 496) = st.val * 512 + r.val by omega]
      unfold cnt
      congr 3; apply Fin.ext; show 504 + (r.val - 8 - 496) = r.val; omega

theorem full_count : ∀ p : Fin 2048, 8 ≤ p.val → p.val < 2040 →
    (IntOp.subi (IntOp.minsi (IntOp.addi (IntOp.subi (BitVec.ofNat 32 p.val) 1#32) 2#32) 2048#32) (IntOp.maxsi (IntOp.subi (BitVec.ofNat 32 p.val) 1#32) 0#32) : BitVec 32) = 2#32
    ∧ (IntOp.subi (IntOp.minsi (IntOp.addi (IntOp.subi (BitVec.ofNat 32 p.val) 2#32) 4#32) 2048#32) (IntOp.maxsi (IntOp.subi (BitVec.ofNat 32 p.val) 2#32) 0#32) : BitVec 32) = 4#32
    ∧ (IntOp.subi (IntOp.minsi (IntOp.addi (IntOp.subi (BitVec.ofNat 32 p.val) 4#32) 8#32) 2048#32) (IntOp.maxsi (IntOp.subi (BitVec.ofNat 32 p.val) 4#32) 0#32) : BitVec 32) = 8#32
    ∧ (IntOp.subi (IntOp.minsi (IntOp.addi (IntOp.subi (BitVec.ofNat 32 p.val) 8#32) 16#32) 2048#32) (IntOp.maxsi (IntOp.subi (BitVec.ofNat 32 p.val) 8#32) 0#32) : BitVec 32) = 16#32 := by
  decide +kernel

theorem scale2 : Ideal.ofBits FTy.f32 0x3F000000#32 = ((2⁻¹ : ℝ) : EReal) := by
  simp [Ideal.ofBits, Ideal.ieee]
  rw [← EReal.coe_mul]; norm_num
theorem scale4 : Ideal.ofBits FTy.f32 0x3E800000#32 = ((4⁻¹ : ℝ) : EReal) := by
  simp [Ideal.ofBits, Ideal.ieee]
  rw [← EReal.coe_mul]; norm_num
theorem scale8 : Ideal.ofBits FTy.f32 0x3E000000#32 = ((8⁻¹ : ℝ) : EReal) := by
  simp [Ideal.ofBits, Ideal.ieee]
  rw [← EReal.coe_mul]; norm_num
theorem scale16 : Ideal.ofBits FTy.f32 0x3D800000#32 = ((16⁻¹ : ℝ) : EReal) := by
  simp [Ideal.ofBits, Ideal.ieee]
  rw [← EReal.coe_mul]; norm_num

/-- Dividing by a number that is not zero is multiplying by its inverse. -/
theorem div_coe (x : EReal) (z : ℝ) (hz : z ≠ 0) : Ideal.div x (z : EReal) = x * ((z⁻¹ : ℝ) : EReal) := by
  unfold Ideal.div
  rw [if_neg (by simpa using hz), EReal.coe_inv]

/-- Away from a sequence's ends a window of 2 holds 2 rows. -/
theorem whole2 (x : EReal) (p : ℕ) (h1 : 8 ≤ p) (h2 : p < 2040) : x * Ideal.ofBits .f32 0x3F000000#32 = Ideal.div x (cnt 1#32 2#32 p) := by
  have e : cnt 1#32 2#32 p = ((2 : ℝ) : EReal) := by
    unfold cnt
    rw [(full_count ⟨p, by omega⟩ h1 h2).1]
    show ((((2#32 : BitVec 32).toInt : ℤ) : ℝ) : EReal) = _
    rw [show (2#32 : BitVec 32).toInt = 2 from by decide]; norm_num
  rw [e, div_coe _ _ (by norm_num), scale2]

/-- Away from a sequence's ends a window of 4 holds 4 rows. -/
theorem whole4 (x : EReal) (p : ℕ) (h1 : 8 ≤ p) (h2 : p < 2040) : x * Ideal.ofBits .f32 0x3E800000#32 = Ideal.div x (cnt 2#32 4#32 p) := by
  have e : cnt 2#32 4#32 p = ((4 : ℝ) : EReal) := by
    unfold cnt
    rw [(full_count ⟨p, by omega⟩ h1 h2).2.1]
    show ((((4#32 : BitVec 32).toInt : ℤ) : ℝ) : EReal) = _
    rw [show (4#32 : BitVec 32).toInt = 4 from by decide]; norm_num
  rw [e, div_coe _ _ (by norm_num), scale4]

/-- Away from a sequence's ends a window of 8 holds 8 rows. -/
theorem whole8 (x : EReal) (p : ℕ) (h1 : 8 ≤ p) (h2 : p < 2040) : x * Ideal.ofBits .f32 0x3E000000#32 = Ideal.div x (cnt 4#32 8#32 p) := by
  have e : cnt 4#32 8#32 p = ((8 : ℝ) : EReal) := by
    unfold cnt
    rw [(full_count ⟨p, by omega⟩ h1 h2).2.2.1]
    show ((((8#32 : BitVec 32).toInt : ℤ) : ℝ) : EReal) = _
    rw [show (8#32 : BitVec 32).toInt = 8 from by decide]; norm_num
  rw [e, div_coe _ _ (by norm_num), scale8]

/-- Away from a sequence's ends a window of 16 holds 16 rows. -/
theorem whole16 (x : EReal) (p : ℕ) (h1 : 8 ≤ p) (h2 : p < 2040) : x * Ideal.ofBits .f32 0x3D800000#32 = Ideal.div x (cnt 8#32 16#32 p) := by
  have e : cnt 8#32 16#32 p = ((16 : ℝ) : EReal) := by
    unfold cnt
    rw [(full_count ⟨p, by omega⟩ h1 h2).2.2.2]
    show ((((16#32 : BitVec 32).toInt : ℤ) : ℝ) : EReal) = _
    rw [show (16#32 : BitVec 32).toInt = 16 from by decide]; norm_num
  rw [e, div_coe _ _ (by norm_num), scale16]

/-- Pooling group 0 at an index. -/
theorem pool0_apply (st : Fin 4) (r : Fin 512) (d : Fin 128) :
    (pool0 (BitVec.ofNat 32 st.val) e pw pb ps (ix2 r d) : EReal) = (∑ k : Fin 128, (Ideal.div (rowAt e k (r.val + 7) + rowAt e k (r.val + 8)) (cnt 1#32 2#32 (st.val * 512 + r.val)) - rowAt e k (r.val + 8)) * pw (ix3 0 k d) + pb (ix3 0 0 d)) * ps (ix2 0 d) := by
  rw [pool0_mean, project_apply]
  congr 2
  refine Finset.sum_congr rfl fun k _ => ?_
  rw [meanG_apply _ _ _ _ _ _ _ _ whole2, win0_apply, rowAt_of_lt _ _ (r.val + 8) (by omega)]

/-- Pooling group 1 at an index. -/
theorem pool1_apply (st : Fin 4) (r : Fin 512) (d : Fin 128) :
    (pool1 (BitVec.ofNat 32 st.val) e pw pb ps (ix2 r d) : EReal) = (∑ k : Fin 128, (Ideal.div (rowAt e k (r.val + 6) + rowAt e k (r.val + 7) + rowAt e k (r.val + 8) + rowAt e k (r.val + 9)) (cnt 2#32 4#32 (st.val * 512 + r.val)) - rowAt e k (r.val + 8)) * pw (ix3 0 k d) + pb (ix3 0 0 d)) * ps (ix2 0 d) := by
  rw [pool1_mean, project_apply]
  congr 2
  refine Finset.sum_congr rfl fun k _ => ?_
  rw [meanG_apply _ _ _ _ _ _ _ _ whole4, win1_apply, rowAt_of_lt _ _ (r.val + 8) (by omega)]

/-- Pooling group 2 at an index. -/
theorem pool2_apply (st : Fin 4) (r : Fin 512) (d : Fin 128) :
    (pool2 (BitVec.ofNat 32 st.val) e pw pb ps (ix2 r d) : EReal) = (∑ k : Fin 128, (Ideal.div (rowAt e k (r.val + 4) + rowAt e k (r.val + 5) + rowAt e k (r.val + 6) + rowAt e k (r.val + 7) + rowAt e k (r.val + 8) + rowAt e k (r.val + 9) + rowAt e k (r.val + 10) + rowAt e k (r.val + 11)) (cnt 4#32 8#32 (st.val * 512 + r.val)) - rowAt e k (r.val + 8)) * pw (ix3 0 k d) + pb (ix3 0 0 d)) * ps (ix2 0 d) := by
  rw [pool2_mean, project_apply]
  congr 2
  refine Finset.sum_congr rfl fun k _ => ?_
  rw [meanG_apply _ _ _ _ _ _ _ _ whole8, win2_apply, rowAt_of_lt _ _ (r.val + 8) (by omega)]

/-- Pooling group 3 at an index. -/
theorem pool3_apply (st : Fin 4) (r : Fin 512) (d : Fin 128) :
    (pool3 (BitVec.ofNat 32 st.val) e pw pb ps (ix2 r d) : EReal) = (∑ k : Fin 128, (Ideal.div (rowAt e k r.val + rowAt e k (r.val + 1) + rowAt e k (r.val + 2) + rowAt e k (r.val + 3) + rowAt e k (r.val + 4) + rowAt e k (r.val + 5) + rowAt e k (r.val + 6) + rowAt e k (r.val + 7) + rowAt e k (r.val + 8) + rowAt e k (r.val + 9) + rowAt e k (r.val + 10) + rowAt e k (r.val + 11) + rowAt e k (r.val + 12) + rowAt e k (r.val + 13) + rowAt e k (r.val + 14) + rowAt e k (r.val + 15)) (cnt 8#32 16#32 (st.val * 512 + r.val)) - rowAt e k (r.val + 8)) * pw (ix3 0 k d) + pb (ix3 0 0 d)) * ps (ix2 0 d) := by
  rw [pool3_mean, project_apply]
  congr 2
  refine Finset.sum_congr rfl fun k _ => ?_
  rw [meanG_apply _ _ _ _ _ _ _ _ whole16, win3_apply, rowAt_of_lt _ _ (r.val + 8) (by omega)]

end Cert.Proof.MixIdeal

end
-- ==== Proof.MixValue.Staged.lean ====
module

public import proofs.«01_k».proof.Proof.MixValue.Pool
public import Idealize.ShloMosaic.Lib.Pointwise
public import Idealize.ShloMosaic.Lib.WritesUnit
public import Idealize.ShloMosaic.Lib.Pipeline.ValueKit

@[expose] public section

set_option maxRecDepth 16384

noncomputable section

namespace Cert.Proof.MixIdeal

open Cert.MixIdeal Cert.MixIdeal.Gen
open Idealize.ShloMosaic Idealize.ShloMosaic.TcCoe Idealize.ShloMosaic.Tactic

/-! ## The staged rows and the pooled groups of a tile, over exact numbers -/

variable (T : Tile Ideal) (st : Fin 4) (hv : T.v = BitVec.ofNat 32 st.val)

/-- Staged row `n`, channel `c`: eight rows of the tile before, the tile's own, eight of the tile after; past either end of the sequence, zero. -/
def extRow (c : Fin 512) (n : ℕ) : EReal :=
  if h : n < 8 then (if 0 < st.val then T.up (ix2 ⟨n, h⟩ c) else 0)
  else if h : n < 520 then T.u (ix2 ⟨n - 8, by omega⟩ c)
  else if h : n < 528 then (if st.val < 3 then T.un (ix2 ⟨n - 520, by omega⟩ c) else 0) else 0

theorem before_apply (x : Vec Ideal S8x512 .f32) (r : Fin 8) (c : Fin 512) :
    (k0_pay5 (BitVec.ofNat 32 st.val) x (ix2 r c) : EReal) = if 0 < st.val then (x (ix2 r c) : EReal) else 0 := by
  pointwise [k0_pay5]
  fin_cases st <;> simp [Scalar.select, Scalar.cmpi, IntOp.cmpi, Ideal.ofBits, Ideal.ieee]

theorem after_apply (x : Vec Ideal S8x512 .f32) (r : Fin 8) (c : Fin 512) :
    (k0_pay7 (BitVec.ofNat 32 st.val) x (ix2 r c) : EReal) = if st.val < 3 then (x (ix2 r c) : EReal) else 0 := by
  pointwise [k0_pay7]
  fin_cases st <;> simp [Scalar.select, Scalar.cmpi, IntOp.cmpi, Ideal.ofBits, Ideal.ieee]

theorem own_apply (x : Vec Ideal S512x512 .f32) (r : Fin 512) (c : Fin 512) : (k0_pay6 x (ix2 r c) : EReal) = x (ix2 r c) := by
  pointwise [k0_pay6]

theorem ld_eight (X : Vec Ideal S8x512 .f32) : View.ld X (Rect.unit (s := S8x512) ![0, 0] S8x512.size inb_S8x512_S8x512_0_0) = X :=
  funext fun x => congrArg X (funext fun d => Fin.ext (match d with
    | 0 => (show 0 + 1 * (x 0).val = (x 0).val by omega)
    | 1 => (show 0 + 1 * (x 1).val = (x 1).val by omega)))

theorem ld_tile (X : Vec Ideal S512x512 .f32) : View.ld X (Rect.unit (s := S512x512) ![0, 0] S512x512.size inb_S512x512_S512x512_0_0) = X :=
  funext fun x => congrArg X (funext fun d => Fin.ext (match d with
    | 0 => (show 0 + 1 * (x 0).val = (x 0).val by omega)
    | 1 => (show 0 + 1 * (x 1).val = (x 1).val by omega)))

include hv in
/-- The stores leave the staged rows. -/
theorem staged_read (n : Fin 528) (c : Fin 512) :
    (scE.view.read (Elt Ideal) (scE.view.writes (Elt Ideal) scE.view.junk (extL T)) (ix2 n c) : EReal) = extRow T st c n.val := by
  unfold extL extRow
  rw [ld_eight, ld_eight, ld_tile, hv]
  by_cases h8 : n.val < 8
  · rw [dif_pos h8, View.read_writes_cons_unit_of_not_mem (off' := ![520, 0]) scE.view _ _ _ _ _ rfl 0 (Or.inl (show n.val < 520 by omega)),
      View.read_writes_cons_unit_of_not_mem (off' := ![8, 0]) scE.view _ _ _ _ _ rfl 0 (Or.inl (show n.val < 8 by omega))]
    refine (View.read_writes_cons_unit_of_mem (off' := ![0, 0]) (size := S8x512.size) scE.view _ _ _ _ _ (ix2 (⟨n.val, h8⟩ : Fin 8) c) rfl ?_).trans (before_apply st T.up _ _)
    intro a
    match a with
    | 0 => show n.val = 0 + n.val; omega
    | 1 => show c.val = 0 + c.val; omega
  · rw [dif_neg h8]
    by_cases h5 : n.val < 520
    · rw [dif_pos h5, View.read_writes_cons_unit_of_not_mem (off' := ![520, 0]) scE.view _ _ _ _ _ rfl 0 (Or.inl (show n.val < 520 by omega))]
      refine (View.read_writes_cons_unit_of_mem (off' := ![8, 0]) (size := S512x512.size) scE.view _ _ _ _ _ (ix2 (⟨n.val - 8, by omega⟩ : Fin 512) c) rfl ?_).trans (own_apply T.u _ _)
      intro a
      match a with
      | 0 => show n.val = 8 + (n.val - 8); omega
      | 1 => show c.val = 0 + c.val; omega
    · rw [dif_neg h5, dif_pos n.isLt]
      refine (View.read_writes_cons_unit_of_mem (off' := ![520, 0]) (size := S8x512.size) scE.view _ _ _ _ _ (ix2 (⟨n.val - 520, by omega⟩ : Fin 8) c) rfl ?_).trans (after_apply st T.un _ _)
      intro a
      match a with
      | 0 => show n.val = 520 + (n.val - 520); omega
      | 1 => show c.val = 0 + c.val; omega

include hv in
theorem ext0_apply (n : Fin 528) (k : Fin 128) : (ext0 T (ix2 n k) : EReal) = extRow T st ⟨0 + k.val, by omega⟩ n.val := by
  refine Eq.trans ?_ (staged_read T st hv n ⟨0 + k.val, by omega⟩)
  refine congrArg (scE.view.read (Elt Ideal) (scE.view.writes (Elt Ideal) scE.view.junk (extL T))) (funext fun a => Fin.ext ?_)
  match a with
  | 0 => show 0 + 1 * n.val = n.val; omega
  | 1 => show 0 + 1 * k.val = 0 + k.val; omega

include hv in
theorem rowAt0 (k : Fin 128) (n : ℕ) (h : n < 528) : rowAt (ext0 T) k n = extRow T st ⟨0 + k.val, by omega⟩ n := by
  rw [rowAt_of_lt _ _ _ h, ext0_apply T st hv]

include hv in
theorem ext1_apply (n : Fin 528) (k : Fin 128) : (ext1 T (ix2 n k) : EReal) = extRow T st ⟨128 + k.val, by omega⟩ n.val := by
  refine Eq.trans ?_ (staged_read T st hv n ⟨128 + k.val, by omega⟩)
  refine congrArg (scE.view.read (Elt Ideal) (scE.view.writes (Elt Ideal) scE.view.junk (extL T))) (funext fun a => Fin.ext ?_)
  match a with
  | 0 => show 0 + 1 * n.val = n.val; omega
  | 1 => show 128 + 1 * k.val = 128 + k.val; omega

include hv in
theorem rowAt1 (k : Fin 128) (n : ℕ) (h : n < 528) : rowAt (ext1 T) k n = extRow T st ⟨128 + k.val, by omega⟩ n := by
  rw [rowAt_of_lt _ _ _ h, ext1_apply T st hv]

include hv in
theorem ext2_apply (n : Fin 528) (k : Fin 128) : (ext2 T (ix2 n k) : EReal) = extRow T st ⟨256 + k.val, by omega⟩ n.val := by
  refine Eq.trans ?_ (staged_read T st hv n ⟨256 + k.val, by omega⟩)
  refine congrArg (scE.view.read (Elt Ideal) (scE.view.writes (Elt Ideal) scE.view.junk (extL T))) (funext fun a => Fin.ext ?_)
  match a with
  | 0 => show 0 + 1 * n.val = n.val; omega
  | 1 => show 256 + 1 * k.val = 256 + k.val; omega

include hv in
theorem rowAt2 (k : Fin 128) (n : ℕ) (h : n < 528) : rowAt (ext2 T) k n = extRow T st ⟨256 + k.val, by omega⟩ n := by
  rw [rowAt_of_lt _ _ _ h, ext2_apply T st hv]

include hv in
theorem ext3_apply (n : Fin 528) (k : Fin 128) : (ext3 T (ix2 n k) : EReal) = extRow T st ⟨384 + k.val, by omega⟩ n.val := by
  refine Eq.trans ?_ (staged_read T st hv n ⟨384 + k.val, by omega⟩)
  refine congrArg (scE.view.read (Elt Ideal) (scE.view.writes (Elt Ideal) scE.view.junk (extL T))) (funext fun a => Fin.ext ?_)
  match a with
  | 0 => show 0 + 1 * n.val = n.val; omega
  | 1 => show 384 + 1 * k.val = 384 + k.val; omega

include hv in
theorem rowAt3 (k : Fin 128) (n : ℕ) (h : n < 528) : rowAt (ext3 T) k n = extRow T st ⟨384 + k.val, by omega⟩ n := by
  rw [rowAt_of_lt _ _ _ h, ext3_apply T st hv]

/-- A load of one group's weights, at an index. -/
theorem ldW (X : Vec Ideal S4x128x128 .f32) (g : ℕ) (hg : g < 4) (inb) (k d : Fin 128) :
    (View.ld X (Rect.unit (s := S4x128x128) ![g, 0, 0] S1x128x128.size inb) (ix3 0 k d) : EReal) = X (ix3 ⟨g, hg⟩ k d) := by
  refine congrArg X (funext fun a => Fin.ext ?_)
  match a with
  | 0 => show g + 1 * 0 = g; omega
  | 1 => show 0 + 1 * k.val = k.val; omega
  | 2 => show 0 + 1 * d.val = d.val; omega

/-- A load of one group's bias, at an index. -/
theorem ldB (X : Vec Ideal S4x1x128 .f32) (g : ℕ) (hg : g < 4) (inb) (d : Fin 128) :
    (View.ld X (Rect.unit (s := S4x1x128) ![g, 0, 0] S1x1x128.size inb) (ix3 0 0 d) : EReal) = X (ix3 ⟨g, hg⟩ 0 d) := by
  refine congrArg X (funext fun a => Fin.ext ?_)
  match a with
  | 0 => show g + 1 * 0 = g; omega
  | 1 => rfl
  | 2 => show 0 + 1 * d.val = d.val; omega

/-- A load of one group's scale, at an index. -/
theorem ldS (X : Vec Ideal S1x512 .f32) (o : ℕ) (ho : o + 128 ≤ 512) (inb) (d : Fin 128) :
    (View.ld X (Rect.unit (s := S1x512) ![0, o] S1x128.size inb) (ix2 0 d) : EReal) = X (ix2 0 ⟨o + d.val, by omega⟩) := by
  refine congrArg X (funext fun a => Fin.ext ?_)
  match a with
  | 0 => rfl
  | 1 => show o + 1 * d.val = o + d.val; omega

/-- Group 0's columns of the pooled groups side by side. -/
theorem mix0_read (r : Fin 512) (d : Fin 128) :
    (mixV T (ix2 r ⟨0 + d.val, by omega⟩) : EReal) = pool0 T.v (ext0 T) (View.ld T.pw (Rect.unit (s := S4x128x128) ![0, 0, 0] S1x128x128.size inb_S4x128x128_S1x128x128_0_0_0)) (View.ld T.pb (Rect.unit (s := S4x1x128) ![0, 0, 0] S1x1x128.size inb_S4x1x128_S1x1x128_0_0_0)) (View.ld T.ps (Rect.unit (s := S1x512) ![0, 0] S1x128.size inb_S1x512_S1x128_0_0)) (ix2 r d) := by
  have e : (mixV T (ix2 r ⟨0 + d.val, by omega⟩) : EReal) = scP.view.read (Elt Ideal) (scP.view.writes (Elt Ideal) scP.view.junk (mixL T)) (ix2 r ⟨0 + d.val, by omega⟩) := by
    refine congrArg (scP.view.read (Elt Ideal) (scP.view.writes (Elt Ideal) scP.view.junk (mixL T))) (funext fun a => Fin.ext ?_)
    match a with
    | 0 => show 0 + 1 * r.val = r.val; omega
    | 1 => show 0 + 1 * (0 + d.val) = 0 + d.val; omega
  rw [e]
  unfold mixL
  rw [View.read_writes_cons_unit_of_not_mem (off' := ![0, 384]) scP.view _ _ _ _ _ rfl 1 (Or.inl (show 0 + d.val < 384 by omega))]
  rw [View.read_writes_cons_unit_of_not_mem (off' := ![0, 256]) scP.view _ _ _ _ _ rfl 1 (Or.inl (show 0 + d.val < 256 by omega))]
  rw [View.read_writes_cons_unit_of_not_mem (off' := ![0, 128]) scP.view _ _ _ _ _ rfl 1 (Or.inl (show 0 + d.val < 128 by omega))]
  refine View.read_writes_cons_unit_of_mem (off' := ![0, 0]) (size := S512x128.size) scP.view _ _ _ _ _ (ix2 r d) rfl ?_
  intro a
  match a with
  | 0 => show r.val = 0 + r.val; omega
  | 1 => show 0 + d.val = 0 + d.val; rfl

include hv in
/-- Group 0 of a tile: the mean over a window of 2 rows less the row, through the group's weights, bias and scale. -/
theorem mix0_apply (r : Fin 512) (d : Fin 128) :
    (mixV T (ix2 r ⟨0 + d.val, by omega⟩) : EReal) = (∑ k : Fin 128, (Ideal.div (extRow T st ⟨0 + k.val, by omega⟩ (r.val + 7) + extRow T st ⟨0 + k.val, by omega⟩ (r.val + 8)) (cnt 1#32 2#32 (st.val * 512 + r.val)) - extRow T st ⟨0 + k.val, by omega⟩ (r.val + 8)) * T.pw (ix3 0 k d) + T.pb (ix3 0 0 d)) * T.ps (ix2 0 ⟨0 + d.val, by omega⟩) := by
  rw [mix0_read, hv, pool0_apply, ldB T.pb 0 (by omega), ldS T.ps 0 (by omega)]
  have a : ∀ (k : Fin 128) (n : ℕ) (h : n < 528), _ := fun k n h => rowAt0 T st hv k n h
  refine congrArg₂ (fun p q : EReal => (p + q) * T.ps (ix2 0 ⟨0 + d.val, by omega⟩)) (Finset.sum_congr rfl fun k _ => ?_) rfl
  rw [ldW T.pw 0 (by omega)]
  have q : ∀ j : ℕ, j ≤ 15 → rowAt (ext0 T) k (r.val + j) = extRow T st ⟨0 + k.val, by omega⟩ (r.val + j) := fun j hj => a k _ (by omega)

  rw [q 7 (by omega), q 8 (by omega)]
  rfl

/-- Group 1's columns of the pooled groups side by side. -/
theorem mix1_read (r : Fin 512) (d : Fin 128) :
    (mixV T (ix2 r ⟨128 + d.val, by omega⟩) : EReal) = pool1 T.v (ext1 T) (View.ld T.pw (Rect.unit (s := S4x128x128) ![1, 0, 0] S1x128x128.size inb_S4x128x128_S1x128x128_1_0_0)) (View.ld T.pb (Rect.unit (s := S4x1x128) ![1, 0, 0] S1x1x128.size inb_S4x1x128_S1x1x128_1_0_0)) (View.ld T.ps (Rect.unit (s := S1x512) ![0, 128] S1x128.size inb_S1x512_S1x128_0_128)) (ix2 r d) := by
  have e : (mixV T (ix2 r ⟨128 + d.val, by omega⟩) : EReal) = scP.view.read (Elt Ideal) (scP.view.writes (Elt Ideal) scP.view.junk (mixL T)) (ix2 r ⟨128 + d.val, by omega⟩) := by
    refine congrArg (scP.view.read (Elt Ideal) (scP.view.writes (Elt Ideal) scP.view.junk (mixL T))) (funext fun a => Fin.ext ?_)
    match a with
    | 0 => show 0 + 1 * r.val = r.val; omega
    | 1 => show 0 + 1 * (128 + d.val) = 128 + d.val; omega
  rw [e]
  unfold mixL
  rw [View.read_writes_cons_unit_of_not_mem (off' := ![0, 384]) scP.view _ _ _ _ _ rfl 1 (Or.inl (show 128 + d.val < 384 by omega))]
  rw [View.read_writes_cons_unit_of_not_mem (off' := ![0, 256]) scP.view _ _ _ _ _ rfl 1 (Or.inl (show 128 + d.val < 256 by omega))]
  refine View.read_writes_cons_unit_of_mem (off' := ![0, 128]) (size := S512x128.size) scP.view _ _ _ _ _ (ix2 r d) rfl ?_
  intro a
  match a with
  | 0 => show r.val = 0 + r.val; omega
  | 1 => show 128 + d.val = 128 + d.val; rfl

include hv in
/-- Group 1 of a tile: the mean over a window of 4 rows less the row, through the group's weights, bias and scale. -/
theorem mix1_apply (r : Fin 512) (d : Fin 128) :
    (mixV T (ix2 r ⟨128 + d.val, by omega⟩) : EReal) = (∑ k : Fin 128, (Ideal.div (extRow T st ⟨128 + k.val, by omega⟩ (r.val + 6) + extRow T st ⟨128 + k.val, by omega⟩ (r.val + 7) + extRow T st ⟨128 + k.val, by omega⟩ (r.val + 8) + extRow T st ⟨128 + k.val, by omega⟩ (r.val + 9)) (cnt 2#32 4#32 (st.val * 512 + r.val)) - extRow T st ⟨128 + k.val, by omega⟩ (r.val + 8)) * T.pw (ix3 1 k d) + T.pb (ix3 1 0 d)) * T.ps (ix2 0 ⟨128 + d.val, by omega⟩) := by
  rw [mix1_read, hv, pool1_apply, ldB T.pb 1 (by omega), ldS T.ps 128 (by omega)]
  have a : ∀ (k : Fin 128) (n : ℕ) (h : n < 528), _ := fun k n h => rowAt1 T st hv k n h
  refine congrArg₂ (fun p q : EReal => (p + q) * T.ps (ix2 0 ⟨128 + d.val, by omega⟩)) (Finset.sum_congr rfl fun k _ => ?_) rfl
  rw [ldW T.pw 1 (by omega)]
  have q : ∀ j : ℕ, j ≤ 15 → rowAt (ext1 T) k (r.val + j) = extRow T st ⟨128 + k.val, by omega⟩ (r.val + j) := fun j hj => a k _ (by omega)

  rw [q 6 (by omega), q 7 (by omega), q 8 (by omega), q 9 (by omega)]
  rfl

/-- Group 2's columns of the pooled groups side by side. -/
theorem mix2_read (r : Fin 512) (d : Fin 128) :
    (mixV T (ix2 r ⟨256 + d.val, by omega⟩) : EReal) = pool2 T.v (ext2 T) (View.ld T.pw (Rect.unit (s := S4x128x128) ![2, 0, 0] S1x128x128.size inb_S4x128x128_S1x128x128_2_0_0)) (View.ld T.pb (Rect.unit (s := S4x1x128) ![2, 0, 0] S1x1x128.size inb_S4x1x128_S1x1x128_2_0_0)) (View.ld T.ps (Rect.unit (s := S1x512) ![0, 256] S1x128.size inb_S1x512_S1x128_0_256)) (ix2 r d) := by
  have e : (mixV T (ix2 r ⟨256 + d.val, by omega⟩) : EReal) = scP.view.read (Elt Ideal) (scP.view.writes (Elt Ideal) scP.view.junk (mixL T)) (ix2 r ⟨256 + d.val, by omega⟩) := by
    refine congrArg (scP.view.read (Elt Ideal) (scP.view.writes (Elt Ideal) scP.view.junk (mixL T))) (funext fun a => Fin.ext ?_)
    match a with
    | 0 => show 0 + 1 * r.val = r.val; omega
    | 1 => show 0 + 1 * (256 + d.val) = 256 + d.val; omega
  rw [e]
  unfold mixL
  rw [View.read_writes_cons_unit_of_not_mem (off' := ![0, 384]) scP.view _ _ _ _ _ rfl 1 (Or.inl (show 256 + d.val < 384 by omega))]
  refine View.read_writes_cons_unit_of_mem (off' := ![0, 256]) (size := S512x128.size) scP.view _ _ _ _ _ (ix2 r d) rfl ?_
  intro a
  match a with
  | 0 => show r.val = 0 + r.val; omega
  | 1 => show 256 + d.val = 256 + d.val; rfl

include hv in
/-- Group 2 of a tile: the mean over a window of 8 rows less the row, through the group's weights, bias and scale. -/
theorem mix2_apply (r : Fin 512) (d : Fin 128) :
    (mixV T (ix2 r ⟨256 + d.val, by omega⟩) : EReal) = (∑ k : Fin 128, (Ideal.div (extRow T st ⟨256 + k.val, by omega⟩ (r.val + 4) + extRow T st ⟨256 + k.val, by omega⟩ (r.val + 5) + extRow T st ⟨256 + k.val, by omega⟩ (r.val + 6) + extRow T st ⟨256 + k.val, by omega⟩ (r.val + 7) + extRow T st ⟨256 + k.val, by omega⟩ (r.val + 8) + extRow T st ⟨256 + k.val, by omega⟩ (r.val + 9) + extRow T st ⟨256 + k.val, by omega⟩ (r.val + 10) + extRow T st ⟨256 + k.val, by omega⟩ (r.val + 11)) (cnt 4#32 8#32 (st.val * 512 + r.val)) - extRow T st ⟨256 + k.val, by omega⟩ (r.val + 8)) * T.pw (ix3 2 k d) + T.pb (ix3 2 0 d)) * T.ps (ix2 0 ⟨256 + d.val, by omega⟩) := by
  rw [mix2_read, hv, pool2_apply, ldB T.pb 2 (by omega), ldS T.ps 256 (by omega)]
  have a : ∀ (k : Fin 128) (n : ℕ) (h : n < 528), _ := fun k n h => rowAt2 T st hv k n h
  refine congrArg₂ (fun p q : EReal => (p + q) * T.ps (ix2 0 ⟨256 + d.val, by omega⟩)) (Finset.sum_congr rfl fun k _ => ?_) rfl
  rw [ldW T.pw 2 (by omega)]
  have q : ∀ j : ℕ, j ≤ 15 → rowAt (ext2 T) k (r.val + j) = extRow T st ⟨256 + k.val, by omega⟩ (r.val + j) := fun j hj => a k _ (by omega)

  rw [q 4 (by omega), q 5 (by omega), q 6 (by omega), q 7 (by omega), q 8 (by omega), q 9 (by omega), q 10 (by omega), q 11 (by omega)]
  rfl

/-- Group 3's columns of the pooled groups side by side. -/
theorem mix3_read (r : Fin 512) (d : Fin 128) :
    (mixV T (ix2 r ⟨384 + d.val, by omega⟩) : EReal) = pool3 T.v (ext3 T) (View.ld T.pw (Rect.unit (s := S4x128x128) ![3, 0, 0] S1x128x128.size inb_S4x128x128_S1x128x128_3_0_0)) (View.ld T.pb (Rect.unit (s := S4x1x128) ![3, 0, 0] S1x1x128.size inb_S4x1x128_S1x1x128_3_0_0)) (View.ld T.ps (Rect.unit (s := S1x512) ![0, 384] S1x128.size inb_S1x512_S1x128_0_384)) (ix2 r d) := by
  have e : (mixV T (ix2 r ⟨384 + d.val, by omega⟩) : EReal) = scP.view.read (Elt Ideal) (scP.view.writes (Elt Ideal) scP.view.junk (mixL T)) (ix2 r ⟨384 + d.val, by omega⟩) := by
    refine congrArg (scP.view.read (Elt Ideal) (scP.view.writes (Elt Ideal) scP.view.junk (mixL T))) (funext fun a => Fin.ext ?_)
    match a with
    | 0 => show 0 + 1 * r.val = r.val; omega
    | 1 => show 0 + 1 * (384 + d.val) = 384 + d.val; omega
  rw [e]
  unfold mixL
  refine View.read_writes_cons_unit_of_mem (off' := ![0, 384]) (size := S512x128.size) scP.view _ _ _ _ _ (ix2 r d) rfl ?_
  intro a
  match a with
  | 0 => show r.val = 0 + r.val; omega
  | 1 => show 384 + d.val = 384 + d.val; rfl

include hv in
/-- Group 3 of a tile: the mean over a window of 16 rows less the row, through the group's weights, bias and scale. -/
theorem mix3_apply (r : Fin 512) (d : Fin 128) :
    (mixV T (ix2 r ⟨384 + d.val, by omega⟩) : EReal) = (∑ k : Fin 128, (Ideal.div (extRow T st ⟨384 + k.val, by omega⟩ (r.val + 0) + extRow T st ⟨384 + k.val, by omega⟩ (r.val + 1) + extRow T st ⟨384 + k.val, by omega⟩ (r.val + 2) + extRow T st ⟨384 + k.val, by omega⟩ (r.val + 3) + extRow T st ⟨384 + k.val, by omega⟩ (r.val + 4) + extRow T st ⟨384 + k.val, by omega⟩ (r.val + 5) + extRow T st ⟨384 + k.val, by omega⟩ (r.val + 6) + extRow T st ⟨384 + k.val, by omega⟩ (r.val + 7) + extRow T st ⟨384 + k.val, by omega⟩ (r.val + 8) + extRow T st ⟨384 + k.val, by omega⟩ (r.val + 9) + extRow T st ⟨384 + k.val, by omega⟩ (r.val + 10) + extRow T st ⟨384 + k.val, by omega⟩ (r.val + 11) + extRow T st ⟨384 + k.val, by omega⟩ (r.val + 12) + extRow T st ⟨384 + k.val, by omega⟩ (r.val + 13) + extRow T st ⟨384 + k.val, by omega⟩ (r.val + 14) + extRow T st ⟨384 + k.val, by omega⟩ (r.val + 15)) (cnt 8#32 16#32 (st.val * 512 + r.val)) - extRow T st ⟨384 + k.val, by omega⟩ (r.val + 8)) * T.pw (ix3 3 k d) + T.pb (ix3 3 0 d)) * T.ps (ix2 0 ⟨384 + d.val, by omega⟩) := by
  rw [mix3_read, hv, pool3_apply, ldB T.pb 3 (by omega), ldS T.ps 384 (by omega)]
  have a : ∀ (k : Fin 128) (n : ℕ) (h : n < 528), _ := fun k n h => rowAt3 T st hv k n h
  refine congrArg₂ (fun p q : EReal => (p + q) * T.ps (ix2 0 ⟨384 + d.val, by omega⟩)) (Finset.sum_congr rfl fun k _ => ?_) rfl
  rw [ldW T.pw 3 (by omega)]
  have q : ∀ j : ℕ, j ≤ 15 → rowAt (ext3 T) k (r.val + j) = extRow T st ⟨384 + k.val, by omega⟩ (r.val + j) := fun j hj => a k _ (by omega)
  have q0 : rowAt (ext3 T) k r.val = extRow T st ⟨384 + k.val, by omega⟩ r.val := a k _ (by omega)
  rw [q0, q 1 (by omega), q 2 (by omega), q 3 (by omega), q 4 (by omega), q 5 (by omega), q 6 (by omega), q 7 (by omega), q 8 (by omega), q 9 (by omega), q 10 (by omega), q 11 (by omega), q 12 (by omega), q 13 (by omega), q 14 (by omega), q 15 (by omega)]
  rfl

end Cert.Proof.MixIdeal

end
-- ==== Proof.MixValue.Hidden.lean ====
module

public import proofs.«01_k».proof.Proof.Mix.Values
public import Idealize.ShloMosaic.Lib.Pointwise
public import Idealize.ShloMosaic.Lib.WritesUnit
public import Idealize.ShloMosaic.Lib.Pipeline.ValueKit

@[expose] public section

set_option maxRecDepth 16384

noncomputable section

namespace Cert.Proof.MixIdeal

open Cert.MixIdeal Cert.MixIdeal.Gen
open Idealize.ShloMosaic Idealize.ShloMosaic.TcCoe Idealize.ShloMosaic.Tactic

/-! ## The feed-forward layer on a tile, over exact numbers -/

/-- One chunk of 512 hidden columns. -/
theorem chunk_apply (h : Vec Ideal S512x1024 .bf16) (acc : FVec Ideal S512x1024 .f32) (g u : Vec Ideal S1024x512 .bf16) (d : Vec Ideal S512x1024 .bf16) (r : Fin 512) (n : Fin 1024) :
    (k0_pay39 h acc g u d (ix2 r n) : EReal) = (acc (ix2 r n) : EReal) + ∑ j : Fin 512, ((∑ k : Fin 1024, (h (ix2 r k) : EReal) * g (ix2 k j)) * Ideal.logistic (∑ k : Fin 1024, (h (ix2 r k) : EReal) * g (ix2 k j)) * (∑ k : Fin 1024, (h (ix2 r k) : EReal) * u (ix2 k j))) * d (ix2 j n) := by
  pointwise [k0_pay39]

/-- The last chunk of 256. -/
theorem last_apply (h : Vec Ideal S512x1024 .bf16) (acc : FVec Ideal S512x1024 .f32) (g u : Vec Ideal S1024x256 .bf16) (d : Vec Ideal S256x1024 .bf16) (r : Fin 512) (n : Fin 1024) :
    (k0_pay4 h acc (k0_pay69 h g) u d (ix2 r n) : EReal) = (acc (ix2 r n) : EReal) + ∑ j : Fin 256, ((∑ k : Fin 1024, (h (ix2 r k) : EReal) * g (ix2 k j)) * Ideal.logistic (∑ k : Fin 1024, (h (ix2 r k) : EReal) * g (ix2 k j)) * (∑ k : Fin 1024, (h (ix2 r k) : EReal) * u (ix2 k j))) * d (ix2 j n) := by
  pointwise [k0_pay4, k0_pay69]

variable (h : FVec Ideal S512x1024 .bf16) (x1 : FVec Ideal S512x1024 .f32) (wg wu : Vec Ideal S1024x2816 .bf16) (wd : Vec Ideal S2816x1024 .bf16)

/-- The `j`-th hidden column's contribution to an entry. -/
def hidden (r : Fin 512) (n : Fin 1024) (j : Fin 2816) : EReal :=
  ((∑ k : Fin 1024, (h (ix2 r k) : EReal) * wg (ix2 k j)) * Ideal.logistic (∑ k : Fin 1024, (h (ix2 r k) : EReal) * wg (ix2 k j)) * (∑ k : Fin 1024, (h (ix2 r k) : EReal) * wu (ix2 k j))) * wd (ix2 j n)

/-- Sums over the hidden width, chunk by chunk. -/
theorem sum_chunks (f : Fin 2816 → EReal) :
    ∑ j : Fin 2816, f j = (∑ j : Fin 512, f ⟨0 + j.val, by omega⟩) + (∑ j : Fin 512, f ⟨512 + j.val, by omega⟩) + (∑ j : Fin 512, f ⟨1024 + j.val, by omega⟩)
      + (∑ j : Fin 512, f ⟨1536 + j.val, by omega⟩) + (∑ j : Fin 512, f ⟨2048 + j.val, by omega⟩) + (∑ j : Fin 256, f ⟨2560 + j.val, by omega⟩) := by
  have e : ∀ (a b : ℕ) (hb : a + b ≤ 2816), ∑ j : Fin b, f ⟨a + j.val, by omega⟩ = ∑ i ∈ Finset.range b, (if hi : a + i < 2816 then f ⟨a + i, hi⟩ else 0) := by
    intro a b hb
    rw [← Fin.sum_univ_eq_sum_range (fun i => if hi : a + i < 2816 then f ⟨a + i, hi⟩ else 0) b]
    refine Finset.sum_congr rfl fun j _ => ?_
    rw [dif_pos]
  have e0 : ∑ j : Fin 2816, f j = ∑ i ∈ Finset.range 2816, (if hi : i < 2816 then f ⟨i, hi⟩ else 0) := by
    rw [← Fin.sum_univ_eq_sum_range (fun i => if hi : i < 2816 then f ⟨i, hi⟩ else 0) 2816]
    refine Finset.sum_congr rfl fun j _ => ?_
    rw [dif_pos j.isLt]
  have e := fun a b hb => (e a b hb).trans (show _ = ∑ i ∈ Finset.range b, (fun i => if hi : i < 2816 then f ⟨i, hi⟩ else 0 : ℕ → EReal) (a + i) from rfl)
  have e0 := e0.trans (show _ = ∑ i ∈ Finset.range 2816, (fun i => if hi : i < 2816 then f ⟨i, hi⟩ else 0 : ℕ → EReal) i from rfl)
  rw [e 0 512 (by omega), e 512 512 (by omega), e 1024 512 (by omega), e 1536 512 (by omega), e 2048 512 (by omega), e 2560 256 (by omega), e0]
  generalize (fun i => if hi : i < 2816 then f ⟨i, hi⟩ else 0 : ℕ → EReal) = G
  show ∑ i ∈ Finset.range (512 + 512 + 512 + 512 + 512 + 256), G i = _
  simp only [Finset.sum_range_add, Nat.zero_add]

/-- A load of a whole tile of rows is the tile. -/
theorem ld_rows {e : EltTy} (X : Vec Ideal S512x1024 e) : View.ld X (Rect.unit (s := S512x1024) ![0, 0] S512x1024.size inb_S512x1024_S512x1024_0_0) = X :=
  funext fun x => congrArg X (funext fun d => Fin.ext (match d with
    | 0 => (show 0 + 1 * (x 0).val = (x 0).val by omega)
    | 1 => (show 0 + 1 * (x 1).val = (x 1).val by omega)))

theorem ffnV_chunks : ffnV h x1 wg wu wd = k0_pay4 h (k0_pay39 h (k0_pay39 h (k0_pay39 h (k0_pay39 h (k0_pay39 h x1 (View.ld wg (Rect.unit (s := S1024x2816) ![0, 0] S1024x512.size inb_S1024x2816_S1024x512_0_0)) (View.ld wu (Rect.unit (s := S1024x2816) ![0, 0] S1024x512.size inb_S1024x2816_S1024x512_0_0)) (View.ld wd (Rect.unit (s := S2816x1024) ![0, 0] S512x1024.size inb_S2816x1024_S512x1024_0_0))) (View.ld wg (Rect.unit (s := S1024x2816) ![0, 512] S1024x512.size inb_S1024x2816_S1024x512_0_512)) (View.ld wu (Rect.unit (s := S1024x2816) ![0, 512] S1024x512.size inb_S1024x2816_S1024x512_0_512)) (View.ld wd (Rect.unit (s := S2816x1024) ![512, 0] S512x1024.size inb_S2816x1024_S512x1024_512_0))) (View.ld wg (Rect.unit (s := S1024x2816) ![0, 1024] S1024x512.size inb_S1024x2816_S1024x512_0_1024)) (View.ld wu (Rect.unit (s := S1024x2816) ![0, 1024] S1024x512.size inb_S1024x2816_S1024x512_0_1024)) (View.ld wd (Rect.unit (s := S2816x1024) ![1024, 0] S512x1024.size inb_S2816x1024_S512x1024_1024_0))) (View.ld wg (Rect.unit (s := S1024x2816) ![0, 1536] S1024x512.size inb_S1024x2816_S1024x512_0_1536)) (View.ld wu (Rect.unit (s := S1024x2816) ![0, 1536] S1024x512.size inb_S1024x2816_S1024x512_0_1536)) (View.ld wd (Rect.unit (s := S2816x1024) ![1536, 0] S512x1024.size inb_S2816x1024_S512x1024_1536_0))) (View.ld wg (Rect.unit (s := S1024x2816) ![0, 2048] S1024x512.size inb_S1024x2816_S1024x512_0_2048)) (View.ld wu (Rect.unit (s := S1024x2816) ![0, 2048] S1024x512.size inb_S1024x2816_S1024x512_0_2048)) (View.ld wd (Rect.unit (s := S2816x1024) ![2048, 0] S512x1024.size inb_S2816x1024_S512x1024_2048_0))) (k0_pay69 h (View.ld wg (Rect.unit (s := S1024x2816) ![0, 2560] S1024x256.size inb_S1024x2816_S1024x256_0_2560))) (View.ld wu (Rect.unit (s := S1024x2816) ![0, 2560] S1024x256.size inb_S1024x2816_S1024x256_0_2560)) (View.ld wd (Rect.unit (s := S2816x1024) ![2560, 0] S256x1024.size inb_S2816x1024_S256x1024_2560_0)) := by
  unfold ffnV
  rw [ld_rows (e := .bf16) h, ld_rows (e := .f32) x1]
  rfl

/-- An entry of the layer: the row's own entry and the hidden columns' contributions. -/
theorem ffnV_apply (r : Fin 512) (n : Fin 1024) :
    (ffnV h x1 wg wu wd (ix2 r n) : EReal) = (x1 (ix2 r n) : EReal) + ∑ j : Fin 2816, hidden h wg wu wd r n j := by
  have g : ∀ (w : Vec Ideal S1024x2816 .bf16) (p : ℕ) (hp : p + 512 ≤ 2816) (inb) (k : Fin 1024) (j : Fin 512),
      (View.ld w (Rect.unit (s := S1024x2816) ![0, p] S1024x512.size inb) (ix2 k j) : EReal) = w (ix2 k ⟨p + j.val, by omega⟩) := by
    intro w p hp inb k j
    refine congrArg w (funext fun d => Fin.ext ?_)
    match d with
    | 0 => show 0 + 1 * k.val = k.val; omega
    | 1 => show p + 1 * j.val = p + j.val; omega
  have g' : ∀ (w : Vec Ideal S1024x2816 .bf16) (inb) (k : Fin 1024) (j : Fin 256),
      (View.ld w (Rect.unit (s := S1024x2816) ![0, 2560] S1024x256.size inb) (ix2 k j) : EReal) = w (ix2 k ⟨2560 + j.val, by omega⟩) := by
    intro w inb k j
    refine congrArg w (funext fun d => Fin.ext ?_)
    match d with
    | 0 => show 0 + 1 * k.val = k.val; omega
    | 1 => show 2560 + 1 * j.val = 2560 + j.val; omega
  have q : ∀ (p : ℕ) (hp : p + 512 ≤ 2816) (inb) (j : Fin 512),
      (View.ld wd (Rect.unit (s := S2816x1024) ![p, 0] S512x1024.size inb) (ix2 j n) : EReal) = wd (ix2 ⟨p + j.val, by omega⟩ n) := by
    intro p hp inb j
    refine congrArg wd (funext fun d => Fin.ext ?_)
    match d with
    | 0 => show p + 1 * j.val = p + j.val; omega
    | 1 => show 0 + 1 * n.val = n.val; omega
  have q' : ∀ (inb) (j : Fin 256),
      (View.ld wd (Rect.unit (s := S2816x1024) ![2560, 0] S256x1024.size inb) (ix2 j n) : EReal) = wd (ix2 ⟨2560 + j.val, by omega⟩ n) := by
    intro inb j
    refine congrArg wd (funext fun d => Fin.ext ?_)
    match d with
    | 0 => show 2560 + 1 * j.val = 2560 + j.val; omega
    | 1 => show 0 + 1 * n.val = n.val; omega
  rw [ffnV_chunks, last_apply, chunk_apply, chunk_apply, chunk_apply, chunk_apply, chunk_apply, sum_chunks]
  have c : ∀ (p : ℕ) (hp : p + 512 ≤ 2816) (i1 i2 i3),
      (∑ j : Fin 512, ((∑ k : Fin 1024, (h (ix2 r k) : EReal) * View.ld wg (Rect.unit (s := S1024x2816) ![0, p] S1024x512.size i1) (ix2 k j)) * Ideal.logistic (∑ k : Fin 1024, (h (ix2 r k) : EReal) * View.ld wg (Rect.unit (s := S1024x2816) ![0, p] S1024x512.size i1) (ix2 k j)) * (∑ k : Fin 1024, (h (ix2 r k) : EReal) * View.ld wu (Rect.unit (s := S1024x2816) ![0, p] S1024x512.size i2) (ix2 k j))) * View.ld wd (Rect.unit (s := S2816x1024) ![p, 0] S512x1024.size i3) (ix2 j n))
        = ∑ j : Fin 512, hidden h wg wu wd r n ⟨p + j.val, by omega⟩ := by
    intro p hp i1 i2 i3
    refine Finset.sum_congr rfl fun j _ => ?_
    unfold hidden
    have a1 : ∀ k, _ := fun k => g wg p hp i1 k j
    have a2 : ∀ k, _ := fun k => g wu p hp i2 k j
    simp only [a1, a2, q p hp i3 j]
  have c' : ∀ (i1 i2 i3),
      (∑ j : Fin 256, ((∑ k : Fin 1024, (h (ix2 r k) : EReal) * View.ld wg (Rect.unit (s := S1024x2816) ![0, 2560] S1024x256.size i1) (ix2 k j)) * Ideal.logistic (∑ k : Fin 1024, (h (ix2 r k) : EReal) * View.ld wg (Rect.unit (s := S1024x2816) ![0, 2560] S1024x256.size i1) (ix2 k j)) * (∑ k : Fin 1024, (h (ix2 r k) : EReal) * View.ld wu (Rect.unit (s := S1024x2816) ![0, 2560] S1024x256.size i2) (ix2 k j))) * View.ld wd (Rect.unit (s := S2816x1024) ![2560, 0] S256x1024.size i3) (ix2 j n))
        = ∑ j : Fin 256, hidden h wg wu wd r n ⟨2560 + j.val, by omega⟩ := by
    intro i1 i2 i3
    refine Finset.sum_congr rfl fun j _ => ?_
    unfold hidden
    have a1 : ∀ k, _ := fun k => g' wg i1 k j
    have a2 : ∀ k, _ := fun k => g' wu i2 k j
    simp only [a1, a2, q' i3 j]
  rw [c 0 (by omega), c 512 (by omega), c 1024 (by omega), c 1536 (by omega), c 2048 (by omega), c']
  simp only [add_assoc]

end Cert.Proof.MixIdeal

end
-- ==== Proof.MixValue.Rows.lean ====
module

public import proofs.«01_k».proof.Proof.Mix.Values
public import Idealize.ShloMosaic.Lib.Pointwise
public import Idealize.ShloMosaic.Lib.Pipeline.ValueKit

@[expose] public section

set_option maxRecDepth 16384

noncomputable section

namespace Cert.Proof.MixIdeal

open Cert.MixIdeal Cert.MixIdeal.Gen
open Idealize.ShloMosaic Idealize.ShloMosaic.TcCoe Idealize.ShloMosaic.Tactic

/-! ## A tile's rows after the mixing layer, and normalised, over exact numbers -/

/-- A load of a whole window is the window. -/
theorem ld_S512x1024_f32 (X : Vec Ideal S512x1024 .f32) : View.ld X (Rect.unit (s := S512x1024) ![0, 0] S512x1024.size inb_S512x1024_S512x1024_0_0) = X :=
  funext fun x => congrArg X (funext fun d => Fin.ext (match d with
    | 0 => (show 0 + 1 * (x 0).val = (x 0).val by omega)
    | 1 => (show 0 + 1 * (x 1).val = (x 1).val by omega)))

/-- A load of a whole window is the window. -/
theorem ld_S1024x1024_bf16 (X : Vec Ideal S1024x1024 .bf16) : View.ld X (Rect.unit (s := S1024x1024) ![0, 0] S1024x1024.size inb_S1024x1024_S1024x1024_0_0) = X :=
  funext fun x => congrArg X (funext fun d => Fin.ext (match d with
    | 0 => (show 0 + 1 * (x 0).val = (x 0).val by omega)
    | 1 => (show 0 + 1 * (x 1).val = (x 1).val by omega)))

/-- A load of a whole window is the window. -/
theorem ld_S1x1024_f32 (X : Vec Ideal S1x1024 .f32) : View.ld X (Rect.unit (s := S1x1024) ![0, 0] S1x1024.size inb_S1x1024_S1x1024_0_0) = X :=
  funext fun x => congrArg X (funext fun d => Fin.ext (match d with
    | 0 => (show 0 + 1 * (x 0).val = (x 0).val by omega)
    | 1 => (show 0 + 1 * (x 1).val = (x 1).val by omega)))

/-- The row an output row is projected from: two halves of heads and the pooled channels. -/
def catV (a0 a1 : Vec Ideal S1x1x512x256 .bf16) (mx : Vec Ideal S512x512 .bf16) : FVec Ideal S512x1024 .bf16 :=
  concatenate S512x1024 1 [⟨S512x256, shapeCast S512x256 a0 shapeCasts_S1x1x512x256_S512x256⟩, ⟨S512x256, shapeCast S512x256 a1 shapeCasts_S1x1x512x256_S512x256⟩, ⟨S512x512, mx⟩] concatenates_S512x256_S512x256_S512x512_S512x1024_d1

theorem catV_first (a0 a1 : Vec Ideal S1x1x512x256 .bf16) (mx : Vec Ideal S512x512 .bf16) (r : Fin 512) (k : Fin 1024) (h : k.val < 256) :
    (catV a0 a1 mx (ix2 r k) : EReal) = a0 (ix4 0 0 r ⟨k.val, h⟩) := by
  pointwise [catV]
  rw [dif_pos h]

theorem catV_second (a0 a1 : Vec Ideal S1x1x512x256 .bf16) (mx : Vec Ideal S512x512 .bf16) (r : Fin 512) (k : Fin 1024) (h : 256 ≤ k.val) (h' : k.val < 512) :
    (catV a0 a1 mx (ix2 r k) : EReal) = a1 (ix4 0 0 r ⟨k.val - 256, by omega⟩) := by
  pointwise [catV]
  rw [dif_neg (by omega), dif_pos (by omega)]

theorem catV_third (a0 a1 : Vec Ideal S1x1x512x256 .bf16) (mx : Vec Ideal S512x512 .bf16) (r : Fin 512) (k : Fin 1024) (h : 512 ≤ k.val) :
    (catV a0 a1 mx (ix2 r k) : EReal) = mx (ix2 r ⟨k.val - 512, by omega⟩) := by
  pointwise [catV]
  rw [dif_neg (by omega), dif_neg (by omega)]
  congr 2

/-- An entry after the mixing layer. -/
theorem rows_apply (a0 a1 : Vec Ideal S1x1x512x256 .bf16) (mx : Vec Ideal S512x512 .bf16) (x : Vec Ideal S512x1024 .f32) (wo : Vec Ideal S1024x1024 .bf16) (r : Fin 512) (n : Fin 1024) :
    (k0_pay25 a0 a1 mx x wo (ix2 r n) : EReal) = (x (ix2 r n) : EReal) + ∑ k : Fin 1024, (catV a0 a1 mx (ix2 r k) : EReal) * wo (ix2 k n) := by
  have e : k0_pay25 a0 a1 mx x wo = addf (shapeCast S512x1024 x shapeCasts_S512x1024_S512x1024) (matmul dot_S512x1024_S1024x1024_S512x1024_1_0_0_1_n_n none (catV a0 a1 mx) wo (constant S512x1024 .f32 0x00000000#32)) := rfl
  rw [e]
  generalize catV a0 a1 mx = ct
  pointwise []

/-- A row's sum of squares. -/
def sqV (y : FVec Ideal S512x1024 .f32) : FVec Ideal S512 .f32 :=
  multiReduction .add [1] S512 (mulf y y) 0x00000000#32 reduces_S512x1024_S512 (.inl rfl) rfl

theorem sqV_apply (y : FVec Ideal S512x1024 .f32) (r : Fin 512) : (sqV y (ix1 r) : EReal) = ∑ k : Fin 1024, (y (ix2 r k) : EReal) * y (ix2 r k) := by
  pointwise [sqV]

/-- The normalised row from the row and its mean of squares. -/
theorem norm_apply (y : FVec Ideal S512x1024 .f32) (q : FVec Ideal S512 .f32) (g : Vec Ideal S1x1024 .f32) (r : Fin 512) (n : Fin 1024) :
    (k0_pay2 y (divf (shapeCast S512x1 q shapeCasts_S512_S512x1) (broadcast S512x1 (Scalar.ofBits (F := Ideal) .f32 0x44800000#32))) g (ix2 r n) : EReal)
      = (y (ix2 r n) : EReal) * Ideal.rsqrt (Ideal.div (q (ix1 r)) (Ideal.ofBits .f32 0x44800000#32) + Ideal.ofBits .f32 0x358637BD#32) * g (ix2 0 n) := by
  pointwise [k0_pay2]

theorem meanSq (a0 a1 : Vec Ideal S1x1x512x256 .bf16) (mx : Vec Ideal S512x512 .bf16) (x : Vec Ideal S512x1024 .f32) (wo : Vec Ideal S1024x1024 .bf16) :
    k0_pay26 a0 a1 mx x wo = divf (shapeCast S512x1 (sqV (k0_pay25 a0 a1 mx x wo)) shapeCasts_S512_S512x1) (broadcast S512x1 (Scalar.ofBits (F := Ideal) .f32 0x44800000#32)) := rfl

variable (T : Tile Ideal)

/-- The tile's two blocks of heads. -/
abbrev head0 : Vec Ideal S1x1x512x256 .bf16 := View.ld T.a (Rect.unit (s := S1x2x512x256) ![0, 0, 0, 0] S1x1x512x256.size inb_S1x2x512x256_S1x1x512x256_0_0_0_0)
abbrev head1 : Vec Ideal S1x1x512x256 .bf16 := View.ld T.a (Rect.unit (s := S1x2x512x256) ![0, 1, 0, 0] S1x1x512x256.size inb_S1x2x512x256_S1x1x512x256_0_1_0_0)

theorem head0_apply (r : Fin 512) (d : Fin 256) : (head0 T (ix4 0 0 r d) : EReal) = T.a (ix4 0 0 r d) := by
  refine congrArg T.a (funext fun a => Fin.ext ?_)
  match a with
  | 0 => rfl
  | 1 => rfl
  | 2 => show 0 + 1 * r.val = r.val; omega
  | 3 => show 0 + 1 * d.val = d.val; omega
theorem head1_apply (r : Fin 512) (d : Fin 256) : (head1 T (ix4 0 0 r d) : EReal) = T.a (ix4 0 1 r d) := by
  refine congrArg T.a (funext fun a => Fin.ext ?_)
  match a with
  | 0 => rfl
  | 1 => rfl
  | 2 => show 0 + 1 * r.val = r.val; omega
  | 3 => show 0 + 1 * d.val = d.val; omega

theorem same_rows (y : FVec Ideal S512x1024 .f32) : k0_pay1 y = y := by
  funext i
  idx_vars i
  pointwise [k0_pay1]

theorem x1V_rows : x1V T = k0_pay25 (head0 T) (head1 T) (mixV T) T.x T.wo := by
  unfold x1V
  rw [ld_S512x1024_f32, ld_S1024x1024_bf16]
  exact same_rows _

/-- An entry of the tile after the mixing layer. -/
theorem x1V_apply (r : Fin 512) (n : Fin 1024) :
    (x1V T (ix2 r n) : EReal) = (T.x (ix2 r n) : EReal) + ∑ k : Fin 1024, (catV (head0 T) (head1 T) (mixV T) (ix2 r k) : EReal) * T.wo (ix2 k n) := by
  rw [x1V_rows, rows_apply]

/-- A normalised entry of the tile. -/
theorem hV_apply (r : Fin 512) (n : Fin 1024) :
    (hV T (ix2 r n) : EReal) = (x1V T (ix2 r n) : EReal) * Ideal.rsqrt (Ideal.div (∑ k : Fin 1024, (x1V T (ix2 r k) : EReal) * x1V T (ix2 r k)) (Ideal.ofBits .f32 0x44800000#32) + Ideal.ofBits .f32 0x358637BD#32) * T.g (ix2 0 n) := by
  rw [x1V_rows]
  unfold hV
  rw [ld_S512x1024_f32, ld_S1024x1024_bf16, ld_S1x1024_f32, meanSq, norm_apply, sqV_apply]

end Cert.Proof.MixIdeal

end
-- ==== Proof.MixValue.Groups.lean ====
module

public import proofs.«01_k».proof.Proof.MixValue.Reference
public import Idealize.ShloMosaic.Lib.Pointwise

@[expose] public section

set_option maxRecDepth 16384

noncomputable section

namespace Cert.Proof.MixRefIdeal

open Cert.MixRefIdeal Cert.MixRefIdeal.Gen
open Idealize.ShloMosaic Idealize.ShloMosaic.TcCoe Idealize.ShloMosaic.Tactic

/-! ## The reference's pooling groups at an index -/

variable (u : Vec Ideal S16384x512 .f32) (pw : Vec Ideal S4x128x128 .f32) (pb : Vec Ideal S4x128 .f32) (ps : Vec Ideal S512 .f32)

theorem own0 (b : Fin 8) (p : Fin 2048) (k : Fin 128) :
    (extractStridedSlice S8x2048x128 ![0, 0, 0] (rowsR u) slices_S8x2048x512_S8x2048x128_0_0_0 (ix3 b p k) : EReal) = u (ix2 ⟨b.val * 2048 + p.val, by omega⟩ ⟨k.val, by omega⟩) := by
  pointwise [rowsR]
theorem weight0 (k d : Fin 128) :
    (shapeCast S128x128 (extractStridedSlice S1x128x128 ![0, 0, 0] pw slices_S4x128x128_S1x128x128_0_0_0) shapeCasts_S1x128x128_S128x128 (ix2 k d) : EReal) = pw (ix3 0 k d) := by
  pointwise []
theorem bias0 (d : Fin 128) :
    (shapeCast S128 (extractStridedSlice S1x128 ![0, 0] pb slices_S4x128_S1x128_0_0) shapeCasts_S1x128_S128 (ix1 d) : EReal) = pb (ix2 0 d) := by
  pointwise []
theorem scale0 (d : Fin 128) :
    (extractStridedSlice S128 ![0] ps slices_S512_S128_0 (ix1 d) : EReal) = ps (ix1 ⟨d.val, by omega⟩) := by
  pointwise []

/-- Pooling group 0 at an index: the mean over a window of 2 rows less the row, through the group's weights, bias and scale. -/
theorem groupR0_apply (b : Fin 8) (p : Fin 2048) (d : Fin 128) :
    (groupR0 u pw pb ps (ix3 b p d) : EReal) = (∑ k : Fin 128, (Ideal.div (padR u (ix3 b ⟨7 + p.val, by omega⟩ ⟨k.val, by omega⟩) + padR u (ix3 b ⟨8 + p.val, by omega⟩ ⟨k.val, by omega⟩)) (countR 1#32 2#32 (ix1 p)) - u (ix2 ⟨b.val * 2048 + p.val, by omega⟩ ⟨k.val, by omega⟩)) * pw (ix3 0 k d) + pb (ix2 0 d)) * ps (ix1 ⟨d.val, by omega⟩) := by
  unfold groupR0
  rw [poolR_apply, bias0, scale0]
  refine congrArg₂ (fun p q : EReal => (p + q) * ps (ix1 ⟨d.val, by omega⟩)) (Finset.sum_congr rfl fun k _ => ?_) rfl
  rw [winR0_apply, own0, weight0]

theorem own1 (b : Fin 8) (p : Fin 2048) (k : Fin 128) :
    (extractStridedSlice S8x2048x128 ![0, 0, 128] (rowsR u) slices_S8x2048x512_S8x2048x128_0_0_128 (ix3 b p k) : EReal) = u (ix2 ⟨b.val * 2048 + p.val, by omega⟩ ⟨128 + k.val, by omega⟩) := by
  pointwise [rowsR]
theorem weight1 (k d : Fin 128) :
    (shapeCast S128x128 (extractStridedSlice S1x128x128 ![1, 0, 0] pw slices_S4x128x128_S1x128x128_1_0_0) shapeCasts_S1x128x128_S128x128 (ix2 k d) : EReal) = pw (ix3 1 k d) := by
  pointwise []
theorem bias1 (d : Fin 128) :
    (shapeCast S128 (extractStridedSlice S1x128 ![1, 0] pb slices_S4x128_S1x128_1_0) shapeCasts_S1x128_S128 (ix1 d) : EReal) = pb (ix2 1 d) := by
  pointwise []
theorem scale1 (d : Fin 128) :
    (extractStridedSlice S128 ![128] ps slices_S512_S128_128 (ix1 d) : EReal) = ps (ix1 ⟨128 + d.val, by omega⟩) := by
  pointwise []

/-- Pooling group 1 at an index: the mean over a window of 4 rows less the row, through the group's weights, bias and scale. -/
theorem groupR1_apply (b : Fin 8) (p : Fin 2048) (d : Fin 128) :
    (groupR1 u pw pb ps (ix3 b p d) : EReal) = (∑ k : Fin 128, (Ideal.div (padR u (ix3 b ⟨6 + p.val, by omega⟩ ⟨128 + k.val, by omega⟩) + padR u (ix3 b ⟨7 + p.val, by omega⟩ ⟨128 + k.val, by omega⟩) + padR u (ix3 b ⟨8 + p.val, by omega⟩ ⟨128 + k.val, by omega⟩) + padR u (ix3 b ⟨9 + p.val, by omega⟩ ⟨128 + k.val, by omega⟩)) (countR 2#32 4#32 (ix1 p)) - u (ix2 ⟨b.val * 2048 + p.val, by omega⟩ ⟨128 + k.val, by omega⟩)) * pw (ix3 1 k d) + pb (ix2 1 d)) * ps (ix1 ⟨128 + d.val, by omega⟩) := by
  unfold groupR1
  rw [poolR_apply, bias1, scale1]
  refine congrArg₂ (fun p q : EReal => (p + q) * ps (ix1 ⟨128 + d.val, by omega⟩)) (Finset.sum_congr rfl fun k _ => ?_) rfl
  rw [winR1_apply, own1, weight1]

theorem own2 (b : Fin 8) (p : Fin 2048) (k : Fin 128) :
    (extractStridedSlice S8x2048x128 ![0, 0, 256] (rowsR u) slices_S8x2048x512_S8x2048x128_0_0_256 (ix3 b p k) : EReal) = u (ix2 ⟨b.val * 2048 + p.val, by omega⟩ ⟨256 + k.val, by omega⟩) := by
  pointwise [rowsR]
theorem weight2 (k d : Fin 128) :
    (shapeCast S128x128 (extractStridedSlice S1x128x128 ![2, 0, 0] pw slices_S4x128x128_S1x128x128_2_0_0) shapeCasts_S1x128x128_S128x128 (ix2 k d) : EReal) = pw (ix3 2 k d) := by
  pointwise []
theorem bias2 (d : Fin 128) :
    (shapeCast S128 (extractStridedSlice S1x128 ![2, 0] pb slices_S4x128_S1x128_2_0) shapeCasts_S1x128_S128 (ix1 d) : EReal) = pb (ix2 2 d) := by
  pointwise []
theorem scale2 (d : Fin 128) :
    (extractStridedSlice S128 ![256] ps slices_S512_S128_256 (ix1 d) : EReal) = ps (ix1 ⟨256 + d.val, by omega⟩) := by
  pointwise []

/-- Pooling group 2 at an index: the mean over a window of 8 rows less the row, through the group's weights, bias and scale. -/
theorem groupR2_apply (b : Fin 8) (p : Fin 2048) (d : Fin 128) :
    (groupR2 u pw pb ps (ix3 b p d) : EReal) = (∑ k : Fin 128, (Ideal.div (padR u (ix3 b ⟨4 + p.val, by omega⟩ ⟨256 + k.val, by omega⟩) + padR u (ix3 b ⟨5 + p.val, by omega⟩ ⟨256 + k.val, by omega⟩) + padR u (ix3 b ⟨6 + p.val, by omega⟩ ⟨256 + k.val, by omega⟩) + padR u (ix3 b ⟨7 + p.val, by omega⟩ ⟨256 + k.val, by omega⟩) + padR u (ix3 b ⟨8 + p.val, by omega⟩ ⟨256 + k.val, by omega⟩) + padR u (ix3 b ⟨9 + p.val, by omega⟩ ⟨256 + k.val, by omega⟩) + padR u (ix3 b ⟨10 + p.val, by omega⟩ ⟨256 + k.val, by omega⟩) + padR u (ix3 b ⟨11 + p.val, by omega⟩ ⟨256 + k.val, by omega⟩)) (countR 4#32 8#32 (ix1 p)) - u (ix2 ⟨b.val * 2048 + p.val, by omega⟩ ⟨256 + k.val, by omega⟩)) * pw (ix3 2 k d) + pb (ix2 2 d)) * ps (ix1 ⟨256 + d.val, by omega⟩) := by
  unfold groupR2
  rw [poolR_apply, bias2, scale2]
  refine congrArg₂ (fun p q : EReal => (p + q) * ps (ix1 ⟨256 + d.val, by omega⟩)) (Finset.sum_congr rfl fun k _ => ?_) rfl
  rw [winR2_apply, own2, weight2]

theorem own3 (b : Fin 8) (p : Fin 2048) (k : Fin 128) :
    (extractStridedSlice S8x2048x128 ![0, 0, 384] (rowsR u) slices_S8x2048x512_S8x2048x128_0_0_384 (ix3 b p k) : EReal) = u (ix2 ⟨b.val * 2048 + p.val, by omega⟩ ⟨384 + k.val, by omega⟩) := by
  pointwise [rowsR]
theorem weight3 (k d : Fin 128) :
    (shapeCast S128x128 (extractStridedSlice S1x128x128 ![3, 0, 0] pw slices_S4x128x128_S1x128x128_3_0_0) shapeCasts_S1x128x128_S128x128 (ix2 k d) : EReal) = pw (ix3 3 k d) := by
  pointwise []
theorem bias3 (d : Fin 128) :
    (shapeCast S128 (extractStridedSlice S1x128 ![3, 0] pb slices_S4x128_S1x128_3_0) shapeCasts_S1x128_S128 (ix1 d) : EReal) = pb (ix2 3 d) := by
  pointwise []
theorem scale3 (d : Fin 128) :
    (extractStridedSlice S128 ![384] ps slices_S512_S128_384 (ix1 d) : EReal) = ps (ix1 ⟨384 + d.val, by omega⟩) := by
  pointwise []

/-- Pooling group 3 at an index: the mean over a window of 16 rows less the row, through the group's weights, bias and scale. -/
theorem groupR3_apply (b : Fin 8) (p : Fin 2048) (d : Fin 128) :
    (groupR3 u pw pb ps (ix3 b p d) : EReal) = (∑ k : Fin 128, (Ideal.div (padR u (ix3 b ⟨p.val, by omega⟩ ⟨384 + k.val, by omega⟩) + padR u (ix3 b ⟨1 + p.val, by omega⟩ ⟨384 + k.val, by omega⟩) + padR u (ix3 b ⟨2 + p.val, by omega⟩ ⟨384 + k.val, by omega⟩) + padR u (ix3 b ⟨3 + p.val, by omega⟩ ⟨384 + k.val, by omega⟩) + padR u (ix3 b ⟨4 + p.val, by omega⟩ ⟨384 + k.val, by omega⟩) + padR u (ix3 b ⟨5 + p.val, by omega⟩ ⟨384 + k.val, by omega⟩) + padR u (ix3 b ⟨6 + p.val, by omega⟩ ⟨384 + k.val, by omega⟩) + padR u (ix3 b ⟨7 + p.val, by omega⟩ ⟨384 + k.val, by omega⟩) + padR u (ix3 b ⟨8 + p.val, by omega⟩ ⟨384 + k.val, by omega⟩) + padR u (ix3 b ⟨9 + p.val, by omega⟩ ⟨384 + k.val, by omega⟩) + padR u (ix3 b ⟨10 + p.val, by omega⟩ ⟨384 + k.val, by omega⟩) + padR u (ix3 b ⟨11 + p.val, by omega⟩ ⟨384 + k.val, by omega⟩) + padR u (ix3 b ⟨12 + p.val, by omega⟩ ⟨384 + k.val, by omega⟩) + padR u (ix3 b ⟨13 + p.val, by omega⟩ ⟨384 + k.val, by omega⟩) + padR u (ix3 b ⟨14 + p.val, by omega⟩ ⟨384 + k.val, by omega⟩) + padR u (ix3 b ⟨15 + p.val, by omega⟩ ⟨384 + k.val, by omega⟩)) (countR 8#32 16#32 (ix1 p)) - u (ix2 ⟨b.val * 2048 + p.val, by omega⟩ ⟨384 + k.val, by omega⟩)) * pw (ix3 3 k d) + pb (ix2 3 d)) * ps (ix1 ⟨384 + d.val, by omega⟩) := by
  unfold groupR3
  rw [poolR_apply, bias3, scale3]
  refine congrArg₂ (fun p q : EReal => (p + q) * ps (ix1 ⟨384 + d.val, by omega⟩)) (Finset.sum_congr rfl fun k _ => ?_) rfl
  rw [winR3_apply, own3, weight3]

variable (c0 : FVec Ideal S8x2048x512 .f32) (c1 c2 c3 c4 : FVec Ideal S8x2048x128 .f32) (b : Fin 8) (p : Fin 2048) (k : Fin 1024)

theorem catR_heads (h : k.val < 512) : (catR c0 c1 c2 c3 c4 (ix3 b p k) : EReal) = c0 (ix3 b p ⟨k.val, h⟩) := by
  pointwise [catR]
  rw [dif_pos h]
theorem catR_group0 (d : Fin 128) (h : k.val = 512 + d.val) : (catR c0 c1 c2 c3 c4 (ix3 b p k) : EReal) = c1 (ix3 b p d) := by
  pointwise [catR]
  rw [dif_neg (by omega), dif_pos (by omega)]
  congr 2
  exact Fin.ext (show _ = d.val by dsimp only; omega)
theorem catR_group1 (d : Fin 128) (h : k.val = 640 + d.val) : (catR c0 c1 c2 c3 c4 (ix3 b p k) : EReal) = c2 (ix3 b p d) := by
  pointwise [catR]
  rw [dif_neg (by omega), dif_neg (by omega), dif_pos (by omega)]
  congr 2
  exact Fin.ext (show _ = d.val by dsimp only; omega)
theorem catR_group2 (d : Fin 128) (h : k.val = 768 + d.val) : (catR c0 c1 c2 c3 c4 (ix3 b p k) : EReal) = c3 (ix3 b p d) := by
  pointwise [catR]
  rw [dif_neg (by omega), dif_neg (by omega), dif_neg (by omega), dif_pos (by omega)]
  congr 2
  exact Fin.ext (show _ = d.val by dsimp only; omega)
theorem catR_group3 (d : Fin 128) (h : k.val = 896 + d.val) : (catR c0 c1 c2 c3 c4 (ix3 b p k) : EReal) = c4 (ix3 b p d) := by
  pointwise [catR]
  rw [dif_neg (by omega), dif_neg (by omega), dif_neg (by omega), dif_neg (by omega)]
  congr 2
  exact Fin.ext (show _ = d.val by dsimp only; omega)

end Cert.Proof.MixRefIdeal

end
-- ==== Proof.MixValue.Equation.lean ====
module

public import proofs.«01_k».proof.Proof.MixValue.Staged
public import proofs.«01_k».proof.Proof.MixValue.Hidden
public import proofs.«01_k».proof.Proof.MixValue.Rows
public import proofs.«01_k».proof.Proof.MixValue.Groups
public import Idealize.ShloMosaic.Lib.Pointwise

@[expose] public section

set_option maxRecDepth 16384

noncomputable section

namespace Cert.Proof.MixIdeal

open Cert.MixIdeal Cert.MixIdeal.Gen
open Idealize.ShloMosaic Idealize.ShloMosaic.TcCoe Idealize.ShloMosaic.Tactic

/-! ## A tile's finished rows are the reference's -/

/-- The tile holds rows `512 st …` of batch `b` of the arguments, and the rows just before and after them. -/
structure Agrees (T : Tile Ideal) (x : Vec Ideal S8x2048x1024 .f32) (a : Vec Ideal S8x2x2048x256 .bf16) (u : Vec Ideal S16384x512 .f32) (pw : Vec Ideal S4x128x128 .f32)
    (pb : Vec Ideal S4x128 .f32) (ps : Vec Ideal S512 .f32) (wo : Vec Ideal S1024x1024 .bf16) (gn : Vec Ideal S1024 .f32) (b : Fin 8) (st : Fin 4) : Prop where
  hv : T.v = BitVec.ofNat 32 st.val
  hx : ∀ (r : Fin 512) (n : Fin 1024), (T.x (ix2 r n) : EReal) = x (ix3 b ⟨st.val * 512 + r.val, by omega⟩ n)
  ha : ∀ (e : Fin 2) (r : Fin 512) (d : Fin 256), (T.a (ix4 0 e r d) : EReal) = a (ix4 b e ⟨st.val * 512 + r.val, by omega⟩ d)
  hu : ∀ (r : Fin 512) (k : Fin 512), (T.u (ix2 r k) : EReal) = u (ix2 ⟨b.val * 2048 + (st.val * 512 + r.val), by omega⟩ k)
  hup : ∀ (h : 0 < st.val) (r : Fin 8) (k : Fin 512), (T.up (ix2 r k) : EReal) = u (ix2 ⟨b.val * 2048 + (st.val * 512 + r.val - 8), by omega⟩ k)
  hun : ∀ (h : st.val < 3) (r : Fin 8) (k : Fin 512), (T.un (ix2 r k) : EReal) = u (ix2 ⟨b.val * 2048 + (st.val * 512 + 512 + r.val), by omega⟩ k)
  hpw : ∀ (g : Fin 4) (k d : Fin 128), (T.pw (ix3 g k d) : EReal) = pw (ix3 g k d)
  hpb : ∀ (g : Fin 4) (d : Fin 128), (T.pb (ix3 g 0 d) : EReal) = pb (ix2 g d)
  hps : ∀ d : Fin 512, (T.ps (ix2 0 d) : EReal) = ps (ix1 d)
  hwo : ∀ k n : Fin 1024, (T.wo (ix2 k n) : EReal) = wo (ix2 k n)
  hg : ∀ n : Fin 1024, (T.g (ix2 0 n) : EReal) = gn (ix1 n)

variable {T : Tile Ideal} {x : Vec Ideal S8x2048x1024 .f32} {a : Vec Ideal S8x2x2048x256 .bf16} {u : Vec Ideal S16384x512 .f32} {pw : Vec Ideal S4x128x128 .f32}
    {pb : Vec Ideal S4x128 .f32} {ps : Vec Ideal S512 .f32} {wo : Vec Ideal S1024x1024 .bf16} {gn : Vec Ideal S1024 .f32} {b : Fin 8} {st : Fin 4} (A : Agrees T x a u pw pb ps wo gn b st)

include A in
/-- The staged rows are the reference's rows with zeros before and after the sequence. -/
theorem extRow_eq (k : Fin 512) (n : ℕ) (hn : n < 528) (q : Fin 2064) (hq : q.val = st.val * 512 + n) :
    extRow T st k n = MixRefIdeal.padR u (ix3 b q k) := by
  rw [MixRefIdeal.padR_apply]
  unfold extRow
  by_cases h8 : n < 8
  · rw [dif_pos h8]
    by_cases hs : 0 < st.val
    · rw [if_pos hs, dif_pos (by omega), A.hup hs]
      refine congrArg u (funext fun i => Fin.ext ?_)
      match i with
      | 0 => show b.val * 2048 + (st.val * 512 + n - 8) = b.val * 2048 + (q.val - 8); omega
      | 1 => rfl
    · rw [if_neg hs, dif_neg (by omega)]
  · rw [dif_neg h8]
    by_cases h5 : n < 520
    · rw [dif_pos h5, dif_pos (by omega), A.hu]
      refine congrArg u (funext fun i => Fin.ext ?_)
      match i with
      | 0 => show b.val * 2048 + (st.val * 512 + (n - 8)) = b.val * 2048 + (q.val - 8); omega
      | 1 => rfl
    · rw [dif_neg h5, dif_pos hn]
      by_cases hs : st.val < 3
      · rw [if_pos hs, dif_pos (by omega), A.hun hs]
        refine congrArg u (funext fun i => Fin.ext ?_)
        match i with
        | 0 => show b.val * 2048 + (st.val * 512 + 512 + (n - 520)) = b.val * 2048 + (q.val - 8); omega
        | 1 => rfl
      · rw [if_neg hs, dif_neg (by omega)]

include A in
/-- A tile's own row among the staged ones. -/
theorem ownRow_eq (k : Fin 512) (r : Fin 512) : extRow T st k (r.val + 8) = u (ix2 ⟨b.val * 2048 + (st.val * 512 + r.val), by omega⟩ k) := by
  unfold extRow
  rw [dif_neg (by omega), dif_pos (by omega), A.hu]
  refine congrArg u (funext fun i => Fin.ext ?_)
  match i with
  | 0 => show b.val * 2048 + (st.val * 512 + (r.val + 8 - 8)) = b.val * 2048 + (st.val * 512 + r.val); omega
  | 1 => rfl

/-- The rows of a window are counted the same way. -/
theorem cnt_eq (h w : BitVec 32) (p : Fin 2048) : (MixRefIdeal.countR h w (ix1 p) : EReal) = cnt h w p.val := MixRefIdeal.countR_apply h w p

include A in
/-- Pooling group 0 of a tile is the reference's. -/
theorem group0_eq (r : Fin 512) (d : Fin 128) :
    (mixV T (ix2 r ⟨0 + d.val, by omega⟩) : EReal) = MixRefIdeal.groupR0 u pw pb ps (ix3 b ⟨st.val * 512 + r.val, by omega⟩ d) := by
  rw [mix0_apply T st A.hv, MixRefIdeal.groupR0_apply, cnt_eq, A.hpb, A.hps]
  have o : ∀ k : Fin 128, (⟨0 + k.val, by omega⟩ : Fin 512) = ⟨k.val, by omega⟩ := fun k => Fin.ext (Nat.zero_add k.val)
  rw [o d]
  refine congrArg₂ (fun p q : EReal => (p + q) * ps (ix1 ⟨d.val, by omega⟩)) (Finset.sum_congr rfl fun k _ => ?_) rfl
  rw [A.hpw, o k, show u (ix2 ⟨b.val * 2048 + (⟨st.val * 512 + r.val, by omega⟩ : Fin 2048).val, by dsimp only; omega⟩ ⟨k.val, by omega⟩) = extRow T st ⟨k.val, by omega⟩ (r.val + 8) from (ownRow_eq A ⟨k.val, by omega⟩ r).symm]
  rw [extRow_eq A ⟨k.val, by omega⟩ (r.val + 7) (by omega) ⟨7 + (st.val * 512 + r.val), by omega⟩ (by show 7 + (st.val * 512 + r.val) = st.val * 512 + (r.val + 7); omega)]
  rw [extRow_eq A ⟨k.val, by omega⟩ (r.val + 8) (by omega) ⟨8 + (st.val * 512 + r.val), by omega⟩ (by show 8 + (st.val * 512 + r.val) = st.val * 512 + (r.val + 8); omega)]

include A in
/-- Pooling group 1 of a tile is the reference's. -/
theorem group1_eq (r : Fin 512) (d : Fin 128) :
    (mixV T (ix2 r ⟨128 + d.val, by omega⟩) : EReal) = MixRefIdeal.groupR1 u pw pb ps (ix3 b ⟨st.val * 512 + r.val, by omega⟩ d) := by
  rw [mix1_apply T st A.hv, MixRefIdeal.groupR1_apply, cnt_eq, A.hpb, A.hps]
  have o : ∀ k : Fin 128, (⟨128 + k.val, by omega⟩ : Fin 512) = ⟨128 + k.val, by omega⟩ := fun k => Fin.ext (rfl)

  refine congrArg₂ (fun p q : EReal => (p + q) * ps (ix1 ⟨128 + d.val, by omega⟩)) (Finset.sum_congr rfl fun k _ => ?_) rfl
  rw [A.hpw, show u (ix2 ⟨b.val * 2048 + (⟨st.val * 512 + r.val, by omega⟩ : Fin 2048).val, by dsimp only; omega⟩ ⟨128 + k.val, by omega⟩) = extRow T st ⟨128 + k.val, by omega⟩ (r.val + 8) from (ownRow_eq A ⟨128 + k.val, by omega⟩ r).symm]
  rw [extRow_eq A ⟨128 + k.val, by omega⟩ (r.val + 6) (by omega) ⟨6 + (st.val * 512 + r.val), by omega⟩ (by show 6 + (st.val * 512 + r.val) = st.val * 512 + (r.val + 6); omega)]
  rw [extRow_eq A ⟨128 + k.val, by omega⟩ (r.val + 7) (by omega) ⟨7 + (st.val * 512 + r.val), by omega⟩ (by show 7 + (st.val * 512 + r.val) = st.val * 512 + (r.val + 7); omega)]
  rw [extRow_eq A ⟨128 + k.val, by omega⟩ (r.val + 8) (by omega) ⟨8 + (st.val * 512 + r.val), by omega⟩ (by show 8 + (st.val * 512 + r.val) = st.val * 512 + (r.val + 8); omega)]
  rw [extRow_eq A ⟨128 + k.val, by omega⟩ (r.val + 9) (by omega) ⟨9 + (st.val * 512 + r.val), by omega⟩ (by show 9 + (st.val * 512 + r.val) = st.val * 512 + (r.val + 9); omega)]

include A in
/-- Pooling group 2 of a tile is the reference's. -/
theorem group2_eq (r : Fin 512) (d : Fin 128) :
    (mixV T (ix2 r ⟨256 + d.val, by omega⟩) : EReal) = MixRefIdeal.groupR2 u pw pb ps (ix3 b ⟨st.val * 512 + r.val, by omega⟩ d) := by
  rw [mix2_apply T st A.hv, MixRefIdeal.groupR2_apply, cnt_eq, A.hpb, A.hps]
  have o : ∀ k : Fin 128, (⟨256 + k.val, by omega⟩ : Fin 512) = ⟨256 + k.val, by omega⟩ := fun k => Fin.ext (rfl)

  refine congrArg₂ (fun p q : EReal => (p + q) * ps (ix1 ⟨256 + d.val, by omega⟩)) (Finset.sum_congr rfl fun k _ => ?_) rfl
  rw [A.hpw, show u (ix2 ⟨b.val * 2048 + (⟨st.val * 512 + r.val, by omega⟩ : Fin 2048).val, by dsimp only; omega⟩ ⟨256 + k.val, by omega⟩) = extRow T st ⟨256 + k.val, by omega⟩ (r.val + 8) from (ownRow_eq A ⟨256 + k.val, by omega⟩ r).symm]
  rw [extRow_eq A ⟨256 + k.val, by omega⟩ (r.val + 4) (by omega) ⟨4 + (st.val * 512 + r.val), by omega⟩ (by show 4 + (st.val * 512 + r.val) = st.val * 512 + (r.val + 4); omega)]
  rw [extRow_eq A ⟨256 + k.val, by omega⟩ (r.val + 5) (by omega) ⟨5 + (st.val * 512 + r.val), by omega⟩ (by show 5 + (st.val * 512 + r.val) = st.val * 512 + (r.val + 5); omega)]
  rw [extRow_eq A ⟨256 + k.val, by omega⟩ (r.val + 6) (by omega) ⟨6 + (st.val * 512 + r.val), by omega⟩ (by show 6 + (st.val * 512 + r.val) = st.val * 512 + (r.val + 6); omega)]
  rw [extRow_eq A ⟨256 + k.val, by omega⟩ (r.val + 7) (by omega) ⟨7 + (st.val * 512 + r.val), by omega⟩ (by show 7 + (st.val * 512 + r.val) = st.val * 512 + (r.val + 7); omega)]
  rw [extRow_eq A ⟨256 + k.val, by omega⟩ (r.val + 8) (by omega) ⟨8 + (st.val * 512 + r.val), by omega⟩ (by show 8 + (st.val * 512 + r.val) = st.val * 512 + (r.val + 8); omega)]
  rw [extRow_eq A ⟨256 + k.val, by omega⟩ (r.val + 9) (by omega) ⟨9 + (st.val * 512 + r.val), by omega⟩ (by show 9 + (st.val * 512 + r.val) = st.val * 512 + (r.val + 9); omega)]
  rw [extRow_eq A ⟨256 + k.val, by omega⟩ (r.val + 10) (by omega) ⟨10 + (st.val * 512 + r.val), by omega⟩ (by show 10 + (st.val * 512 + r.val) = st.val * 512 + (r.val + 10); omega)]
  rw [extRow_eq A ⟨256 + k.val, by omega⟩ (r.val + 11) (by omega) ⟨11 + (st.val * 512 + r.val), by omega⟩ (by show 11 + (st.val * 512 + r.val) = st.val * 512 + (r.val + 11); omega)]

include A in
/-- Pooling group 3 of a tile is the reference's. -/
theorem group3_eq (r : Fin 512) (d : Fin 128) :
    (mixV T (ix2 r ⟨384 + d.val, by omega⟩) : EReal) = MixRefIdeal.groupR3 u pw pb ps (ix3 b ⟨st.val * 512 + r.val, by omega⟩ d) := by
  rw [mix3_apply T st A.hv, MixRefIdeal.groupR3_apply, cnt_eq, A.hpb, A.hps]
  have o : ∀ k : Fin 128, (⟨384 + k.val, by omega⟩ : Fin 512) = ⟨384 + k.val, by omega⟩ := fun k => Fin.ext (rfl)

  refine congrArg₂ (fun p q : EReal => (p + q) * ps (ix1 ⟨384 + d.val, by omega⟩)) (Finset.sum_congr rfl fun k _ => ?_) rfl
  rw [A.hpw, show u (ix2 ⟨b.val * 2048 + (⟨st.val * 512 + r.val, by omega⟩ : Fin 2048).val, by dsimp only; omega⟩ ⟨384 + k.val, by omega⟩) = extRow T st ⟨384 + k.val, by omega⟩ (r.val + 8) from (ownRow_eq A ⟨384 + k.val, by omega⟩ r).symm]
  rw [extRow_eq A ⟨384 + k.val, by omega⟩ (r.val + 0) (by omega) ⟨(st.val * 512 + r.val), by omega⟩ (by show (st.val * 512 + r.val) = st.val * 512 + (r.val + 0); omega)]
  rw [extRow_eq A ⟨384 + k.val, by omega⟩ (r.val + 1) (by omega) ⟨1 + (st.val * 512 + r.val), by omega⟩ (by show 1 + (st.val * 512 + r.val) = st.val * 512 + (r.val + 1); omega)]
  rw [extRow_eq A ⟨384 + k.val, by omega⟩ (r.val + 2) (by omega) ⟨2 + (st.val * 512 + r.val), by omega⟩ (by show 2 + (st.val * 512 + r.val) = st.val * 512 + (r.val + 2); omega)]
  rw [extRow_eq A ⟨384 + k.val, by omega⟩ (r.val + 3) (by omega) ⟨3 + (st.val * 512 + r.val), by omega⟩ (by show 3 + (st.val * 512 + r.val) = st.val * 512 + (r.val + 3); omega)]
  rw [extRow_eq A ⟨384 + k.val, by omega⟩ (r.val + 4) (by omega) ⟨4 + (st.val * 512 + r.val), by omega⟩ (by show 4 + (st.val * 512 + r.val) = st.val * 512 + (r.val + 4); omega)]
  rw [extRow_eq A ⟨384 + k.val, by omega⟩ (r.val + 5) (by omega) ⟨5 + (st.val * 512 + r.val), by omega⟩ (by show 5 + (st.val * 512 + r.val) = st.val * 512 + (r.val + 5); omega)]
  rw [extRow_eq A ⟨384 + k.val, by omega⟩ (r.val + 6) (by omega) ⟨6 + (st.val * 512 + r.val), by omega⟩ (by show 6 + (st.val * 512 + r.val) = st.val * 512 + (r.val + 6); omega)]
  rw [extRow_eq A ⟨384 + k.val, by omega⟩ (r.val + 7) (by omega) ⟨7 + (st.val * 512 + r.val), by omega⟩ (by show 7 + (st.val * 512 + r.val) = st.val * 512 + (r.val + 7); omega)]
  rw [extRow_eq A ⟨384 + k.val, by omega⟩ (r.val + 8) (by omega) ⟨8 + (st.val * 512 + r.val), by omega⟩ (by show 8 + (st.val * 512 + r.val) = st.val * 512 + (r.val + 8); omega)]
  rw [extRow_eq A ⟨384 + k.val, by omega⟩ (r.val + 9) (by omega) ⟨9 + (st.val * 512 + r.val), by omega⟩ (by show 9 + (st.val * 512 + r.val) = st.val * 512 + (r.val + 9); omega)]
  rw [extRow_eq A ⟨384 + k.val, by omega⟩ (r.val + 10) (by omega) ⟨10 + (st.val * 512 + r.val), by omega⟩ (by show 10 + (st.val * 512 + r.val) = st.val * 512 + (r.val + 10); omega)]
  rw [extRow_eq A ⟨384 + k.val, by omega⟩ (r.val + 11) (by omega) ⟨11 + (st.val * 512 + r.val), by omega⟩ (by show 11 + (st.val * 512 + r.val) = st.val * 512 + (r.val + 11); omega)]
  rw [extRow_eq A ⟨384 + k.val, by omega⟩ (r.val + 12) (by omega) ⟨12 + (st.val * 512 + r.val), by omega⟩ (by show 12 + (st.val * 512 + r.val) = st.val * 512 + (r.val + 12); omega)]
  rw [extRow_eq A ⟨384 + k.val, by omega⟩ (r.val + 13) (by omega) ⟨13 + (st.val * 512 + r.val), by omega⟩ (by show 13 + (st.val * 512 + r.val) = st.val * 512 + (r.val + 13); omega)]
  rw [extRow_eq A ⟨384 + k.val, by omega⟩ (r.val + 14) (by omega) ⟨14 + (st.val * 512 + r.val), by omega⟩ (by show 14 + (st.val * 512 + r.val) = st.val * 512 + (r.val + 14); omega)]
  rw [extRow_eq A ⟨384 + k.val, by omega⟩ (r.val + 15) (by omega) ⟨15 + (st.val * 512 + r.val), by omega⟩ (by show 15 + (st.val * 512 + r.val) = st.val * 512 + (r.val + 15); omega)]

/-- The reference's concatenated rows. -/
abbrev refCat (a : Vec Ideal S8x2x2048x256 .bf16) (u : Vec Ideal S16384x512 .f32) (pw : Vec Ideal S4x128x128 .f32) (pb : Vec Ideal S4x128 .f32) (ps : Vec Ideal S512 .f32) :=
  MixRefIdeal.catR (MixRefIdeal.headsR a) (MixRefIdeal.groupR0 u pw pb ps) (MixRefIdeal.groupR1 u pw pb ps) (MixRefIdeal.groupR2 u pw pb ps) (MixRefIdeal.groupR3 u pw pb ps)

include A in
/-- The row an output row is projected from is the reference's. -/
theorem cat_eq (r : Fin 512) (k : Fin 1024) :
    (catV (head0 T) (head1 T) (mixV T) (ix2 r k) : EReal) = refCat a u pw pb ps (ix3 b ⟨st.val * 512 + r.val, by omega⟩ k) := by
  by_cases h2 : k.val < 256
  · rw [catV_first _ _ _ _ _ h2, head0_apply, A.ha]
    unfold refCat
    rw [MixRefIdeal.catR_heads _ _ _ _ _ _ _ _ (by omega), MixRefIdeal.headsR_apply]
    refine congrArg a (funext fun i => Fin.ext ?_)
    match i with
    | 0 => rfl
    | 1 => show 0 = k.val / 256; omega
    | 2 => rfl
    | 3 => show k.val = k.val % 256; omega
  by_cases h5 : k.val < 512
  · rw [catV_second _ _ _ _ _ (by omega) h5, head1_apply, A.ha]
    unfold refCat
    rw [MixRefIdeal.catR_heads _ _ _ _ _ _ _ _ (by omega), MixRefIdeal.headsR_apply]
    refine congrArg a (funext fun i => Fin.ext ?_)
    match i with
    | 0 => rfl
    | 1 => show 1 = k.val / 256; omega
    | 2 => rfl
    | 3 => show k.val - 256 = k.val % 256; omega
  rw [catV_third _ _ _ _ _ (by omega)]
  unfold refCat
  have j : ∀ (o : ℕ) (ho : 512 + o ≤ k.val) (hk : k.val < 512 + o + 128), (⟨k.val - 512, by omega⟩ : Fin 512) = ⟨o + (⟨k.val - (512 + o), by omega⟩ : Fin 128).val, by dsimp only; omega⟩ :=
    fun o ho hk => Fin.ext (by show k.val - 512 = o + (k.val - (512 + o)); omega)
  by_cases h0 : k.val < 640
  · rw [j 0 (by omega) (by omega), group0_eq A, MixRefIdeal.catR_group0 _ _ _ _ _ _ _ _ ⟨k.val - 512, by omega⟩ (by show k.val = 512 + (k.val - 512); omega)]
  by_cases h1 : k.val < 768
  · rw [j 128 (by omega) (by omega), group1_eq A, MixRefIdeal.catR_group1 _ _ _ _ _ _ _ _ ⟨k.val - 640, by omega⟩ (by show k.val = 640 + (k.val - 640); omega)]
  by_cases h2 : k.val < 896
  · rw [j 256 (by omega) (by omega), group2_eq A, MixRefIdeal.catR_group2 _ _ _ _ _ _ _ _ ⟨k.val - 768, by omega⟩ (by show k.val = 768 + (k.val - 768); omega)]
  rw [j 384 (by omega) (by omega), group3_eq A, MixRefIdeal.catR_group3 _ _ _ _ _ _ _ _ ⟨k.val - 896, by omega⟩ (by show k.val = 896 + (k.val - 896); omega)]

include A in
/-- The rows after the mixing layer are the reference's. -/
theorem x1_eq (r : Fin 512) (n : Fin 1024) :
    (x1V T (ix2 r n) : EReal) = MixRefIdeal.x1R x wo (refCat a u pw pb ps) (ix3 b ⟨st.val * 512 + r.val, by omega⟩ n) := by
  rw [x1V_apply, MixRefIdeal.x1R_apply, A.hx]
  refine congrArg _ (Finset.sum_congr rfl fun k _ => ?_)
  rw [cat_eq A, A.hwo]

include A in
/-- The normalised rows are the reference's. -/
theorem h_eq (r : Fin 512) (n : Fin 1024) :
    (hV T (ix2 r n) : EReal) = MixRefIdeal.normR gn (MixRefIdeal.x1R x wo (refCat a u pw pb ps)) (MixRefIdeal.sqR (MixRefIdeal.x1R x wo (refCat a u pw pb ps))) (ix3 b ⟨st.val * 512 + r.val, by omega⟩ n) := by
  rw [hV_apply, MixRefIdeal.normR_apply, MixRefIdeal.sqR_apply, A.hg]
  have e : ∀ k, _ := fun k => x1_eq A r k
  simp only [e]

include A in
/-- A tile's finished rows are the reference's. -/
theorem out_eq (wg wu : Vec Ideal S1024x2816 .bf16) (wd : Vec Ideal S2816x1024 .bf16) (r : Fin 512) (n : Fin 1024) (t : Fin 16384) (htk : t.val = b.val * 2048 + (st.val * 512 + r.val)) :
    (ffnV (hV T) (x1V T) wg wu wd (ix2 r n) : EReal) = MixRefIdeal.resultR x a u pw pb ps wo gn wg wu wd (ix2 t n) := by
  unfold MixRefIdeal.resultR
  rw [ffnV_apply, MixRefIdeal.outR_apply]
  have e1 : (⟨t.val / 2048, by omega⟩ : Fin 8) = b := Fin.ext (by show t.val / 2048 = b.val; omega)
  have e2 : (⟨t.val % 2048, by omega⟩ : Fin 2048) = ⟨st.val * 512 + r.val, by omega⟩ := Fin.ext (by show t.val % 2048 = st.val * 512 + r.val; omega)
  rw [e1, e2, x1_eq A]
  refine congrArg _ (Finset.sum_congr rfl fun j _ => ?_)
  unfold hidden
  rw [MixRefIdeal.actR_apply, MixRefIdeal.hidR_apply, MixRefIdeal.hidR_apply]
  have e : ∀ k, _ := fun k => h_eq A r k
  simp only [e]

end Cert.Proof.MixIdeal

end
-- ==== Proof.MixValue.Blocks.lean ====
module

public import proofs.«01_k».proof.Proof.Mix.Launch
public import Idealize.ShloMosaic.Lib.StableHlo.ReadAt
public import Idealize.ShloMosaic.Lib.Pointwise

@[expose] public section

set_option maxRecDepth 16384

noncomputable section

namespace Cert.Proof.MixIdeal

open Cert.MixIdeal Cert.MixIdeal.Gen
open Idealize.ShloMosaic Idealize.ShloMosaic.TcCoe Idealize.ShloMosaic.Tactic

/-! ## A tile's windows in the call's arguments -/

variable (m : (ℓ : Loc nD τ sig) → Buf (Elt Ideal) ℓ) (c : Dev nD)

/-- The call's arguments on a device. -/
abbrev argX : Vec Ideal S8x2048x1024 .f32 := m ((c : Thread nD τ).loc main_arg0)
abbrev argA : Vec Ideal S8x2x2048x256 .bf16 := m ((c : Thread nD τ).loc main_arg1)
abbrev argU : Vec Ideal S16384x512 .f32 := m ((c : Thread nD τ).loc main_arg2)
abbrev argPW : Vec Ideal S4x128x128 .f32 := m ((c : Thread nD τ).loc main_arg3)
abbrev argPB : Vec Ideal S4x128 .f32 := m ((c : Thread nD τ).loc main_arg4)
abbrev argPS : Vec Ideal S512 .f32 := m ((c : Thread nD τ).loc main_arg5)
abbrev argWO : Vec Ideal S1024x1024 .bf16 := m ((c : Thread nD τ).loc main_arg6)
abbrev argGN : Vec Ideal S1024 .f32 := m ((c : Thread nD τ).loc main_arg7)
abbrev argWG : Vec Ideal S1024x2816 .bf16 := m ((c : Thread nD τ).loc main_arg8)
abbrev argWU : Vec Ideal S1024x2816 .bf16 := m ((c : Thread nD τ).loc main_arg9)
abbrev argWD : Vec Ideal S2816x1024 .bf16 := m ((c : Thread nD τ).loc main_arg10)

/-- The rows the reshapes hand the call. -/
theorem V_rows (t : Fin 16384) (n : Fin 1024) :
    (V m c main_v0 (ix2 t n) : EReal) = argX m c (ix3 ⟨t.val / 2048, by omega⟩ ⟨t.val % 2048, by omega⟩ n) := by
  unfold V
  after_reads_at
theorem V_bias (g : Fin 4) (d : Fin 128) : (V m c main_v1 (ix3 g 0 d) : EReal) = argPB m c (ix2 g d) := by
  unfold V
  after_reads_at
theorem V_scale (d : Fin 512) : (V m c main_v2 (ix2 0 d) : EReal) = argPS m c (ix1 d) := by
  unfold V
  after_reads_at
theorem V_gain (n : Fin 1024) : (V m c main_v3 (ix2 0 n) : EReal) = argGN m c (ix1 n) := by
  unfold V
  after_reads_at

theorem tr0 : ∀ t : Fin grid0.N, cc0_transform_0 (grid0.coords t) = ![min t.val 31, 0] := by decide
theorem tr1 : ∀ t : Fin grid0.N, cc0_transform_1 (grid0.coords t) = ![min t.val 31 / 4, 0, min t.val 31 % 4, 0] := by decide
theorem tr2 : ∀ t : Fin grid0.N, cc0_transform_2 (grid0.coords t) = ![min t.val 31, 0] := by decide
theorem tr3 : ∀ t : Fin grid0.N, cc0_transform_3 (grid0.coords t) = ![min t.val 31 * 64 - 1, 0] := by decide
theorem tr4 : ∀ t : Fin grid0.N, cc0_transform_4 (grid0.coords t) = ![min ((min t.val 31 + 1) * 64) 2047, 0] := by decide
theorem tr5 : ∀ t : Fin grid0.N, cc0_transform_5 (grid0.coords t) = ![0, 0, 0] := by decide
theorem tr6 : ∀ t : Fin grid0.N, cc0_transform_6 (grid0.coords t) = ![0, 0, 0] := by decide
theorem tr7 : ∀ t : Fin grid0.N, cc0_transform_7 (grid0.coords t) = ![0, 0] := by decide
theorem tr8 : ∀ t : Fin grid0.N, cc0_transform_8 (grid0.coords t) = ![0, 0] := by decide
theorem tr9 : ∀ t : Fin grid0.N, cc0_transform_9 (grid0.coords t) = ![0, 0] := by decide
theorem trOut : ∀ t : Fin grid0.N, cc0_transform_13 (grid0.coords t) = ![t.val - 1, 0] := by decide
theorem trNo : ∀ t : Fin grid0.N, tileNo (grid0.coords t) = BitVec.ofNat 32 (min t.val 31 % 4) := by decide

variable (t : Fin cfg0.N) (ht : t.val < 32)

include ht in
theorem tile_v : (tile m c t).v = BitVec.ofNat 32 (t.val % 4) :=
  (trNo t).trans (by rw [Nat.min_eq_left (by omega)])

include ht in
theorem tile_x (r : Fin 512) (n : Fin 1024) : ((tile m c t).x (ix2 r n) : EReal) = argX m c (ix3 ⟨t.val / 4, by omega⟩ ⟨t.val % 4 * 512 + r.val, by omega⟩ n) := by
  have e : ((tile m c t).x (ix2 r n) : EReal) = V m c main_v0 (ix2 ⟨t.val * 512 + r.val, by omega⟩ n) := by
    refine congrArg (V m c main_v0) (funext fun a => Fin.ext ?_)
    match a with
    | 0 => show cc0_transform_0 (grid0.coords t) 0 * 512 + 1 * r.val = t.val * 512 + r.val; rw [tr0 t]; show min t.val 31 * 512 + 1 * r.val = t.val * 512 + r.val; omega
    | 1 => show cc0_transform_0 (grid0.coords t) 1 * 1024 + 1 * n.val = n.val; rw [tr0 t]; show 0 * 1024 + 1 * n.val = n.val; omega
  rw [e, V_rows]
  refine congrArg (argX m c) (funext fun a => Fin.ext ?_)
  match a with
  | 0 => show (t.val * 512 + r.val) / 2048 = t.val / 4; omega
  | 1 => show (t.val * 512 + r.val) % 2048 = t.val % 4 * 512 + r.val; omega
  | 2 => rfl

include ht in
theorem tile_a (e : Fin 2) (r : Fin 512) (d : Fin 256) : ((tile m c t).a (ix4 0 e r d) : EReal) = argA m c (ix4 ⟨t.val / 4, by omega⟩ e ⟨t.val % 4 * 512 + r.val, by omega⟩ d) := by
  refine Eq.trans ?_ (congrFun (V_main_arg1 m c) _)
  refine congrArg (V m c main_arg1) (funext fun a => Fin.ext ?_)
  match a with
  | 0 => show cc0_transform_1 (grid0.coords t) 0 * 1 + 1 * 0 = t.val / 4; rw [tr1 t]; show min t.val 31 / 4 * 1 + 1 * 0 = t.val / 4; omega
  | 1 => show cc0_transform_1 (grid0.coords t) 1 * 2 + 1 * e.val = e.val; rw [tr1 t]; show 0 * 2 + 1 * e.val = e.val; omega
  | 2 => show cc0_transform_1 (grid0.coords t) 2 * 512 + 1 * r.val = t.val % 4 * 512 + r.val; rw [tr1 t]; show min t.val 31 % 4 * 512 + 1 * r.val = t.val % 4 * 512 + r.val; omega
  | 3 => show cc0_transform_1 (grid0.coords t) 3 * 256 + 1 * d.val = d.val; rw [tr1 t]; show 0 * 256 + 1 * d.val = d.val; omega

include ht in
theorem tile_u (r : Fin 512) (k : Fin 512) : ((tile m c t).u (ix2 r k) : EReal) = argU m c (ix2 ⟨t.val * 512 + r.val, by omega⟩ k) := by
  refine Eq.trans ?_ (congrFun (V_main_arg2 m c) _)
  refine congrArg (V m c main_arg2) (funext fun a => Fin.ext ?_)
  match a with
  | 0 => show cc0_transform_2 (grid0.coords t) 0 * 512 + 1 * r.val = t.val * 512 + r.val; rw [tr2 t]; show min t.val 31 * 512 + 1 * r.val = t.val * 512 + r.val; omega
  | 1 => show cc0_transform_2 (grid0.coords t) 1 * 512 + 1 * k.val = k.val; rw [tr2 t]; show 0 * 512 + 1 * k.val = k.val; omega

include ht in
theorem tile_up (h : 0 < t.val) (r : Fin 8) (k : Fin 512) : ((tile m c t).up (ix2 r k) : EReal) = argU m c (ix2 ⟨t.val * 512 - 8 + r.val, by omega⟩ k) := by
  refine Eq.trans ?_ (congrFun (V_main_arg2 m c) _)
  refine congrArg (V m c main_arg2) (funext fun a => Fin.ext ?_)
  match a with
  | 0 => show cc0_transform_3 (grid0.coords t) 0 * 8 + 1 * r.val = t.val * 512 - 8 + r.val; rw [tr3 t]; show (min t.val 31 * 64 - 1) * 8 + 1 * r.val = t.val * 512 - 8 + r.val; omega
  | 1 => show cc0_transform_3 (grid0.coords t) 1 * 512 + 1 * k.val = k.val; rw [tr3 t]; show 0 * 512 + 1 * k.val = k.val; omega

theorem tile_un (h : t.val < 31) (r : Fin 8) (k : Fin 512) : ((tile m c t).un (ix2 r k) : EReal) = argU m c (ix2 ⟨t.val * 512 + 512 + r.val, by omega⟩ k) := by
  refine Eq.trans ?_ (congrFun (V_main_arg2 m c) _)
  refine congrArg (V m c main_arg2) (funext fun a => Fin.ext ?_)
  match a with
  | 0 => show cc0_transform_4 (grid0.coords t) 0 * 8 + 1 * r.val = t.val * 512 + 512 + r.val; rw [tr4 t]; show (min ((min t.val 31 + 1) * 64) 2047) * 8 + 1 * r.val = t.val * 512 + 512 + r.val; omega
  | 1 => show cc0_transform_4 (grid0.coords t) 1 * 512 + 1 * k.val = k.val; rw [tr4 t]; show 0 * 512 + 1 * k.val = k.val; omega

theorem tile_pw (g : Fin 4) (k d : Fin 128) : ((tile m c t).pw (ix3 g k d) : EReal) = argPW m c (ix3 g k d) := by
  refine Eq.trans ?_ (congrFun (V_main_arg3 m c) _)
  refine congrArg (V m c main_arg3) (funext fun a => Fin.ext ?_)
  match a with
  | 0 => show cc0_transform_5 (grid0.coords t) 0 * 4 + 1 * g.val = g.val; rw [tr5 t]; show 0 * 4 + 1 * g.val = g.val; omega
  | 1 => show cc0_transform_5 (grid0.coords t) 1 * 128 + 1 * k.val = k.val; rw [tr5 t]; show 0 * 128 + 1 * k.val = k.val; omega
  | 2 => show cc0_transform_5 (grid0.coords t) 2 * 128 + 1 * d.val = d.val; rw [tr5 t]; show 0 * 128 + 1 * d.val = d.val; omega

theorem tile_pb (g : Fin 4) (d : Fin 128) : ((tile m c t).pb (ix3 g 0 d) : EReal) = argPB m c (ix2 g d) := by
  refine Eq.trans ?_ (V_bias m c g d)
  refine congrArg (V m c main_v1) (funext fun a => Fin.ext ?_)
  match a with
  | 0 => show cc0_transform_6 (grid0.coords t) 0 * 4 + 1 * g.val = g.val; rw [tr6 t]; show 0 * 4 + 1 * g.val = g.val; omega
  | 1 => show cc0_transform_6 (grid0.coords t) 1 * 1 + 1 * 0 = 0; rw [tr6 t]; show 0 * 1 + 1 * 0 = 0; omega
  | 2 => show cc0_transform_6 (grid0.coords t) 2 * 128 + 1 * d.val = d.val; rw [tr6 t]; show 0 * 128 + 1 * d.val = d.val; omega

theorem tile_ps (d : Fin 512) : ((tile m c t).ps (ix2 0 d) : EReal) = argPS m c (ix1 d) := by
  refine Eq.trans ?_ (V_scale m c d)
  refine congrArg (V m c main_v2) (funext fun a => Fin.ext ?_)
  match a with
  | 0 => show cc0_transform_7 (grid0.coords t) 0 * 1 + 1 * 0 = 0; rw [tr7 t]; show 0 * 1 + 1 * 0 = 0; omega
  | 1 => show cc0_transform_7 (grid0.coords t) 1 * 512 + 1 * d.val = d.val; rw [tr7 t]; show 0 * 512 + 1 * d.val = d.val; omega

theorem tile_wo (k n : Fin 1024) : ((tile m c t).wo (ix2 k n) : EReal) = argWO m c (ix2 k n) := by
  refine Eq.trans ?_ (congrFun (V_main_arg6 m c) _)
  refine congrArg (V m c main_arg6) (funext fun a => Fin.ext ?_)
  match a with
  | 0 => show cc0_transform_8 (grid0.coords t) 0 * 1024 + 1 * k.val = k.val; rw [tr8 t]; show 0 * 1024 + 1 * k.val = k.val; omega
  | 1 => show cc0_transform_8 (grid0.coords t) 1 * 1024 + 1 * n.val = n.val; rw [tr8 t]; show 0 * 1024 + 1 * n.val = n.val; omega

theorem tile_g (n : Fin 1024) : ((tile m c t).g (ix2 0 n) : EReal) = argGN m c (ix1 n) := by
  refine Eq.trans ?_ (V_gain m c n)
  refine congrArg (V m c main_v3) (funext fun a => Fin.ext ?_)
  match a with
  | 0 => show cc0_transform_9 (grid0.coords t) 0 * 1 + 1 * 0 = 0; rw [tr9 t]; show 0 * 1 + 1 * 0 = 0; omega
  | 1 => show cc0_transform_9 (grid0.coords t) 1 * 1024 + 1 * n.val = n.val; rw [tr9 t]; show 0 * 1024 + 1 * n.val = n.val; omega

theorem read_wG : (hbG.view.read (Elt Ideal) (wG m c) : Vec Ideal S1024x2816 .bf16) = argWG m c := V_main_arg8 m c
theorem read_wU : (hbU.view.read (Elt Ideal) (wU m c) : Vec Ideal S1024x2816 .bf16) = argWU m c := V_main_arg9 m c
theorem read_wD : (hbD.view.read (Elt Ideal) (wD m c) : Vec Ideal S2816x1024 .bf16) = argWD m c := V_main_arg10 m c

end Cert.Proof.MixIdeal

end
-- ==== Proof.MixValue.Final.lean ====
module

public import proofs.«01_k».proof.Proof.MixValue.Equation
public import proofs.«01_k».proof.Proof.MixValue.Blocks
public import proofs.«01_k».proof.Proof.Mix.Launch
public import Idealize.ShloMosaic.Lib.Pipeline.ValueKit
public import Idealize.ShloMosaic.Lib.Pointwise

@[expose] public section

set_option maxRecDepth 16384

noncomputable section

namespace Cert.Proof.MixIdeal

open Cert.MixIdeal Cert.MixIdeal.Gen
open Idealize.SL.Sem Idealize.ShloMosaic Idealize.ShloMosaic.TcCoe Idealize.ShloMosaic.Tactic

/-! ## The result array after the run -/

variable (m : (ℓ : Loc nD τ sig) → Buf (Elt Ideal) ℓ) (c : Dev nD)

/-- Point `n`'s tile holds its rows of the arguments. -/
theorem tile_agrees (n : ℕ) (hn : n < 32) :
    Agrees (tileN m c n) (argX m c) (argA m c) (argU m c) (argPW m c) (argPB m c) (argPS m c) (argWO m c) (argGN m c) ⟨n / 4, by omega⟩ ⟨n % 4, by omega⟩ := by
  have e : tileN m c n = tile m c ⟨n, by show n < 33; omega⟩ := tileN_val m c ⟨n, by show n < 33; omega⟩
  rw [e]
  refine ⟨tile_v m c _ hn, tile_x m c _ hn, tile_a m c _ hn, fun r k => ?_, fun h r k => ?_, fun h r k => ?_, tile_pw m c _, tile_pb m c _, tile_ps m c _, tile_wo m c _, tile_g m c _⟩
  · rw [tile_u m c _ hn]
    refine congrArg (argU m c) (funext fun i => Fin.ext ?_)
    match i with
    | 0 => show n * 512 + r.val = n / 4 * 2048 + (n % 4 * 512 + r.val); omega
    | 1 => rfl
  · have h : 0 < n % 4 := h
    rw [tile_up m c _ hn (by show 0 < n; omega)]
    refine congrArg (argU m c) (funext fun i => Fin.ext ?_)
    match i with
    | 0 => show n * 512 - 8 + r.val = n / 4 * 2048 + (n % 4 * 512 + r.val - 8); omega
    | 1 => rfl
  · have h : n % 4 < 3 := h
    rw [tile_un m c _ hn (by show n < 31; omega)]
    refine congrArg (argU m c) (funext fun i => Fin.ext ?_)
    match i with
    | 0 => show n * 512 + 512 + r.val = n / 4 * 2048 + (n % 4 * 512 + 512 + r.val); omega
    | 1 => rfl

/-- The reference's result on the call's arguments. -/
abbrev wanted : FVec Ideal S16384x1024 .f32 := MixRefIdeal.resultR (argX m c) (argA m c) (argU m c) (argPW m c) (argPB m c) (argPS m c) (argWO m c) (argGN m c) (argWG m c) (argWU m c) (argWD m c)

/-- The rows point `n` finishes are the reference's. -/
theorem outV_eq (n : ℕ) (hn : n < 32) (r : Fin 512) (k : Fin 1024) :
    (outV m c (tileN m c n) (ix2 r k) : EReal) = wanted m c (ix2 ⟨n * 512 + r.val, by omega⟩ k) := by
  unfold outV
  rw [read_wG, read_wU, read_wD]
  exact out_eq (tile_agrees m c n hn) _ _ _ r k _ (by show n * 512 + r.val = n / 4 * 2048 + (n % 4 * 512 + r.val); omega)

/-- The result array after the run. -/
theorem final10 : (dats m 0 c).arrAt 10 cfg0.N = wanted m c := by
  refine (dats m 0 c).arrAt_eq_of_covers 10 _ (by decide +kernel) fun t hf y => ?_
  blk_simp
  dsimp only [dats, dat]
  have ht : t.val < 33 := t.isLt
  have h0 : 0 < t.val := by
    rcases Nat.eq_zero_or_pos t.val with h | h
    · have f0 := flush_first t h
      exact absurd (hf.symm.trans f0) (by decide)
    · exact h
  have b0 : (y (0 : Fin 2)).val < 512 := (y (0 : Fin 2)).isLt
  have b1 : (y (1 : Fin 2)).val < 1024 := (y (1 : Fin 2)).isLt
  have e : ((View.whole main_v4).slice (win0_10.rect t)).emb y = ix2 (⟨(t.val - 1) * 512 + (y (0 : Fin 2)).val, by omega⟩ : Fin 16384) (⟨(y (1 : Fin 2)).val, b1⟩ : Fin 1024) := funext fun a => Fin.ext (by
    match a with
    | 0 => show cc0_transform_13 (grid0.coords t) 0 * 512 + 1 * (y (0 : Fin 2)).val = (t.val - 1) * 512 + (y (0 : Fin 2)).val; rw [trOut t]; show (t.val - 1) * 512 + 1 * (y (0 : Fin 2)).val = _; omega
    | 1 => show cc0_transform_13 (grid0.coords t) 1 * 1024 + 1 * (y (1 : Fin 2)).val = (y (1 : Fin 2)).val; rw [trOut t]; show 0 * 1024 + 1 * (y (1 : Fin 2)).val = _; omega)
  rw [e]
  refine Eq.trans ?_ (outV_eq m c (t.val - 1) (by omega) ⟨(y (0 : Fin 2)).val, b0⟩ ⟨(y (1 : Fin 2)).val, b1⟩)
  refine congrArg (outV m c (tileN m c (t.val - 1))) (funext fun a => Fin.ext ?_)
  match a with
  | 0 => rfl
  | 1 => rfl

variable (ρ : Dev nD → PrngReg)

/-- The kernel's run: its result and its arguments. -/
theorem run_value : θ_run defs (onTc (τ := τ) (main (F := Ideal))) ⟨m, fun _ => 0, ρ⟩ (fun r => ∀ c : Dev nD,
      r.2.mem ((c.tc : Thread nD τ).loc main_v4) = wanted m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h.1 c).1 10).trans (final10 m c),
      ((h.1 c).2 main_arg0 (Pipeline.mem_restRefs_of main_arg0 (by decide) (by decide))).trans (V_main_arg0 m c),
      ((h.1 c).1 1).trans (((dats m 0 c).arrAt_in 1 rfl _).trans (V_main_arg1 m c)),
      ((h.1 c).1 2).trans (((dats m 0 c).arrAt_in 2 rfl _).trans (V_main_arg2 m c)),
      ((h.1 c).1 5).trans (((dats m 0 c).arrAt_in 5 rfl _).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).1 8).trans (((dats m 0 c).arrAt_in 8 rfl _).trans (V_main_arg6 m c)),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c)⟩) (run_main m ρ)

end Cert.Proof.MixIdeal

end
-- ==== Proof.lean ====
/- Two calls of an encoder layer, the attention and the pooling with the projections after it: each kernel's frame at the
   machine's floats and at exact ones, the reference's run, and the kernel's results against its reference's. The modules under `Proof/Attention` hold the
   exact kernel's proof, those under `Proof/AttentionBits` the same for the kernel as printed,
   those under `Proof/AttentionValue` what the exact kernel and the reference compute and that the two are equal.
   `Proof/Mix`, `Proof/MixBits` and `Proof/MixValue` are the same for the second call. -/
module

public import proofs.«01_k».proof.Defs
public import proofs.«01_k».proof.Proof.Gen.Attn
public import proofs.«01_k».proof.Proof.Gen.AttnIdeal
public import proofs.«01_k».proof.Proof.Gen.AttnRefIdeal
public import proofs.«01_k».proof.Proof.Gen.AttnRefIdeal.Run
public import proofs.«01_k».proof.Proof.Attention.Frame
public import proofs.«01_k».proof.Proof.AttentionBits.Frame
public import proofs.«01_k».proof.Proof.Gen.Mix
public import proofs.«01_k».proof.Proof.Gen.MixIdeal
public import proofs.«01_k».proof.Proof.Gen.MixRefIdeal
public import proofs.«01_k».proof.Proof.Gen.MixRefIdeal.Run
public import proofs.«01_k».proof.Proof.Mix.Frame
public import proofs.«01_k».proof.Proof.MixBits.Frame
public import proofs.«01_k».proof.Proof.AttentionValue.Equation
public import proofs.«01_k».proof.Proof.AttentionValue.Final
public import proofs.«01_k».proof.Proof.MixValue.Reference
public import proofs.«01_k».proof.Proof.MixValue.Final

@[expose] public section

noncomputable section

namespace Cert.Proof

open Idealize.ShloMosaic Idealize.SL.Sem

/-- The reference's frame: a straight-line host program that declares no counter, whose run keeps its arguments. -/
theorem reference_quiescent : Cert.quiescent_AttnRefIdeal := fun m ρ _ =>
  (θ_run Cert.AttnRefIdeal.defs _ _).mono (fun r h => ⟨fun c => (h c).2.2.2.2.2, sem_eq_zero_of_no_sems (by decide) r.2⟩)
    (Cert.AttnRefIdeal.Value.run (F := Ideal) m ρ)

/-- The second reference's frame, likewise. -/
theorem mix_reference_quiescent : Cert.quiescent_MixRefIdeal := fun m ρ _ =>
  (θ_run Cert.MixRefIdeal.defs _ _).mono (fun r h => ⟨fun c => (h c).2, sem_eq_zero_of_no_sems (by decide) r.2⟩)
    (Cert.MixRefIdeal.Value.run (F := Ideal) m ρ)

/-- The reference's run: its five results and its arguments. -/
theorem reference_run (m : (ℓ : Loc Cert.AttnRefIdeal.nD Cert.AttnRefIdeal.τ Cert.AttnRefIdeal.sig) → Buf (Elt Ideal) ℓ) (g : Dev Cert.AttnRefIdeal.nD → PrngReg) :
    θ_run (Cert.AttnRefIdeal.defs (F := Ideal)) (onTc (τ := Cert.AttnRefIdeal.τ) (Cert.AttnRefIdeal.main (F := Ideal))) ⟨m, fun _ => 0, g⟩ (fun r => ∀ c : Dev Cert.AttnRefIdeal.nD,
      r.2.mem ((c.tc : Thread Cert.AttnRefIdeal.nD Cert.AttnRefIdeal.τ).loc Cert.AttnRefIdeal.main_v22) = AttnRefIdeal.resultR (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))
      ∧ r.2.mem ((c.tc : Thread Cert.AttnRefIdeal.nD Cert.AttnRefIdeal.τ).loc Cert.AttnRefIdeal.main_v23) = (truncf .bf16 (m ((c.tc : Thread Cert.AttnRefIdeal.nD Cert.AttnRefIdeal.τ).loc Cert.AttnRefIdeal.main_arg3) : Vec Ideal Cert.AttnRefIdeal.S1024x1024 .f32) Cert.AttnRefIdeal.Gen.bitsLt_bf16_f32 : FVec Ideal Cert.AttnRefIdeal.S1024x1024 .bf16)
      ∧ r.2.mem ((c.tc : Thread Cert.AttnRefIdeal.nD Cert.AttnRefIdeal.τ).loc Cert.AttnRefIdeal.main_v24) = (truncf .bf16 (m ((c.tc : Thread Cert.AttnRefIdeal.nD Cert.AttnRefIdeal.τ).loc Cert.AttnRefIdeal.main_arg4) : Vec Ideal Cert.AttnRefIdeal.S1024x2816 .f32) Cert.AttnRefIdeal.Gen.bitsLt_bf16_f32 : FVec Ideal Cert.AttnRefIdeal.S1024x2816 .bf16)
      ∧ r.2.mem ((c.tc : Thread Cert.AttnRefIdeal.nD Cert.AttnRefIdeal.τ).loc Cert.AttnRefIdeal.main_v25) = (truncf .bf16 (m ((c.tc : Thread Cert.AttnRefIdeal.nD Cert.AttnRefIdeal.τ).loc Cert.AttnRefIdeal.main_arg5) : Vec Ideal Cert.AttnRefIdeal.S1024x2816 .f32) Cert.AttnRefIdeal.Gen.bitsLt_bf16_f32 : FVec Ideal Cert.AttnRefIdeal.S1024x2816 .bf16)
      ∧ r.2.mem ((c.tc : Thread Cert.AttnRefIdeal.nD Cert.AttnRefIdeal.τ).loc Cert.AttnRefIdeal.main_v26) = (truncf .bf16 (m ((c.tc : Thread Cert.AttnRefIdeal.nD Cert.AttnRefIdeal.τ).loc Cert.AttnRefIdeal.main_arg6) : Vec Ideal Cert.AttnRefIdeal.S2816x1024 .f32) Cert.AttnRefIdeal.Gen.bitsLt_bf16_f32 : FVec Ideal Cert.AttnRefIdeal.S2816x1024 .bf16)
      ∧ r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)) :=
  (θ_run Cert.AttnRefIdeal.defs _ _).mono (fun r h c => ⟨(h c).1.trans rfl, (h c).2⟩) (Cert.AttnRefIdeal.Value.run (F := Ideal) m g)

/-- The kernel's results are the reference's, where the queries and the keys hold no infinity. -/
theorem algebraic : Cert.algebraic_AttnIdeal_AttnRefIdeal_pre_finite := by
  intro m g m' g' hpre hag
  refine ⟨_, _, _, _, _, (θ_run Cert.AttnIdeal.defs _ _).mono (fun r h => h) (AttnIdeal.run_value m g),
    (θ_run Cert.AttnRefIdeal.defs _ _).mono (fun r h c => ?_) (reference_run m' g')⟩
  obtain ⟨a0, a1, a2, a3, a4, a5, a6⟩ := hag c
  obtain ⟨h0, h1, h2, h3, h4, hr⟩ := h c
  rw [a0, a1, a2] at h0
  rw [a3] at h1
  rw [a4] at h2
  rw [a5] at h3
  rw [a6] at h4
  obtain ⟨hq, hk⟩ := AttnIdeal.real_of_pre _ _ _ _ _ _ _ (hpre c).1 (hpre c).2
  refine ⟨h0.trans ?_, h1, h2, h3, h4, hr⟩
  exact (AttnIdeal.attention_eq m c hq hk).symm

/-- The second kernel's result is its reference's, whatever the arguments hold. -/
theorem mix_algebraic : Cert.algebraic_MixIdeal_MixRefIdeal := by
  intro m g m' g' _ hag
  refine ⟨_, (θ_run Cert.MixIdeal.defs _ _).mono (fun r h => h) (MixIdeal.run_value m g),
    (θ_run Cert.MixRefIdeal.defs _ _).mono (fun r h c => ?_) (MixRefIdeal.run_value m' g')⟩
  obtain ⟨a0, a1, a2, a3, a4, a5, a6, a7, a8, a9, a10⟩ := hag c
  obtain ⟨h0, hr⟩ := h c
  rw [a0, a1, a2, a3, a4, a5, a6, a7, a8, a9, a10] at h0
  exact ⟨h0, hr⟩

/-- The claims of this certificate. -/
theorem claim : Cert.Claim := ⟨Cert.Attn.Gen.facts, Cert.AttnIdeal.Gen.facts, Cert.AttnRefIdeal.Gen.facts,
  Cert.Mix.Gen.facts, Cert.MixIdeal.Gen.facts, Cert.MixRefIdeal.Gen.facts, AttnIdeal.finiteFacts,
  fun m ρ _ => Cert.Proof.Attn.quiescent m ρ, fun m ρ _ => Cert.Proof.AttnIdeal.quiescent m ρ, fun m ρ _ => Cert.Proof.AttnIdeal.quiescent m ρ,
  reference_quiescent, fun m ρ _ => reference_quiescent m ρ trivial,
  fun m ρ _ => Cert.Proof.Mix.quiescent m ρ, fun m ρ _ => Cert.Proof.MixIdeal.quiescent m ρ, mix_reference_quiescent,
  trivial, algebraic, trivial, mix_algebraic⟩

end Cert.Proof

end
